-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_experts_named : Cert.Pre_experts_named.Facts] (m : (ℓ : Loc Cert.Kernel4.nD Cert.Kernel4.τ Cert.Kernel4.sig) → Buf (Elt Bits) ℓ) : Prop :=
  ∀ c : Dev Cert.Kernel4.nD,
    (Cert.Pre_experts_named.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6))) = (fun _ => 1#1)

def Pre_Kernel4Ideal [hPre_experts_named : Cert.Pre_experts_named.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_experts_named.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_experts_named [hPre_experts_named : Cert.Pre_experts_named.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_experts_named.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] [hPre_experts_named : Cert.Pre_experts_named.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] [hPre_experts_named : Cert.Pre_experts_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_experts_named [hReference4Ideal : Cert.Reference4Ideal.Facts] [hPre_experts_named : Cert.Pre_experts_named.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_experts_named m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.bf16_pack.Statement Cert.KernelIdeal.S256x128

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)) (v3 : (c : Dev Cert.Kernel2Ideal.nD) → Buf (Elt Ideal) ((c.tc : Thread Cert.Kernel2Ideal.nD Cert.Kernel2Ideal.τ).loc Cert.Kernel2Ideal.main_v10_3)) (v4 : (c : Dev Cert.Kernel2Ideal.nD) → Buf (Elt Ideal) ((c.tc : Thread Cert.Kernel2Ideal.nD Cert.Kernel2Ideal.τ).loc Cert.Kernel2Ideal.main_v10_4)) (v5 : (c : Dev Cert.Kernel2Ideal.nD) → Buf (Elt Ideal) ((c.tc : Thread Cert.Kernel2Ideal.nD Cert.Kernel2Ideal.τ).loc Cert.Kernel2Ideal.main_v10_5)) (v6 : (c : Dev Cert.Kernel2Ideal.nD) → Buf (Elt Ideal) ((c.tc : Thread Cert.Kernel2Ideal.nD Cert.Kernel2Ideal.τ).loc Cert.Kernel2Ideal.main_v10_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_v10_3) = v3 c
          ∧ r.2.mem ((c.tc : Thread Cert.Kernel2Ideal.nD Cert.Kernel2Ideal.τ).loc Cert.Kernel2Ideal.main_v10_4) = v4 c
          ∧ r.2.mem ((c.tc : Thread Cert.Kernel2Ideal.nD Cert.Kernel2Ideal.τ).loc Cert.Kernel2Ideal.main_v10_5) = v5 c
          ∧ r.2.mem ((c.tc : Thread Cert.Kernel2Ideal.nD Cert.Kernel2Ideal.τ).loc Cert.Kernel2Ideal.main_v10_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v14) = v1 c
          ∧ r.2.mem ((c.tc : Thread Cert.Reference2Ideal.nD Cert.Reference2Ideal.τ).loc Cert.Reference2Ideal.main_v15) = v2 c
          ∧ r.2.mem ((c.tc : Thread Cert.Reference2Ideal.nD Cert.Reference2Ideal.τ).loc Cert.Reference2Ideal.main_v16) = v3 c
          ∧ r.2.mem ((c.tc : Thread Cert.Reference2Ideal.nD Cert.Reference2Ideal.τ).loc Cert.Reference2Ideal.main_v17) = v4 c
          ∧ r.2.mem ((c.tc : Thread Cert.Reference2Ideal.nD Cert.Reference2Ideal.τ).loc Cert.Reference2Ideal.main_v19) = v5 c
          ∧ r.2.mem ((c.tc : Thread Cert.Reference2Ideal.nD Cert.Reference2Ideal.τ).loc Cert.Reference2Ideal.main_v21) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)) (v3 : (c : Dev Cert.Kernel3Ideal.nD) → Buf (Elt Ideal) ((c.tc : Thread Cert.Kernel3Ideal.nD Cert.Kernel3Ideal.τ).loc Cert.Kernel3Ideal.main_v3_3)) (v4 : (c : Dev Cert.Kernel3Ideal.nD) → Buf (Elt Ideal) ((c.tc : Thread Cert.Kernel3Ideal.nD Cert.Kernel3Ideal.τ).loc Cert.Kernel3Ideal.main_v3_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_v3_3) = v3 c
          ∧ r.2.mem ((c.tc : Thread Cert.Kernel3Ideal.nD Cert.Kernel3Ideal.τ).loc Cert.Kernel3Ideal.main_v3_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_v14) = v1 c
          ∧ r.2.mem ((c.tc : Thread Cert.Reference3Ideal.nD Cert.Reference3Ideal.τ).loc Cert.Reference3Ideal.main_v15) = v2 c
          ∧ r.2.mem ((c.tc : Thread Cert.Reference3Ideal.nD Cert.Reference3Ideal.τ).loc Cert.Reference3Ideal.main_v16) = v3 c
          ∧ r.2.mem ((c.tc : Thread Cert.Reference3Ideal.nD Cert.Reference3Ideal.τ).loc Cert.Reference3Ideal.main_v17) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] [hPre_experts_named : Cert.Pre_experts_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v57) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_experts_named : Cert.Pre_experts_named.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_experts_named := hPre_experts_named)
    ∧ quiescent_Kernel4Ideal (hKernel4Ideal := hKernel4Ideal) (hPre_experts_named := hPre_experts_named)
    ∧ quiescent_Reference4Ideal (hReference4Ideal := hReference4Ideal)
    ∧ quiescent_Reference4Ideal_pre_experts_named (hReference4Ideal := hReference4Ideal) (hPre_experts_named := hPre_experts_named)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_experts_named := hPre_experts_named)
-- ==== Pre_experts_named.lean ====
abbrev S74752x1024 : Shape := ⟨2, ![74752, 1024]⟩
abbrev S292 : Shape := ⟨1, ![292]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S292 : S_.BroadcastsInDim S292 (![] : Fin 0 → Fin S292.rank)

variable [Facts]

def fn {F : FTy → Type} [FloatOps F] (main_arg0 : FVec F S74752x1024 .f32) (main_arg1 : IVec S292 32) (main_arg2 : IVec S1 32) (main_arg3 : FVec F S32x1024x2048 .f32) (main_arg4 : FVec F S32x1x2048 .f32) (main_arg5 : FVec F S32x1024x1024 .f32) (main_arg6 : FVec F S32x1x1024 .f32) : IVec S292 1 :=
  let main_c : IVec S_ 32 := constantI S_ 32 0#32
  let main_v0 : IVec S292 32 := broadcastInDim S292 ![] bcast_S_S292 main_c
  let main_v1 : IVec S292 1 := cmpi .sge main_arg1 main_v0
  let main_c_0 : IVec S_ 32 := constantI S_ 32 32#32
  let main_v2 : IVec S292 32 := broadcastInDim S292 ![] bcast_S_S292 main_c_0
  let main_v3 : IVec S292 1 := cmpi .slt main_arg1 main_v2
  let main_v4 : IVec S292 1 := andi main_v1 main_v3
  main_v4
-- ==== Pre_finite.lean ====
abbrev S16384x1024 : Shape := ⟨2, ![16384, 1024]⟩
abbrev S8x1536x2048 : Shape := ⟨3, ![8, 1536, 2048]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  bcast_S_S8x1536x2048 : S_.BroadcastsInDim S8x1536x2048 (![] : Fin 0 → Fin S8x1536x2048.rank)

variable [Facts]

def fn {F : FTy → Type} [FloatOps F] (main_arg0 : FVec F S16384x1024 .bf16) (main_arg1 : FVec F S8x1536x2048 .bf16) : IVec S16384x1024 1 × IVec S8x1536x2048 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S8x1536x2048 .f32 := (extf .f32 · bitsLt_bf16_f32) main_arg1
  let main_v5 : FVec F S8x1536x2048 .f32 := Host.absf main_v4
  let main_cst_0 : FVec F S_ .f32 := constant S_ .f32 0x7F800000#32
  let main_v6 : FVec F S8x1536x2048 .f32 := broadcastInDim S8x1536x2048 ![] bcast_S_S8x1536x2048 main_cst_0
  let main_v7 : IVec S8x1536x2048 1 := cmpf .olt main_v5 main_v6
  (main_v3, main_v7)
-- ==== Kernel.lean ====
abbrev S16384x1024 : Shape := ⟨2, ![16384, 1024]⟩
abbrev S8x1536x2048 : Shape := ⟨3, ![8, 1536, 2048]⟩
abbrev S16384x512 : Shape := ⟨2, ![16384, 512]⟩
abbrev S128x512 : Shape := ⟨2, ![128, 512]⟩
abbrev S1x512x2048 : Shape := ⟨3, ![1, 512, 2048]⟩
abbrev S4x256x128 : Shape := ⟨3, ![4, 256, 128]⟩
abbrev S128x256 : Shape := ⟨2, ![128, 256]⟩
abbrev S256x256 : Shape := ⟨2, ![256, 256]⟩
abbrev S128x128 : Shape := ⟨2, ![128, 128]⟩
abbrev S256x128 : Shape := ⟨2, ![256, 128]⟩
abbrev S1x256x128 : Shape := ⟨3, ![1, 256, 128]⟩
abbrev S1x128x128 : Shape := ⟨3, ![1, 128, 128]⟩

abbrev nBuf : Space → Nat
  | .hbm => 3
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S8x1536x2048, .bf16⟩
  | .hbm, ⟨2, _⟩ => ⟨S16384x512, .bf16⟩
  | .local _ .vmem, ⟨0, _⟩ => ⟨S128x512, .bf16⟩
  | .local _ .vmem, ⟨1, _⟩ => ⟨S128x512, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S128x512, .bf16⟩
  | .local _ .vmem, ⟨7, _⟩ => ⟨S128x512, .bf16⟩
  | .local _ .vmem, ⟨8, _⟩ => ⟨S4x256x128, .bf16⟩
  | .local _ .vmem, ⟨9, _⟩ => ⟨S4x256x128, .f32⟩
  | .local _ .vmem, ⟨10, _⟩ => ⟨S4x256x128, .bf16⟩
  | .local _ .vmem, ⟨11, _⟩ => ⟨S4x256x128, .f32⟩
  | .local _ .vmem, ⟨12, _⟩ => ⟨S4x256x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨2, ![8, 16], ![false, false]⟩

def k0_mult1 (i : grid0.Coords) : BitVec 32 :=
  let arg1 : BitVec 32 := BitVec.ofNat 32 (i 1).val
  let c0_i32 : BitVec 32 := 0#32
  let v67 : BitVec 32 := Scalar.subi arg1 c0_i32
  let c128_i32_25 : BitVec 32 := 128#32
  let v68 : BitVec 32 := Scalar.muli v67 c128_i32_25
  v68
def k0_off1 (i : grid0.Coords) : Fin 3 → Nat :=
  let c0_29 : Index := 0#32
  let c0_30 : Index := 0#32
  let arg1 : BitVec 32 := BitVec.ofNat 32 (i 1).val
  let c0_i32 : BitVec 32 := 0#32
  let v67 : BitVec 32 := Scalar.subi arg1 c0_i32
  let c128_i32_25 : BitVec 32 := 128#32
  let v68 : BitVec 32 := Scalar.muli v67 c128_i32_25
  let v69 : BitVec 32 := v68
  let v72 : Index := Scalar.indexCast v69
  ![0, 0, v72.toNat]
def k0_off2 (i : grid0.Coords) : Fin 3 → Nat :=
  let c0_35 : Index := 0#32
  let c128_36 : Index := 128#32
  let arg1 : BitVec 32 := BitVec.ofNat 32 (i 1).val
  let c0_i32 : BitVec 32 := 0#32
  let v67 : BitVec 32 := Scalar.subi arg1 c0_i32
  let c128_i32_25 : BitVec 32 := 128#32
  let v68 : BitVec 32 := Scalar.muli v67 c128_i32_25
  let v69 : BitVec 32 := v68
  let v78 : Index := Scalar.indexCast v69
  ![0, 128, v78.toNat]
def k0_off3 (i : grid0.Coords) : Fin 3 → Nat :=
  let c0_41 : Index := 0#32
  let c256_42 : Index := 256#32
  let arg1 : BitVec 32 := BitVec.ofNat 32 (i 1).val
  let c0_i32 : BitVec 32 := 0#32
  let v67 : BitVec 32 := Scalar.subi arg1 c0_i32
  let c128_i32_25 : BitVec 32 := 128#32
  let v68 : BitVec 32 := Scalar.muli v67 c128_i32_25
  let v69 : BitVec 32 := v68
  let v84 : Index := Scalar.indexCast v69
  ![0, 256, v84.toNat]
def k0_off4 (i : grid0.Coords) : Fin 3 → Nat :=
  let c0_47 : Index := 0#32
  let c384_48 : Index := 384#32
  let arg1 : BitVec 32 := BitVec.ofNat 32 (i 1).val
  let c0_i32 : BitVec 32 := 0#32
  let v67 : BitVec 32 := Scalar.subi arg1 c0_i32
  let c128_i32_25 : BitVec 32 := 128#32
  let v68 : BitVec 32 := Scalar.muli v67 c128_i32_25
  let v69 : BitVec 32 := v68
  let v90 : Index := Scalar.indexCast v69
  ![0, 384, v90.toNat]
def k0_mult2 (i : grid0.Coords) : BitVec 32 :=
  let arg1 : BitVec 32 := BitVec.ofNat 32 (i 1).val
  let c1_i32 : BitVec 32 := 1#32
  let v94 : BitVec 32 := Scalar.minsi c1_i32 arg1
  let v95 : BitVec 32 := Scalar.subi arg1 v94
  let c128_i32_50 : BitVec 32 := 128#32
  let v96 : BitVec 32 := Scalar.muli v95 c128_i32_50
  v96
def k0_off5 (i : grid0.Coords) : Fin 3 → Nat :=
  let c0_54 : Index := 0#32
  let c0_55 : Index := 0#32
  let arg1 : BitVec 32 := BitVec.ofNat 32 (i 1).val
  let c1_i32 : BitVec 32 := 1#32
  let v94 : BitVec 32 := Scalar.minsi c1_i32 arg1
  let v95 : BitVec 32 := Scalar.subi arg1 v94
  let c128_i32_50 : BitVec 32 := 128#32
  let v96 : BitVec 32 := Scalar.muli v95 c128_i32_50
  let v97 : BitVec 32 := v96
  let v100 : Index := Scalar.indexCast v97
  ![0, 0, v100.toNat]
def k0_off6 (i : grid0.Coords) : Fin 3 → Nat :=
  let c0_60 : Index := 0#32
  let c128_61 : Index := 128#32
  let arg1 : BitVec 32 := BitVec.ofNat 32 (i 1).val
  let c1_i32 : BitVec 32 := 1#32
  let v94 : BitVec 32 := Scalar.minsi c1_i32 arg1
  let v95 : BitVec 32 := Scalar.subi arg1 v94
  let c128_i32_50 : BitVec 32 := 128#32
  let v96 : BitVec 32 := Scalar.muli v95 c128_i32_50
  let v97 : BitVec 32 := v96
  let v106 : Index := Scalar.indexCast v97
  ![0, 128, v106.toNat]
def k0_off7 (i : grid0.Coords) : Fin 3 → Nat :=
  let c0_66 : Index := 0#32
  let c256_67 : Index := 256#32
  let arg1 : BitVec 32 := BitVec.ofNat 32 (i 1).val
  let c1_i32 : BitVec 32 := 1#32
  let v94 : BitVec 32 := Scalar.minsi c1_i32 arg1
  let v95 : BitVec 32 := Scalar.subi arg1 v94
  let c128_i32_50 : BitVec 32 := 128#32
  let v96 : BitVec 32 := Scalar.muli v95 c128_i32_50
  let v97 : BitVec 32 := v96
  let v112 : Index := Scalar.indexCast v97
  ![0, 256, v112.toNat]
def k0_off8 (i : grid0.Coords) : Fin 3 → Nat :=
  let c0_72 : Index := 0#32
  let c384_73 : Index := 384#32
  let arg1 : BitVec 32 := BitVec.ofNat 32 (i 1).val
  let c1_i32 : BitVec 32 := 1#32
  let v94 : BitVec 32 := Scalar.minsi c1_i32 arg1
  let v95 : BitVec 32 := Scalar.subi arg1 v94
  let c128_i32_50 : BitVec 32 := 128#32
  let v96 : BitVec 32 := Scalar.muli v95 c128_i32_50
  let v97 : BitVec 32 := v96
  let v118 : Index := Scalar.indexCast v97
  ![0, 384, v118.toNat]
@[reducible] def k0_t1_loop (i : grid0.Coords) : Scf.Loop 32 :=
  let c1_i32_160 : BitVec 32 := 1#32
  let arg1 : BitVec 32 := BitVec.ofNat 32 (i 1).val
  let c1_i32_158 : BitVec 32 := 1#32
  let v303 : BitVec 32 := Scalar.addi arg1 c1_i32_158
  let v304 : BitVec 32 := Scalar.subi v303 c1_i32_160
  let c1_i32_161 : BitVec 32 := 1#32
  let v306 : BitVec 32 := Scalar.divsi v304 c1_i32_161
  let v307 : BitVec 32 := Scalar.muli v306 c1_i32_161
  let v308 : BitVec 32 := Scalar.addi c1_i32_160 v307
  let c1_i32_162 : BitVec 32 := 1#32
  ⟨c1_i32_160, v308, c1_i32_162⟩
def k0_mult3 (i : grid0.Coords) (k0_t1 : Fin (k0_t1_loop i).trips) : BitVec 32 :=
  let arg1 : BitVec 32 := BitVec.ofNat 32 (i 1).val
  let c1_i32_160 : BitVec 32 := 1#32
  let c1_i32_162 : BitVec 32 := 1#32
  let arg11 : BitVec 32 := Scf.iv c1_i32_160 c1_i32_162 k0_t1
  let c1_i32_225 : BitVec 32 := 1#32
  let v385 : BitVec 32 := Scalar.addi arg11 c1_i32_225
  let v386 : BitVec 32 := Scalar.minsi v385 arg1
  let v387 : BitVec 32 := Scalar.subi arg1 v386
  let c128_i32_226 : BitVec 32 := 128#32
  let v388 : BitVec 32 := Scalar.muli v387 c128_i32_226
  v388
def k0_off9 (i : grid0.Coords) (k0_t1 : Fin (k0_t1_loop i).trips) : Fin 3 → Nat :=
  let c0_230 : Index := 0#32
  let c0_231 : Index := 0#32
  let arg1 : BitVec 32 := BitVec.ofNat 32 (i 1).val
  let c1_i32_160 : BitVec 32 := 1#32
  let c1_i32_162 : BitVec 32 := 1#32
  let arg11 : BitVec 32 := Scf.iv c1_i32_160 c1_i32_162 k0_t1
  let c1_i32_225 : BitVec 32 := 1#32
  let v385 : BitVec 32 := Scalar.addi arg11 c1_i32_225
  let v386 : BitVec 32 := Scalar.minsi v385 arg1
  let v387 : BitVec 32 := Scalar.subi arg1 v386
  let c128_i32_226 : BitVec 32 := 128#32
  let v388 : BitVec 32 := Scalar.muli v387 c128_i32_226
  let v389 : BitVec 32 := v388
  let v392 : Index := Scalar.indexCast v389
  ![0, 0, v392.toNat]
def k0_off10 (i : grid0.Coords) (k0_t1 : Fin (k0_t1_loop i).trips) : Fin 3 → Nat :=
  let c0_236 : Index := 0#32
  let c128_237 : Index := 128#32
  let arg1 : BitVec 32 := BitVec.ofNat 32 (i 1).val
  let c1_i32_160 : BitVec 32 := 1#32
  let c1_i32_162 : BitVec 32 := 1#32
  let arg11 : BitVec 32 := Scf.iv c1_i32_160 c1_i32_162 k0_t1
  let c1_i32_225 : BitVec 32 := 1#32
  let v385 : BitVec 32 := Scalar.addi arg11 c1_i32_225
  let v386 : BitVec 32 := Scalar.minsi v385 arg1
  let v387 : BitVec 32 := Scalar.subi arg1 v386
  let c128_i32_226 : BitVec 32 := 128#32
  let v388 : BitVec 32 := Scalar.muli v387 c128_i32_226
  let v389 : BitVec 32 := v388
  let v398 : Index := Scalar.indexCast v389
  ![0, 128, v398.toNat]
def k0_off11 (i : grid0.Coords) (k0_t1 : Fin (k0_t1_loop i).trips) : Fin 3 → Nat :=
  let c0_242 : Index := 0#32
  let c256_243 : Index := 256#32
  let arg1 : BitVec 32 := BitVec.ofNat 32 (i 1).val
  let c1_i32_160 : BitVec 32 := 1#32
  let c1_i32_162 : BitVec 32 := 1#32
  let arg11 : BitVec 32 := Scf.iv c1_i32_160 c1_i32_162 k0_t1
  let c1_i32_225 : BitVec 32 := 1#32
  let v385 : BitVec 32 := Scalar.addi arg11 c1_i32_225
  let v386 : BitVec 32 := Scalar.minsi v385 arg1
  let v387 : BitVec 32 := Scalar.subi arg1 v386
  let c128_i32_226 : BitVec 32 := 128#32
  let v388 : BitVec 32 := Scalar.muli v387 c128_i32_226
  let v389 : BitVec 32 := v388
  let v404 : Index := Scalar.indexCast v389
  ![0, 256, v404.toNat]
def k0_off12 (i : grid0.Coords) (k0_t1 : Fin (k0_t1_loop i).trips) : Fin 3 → Nat :=
  let c0_248 : Index := 0#32
  let c384_249 : Index := 384#32
  let arg1 : BitVec 32 := BitVec.ofNat 32 (i 1).val
  let c1_i32_160 : BitVec 32 := 1#32
  let c1_i32_162 : BitVec 32 := 1#32
  let arg11 : BitVec 32 := Scf.iv c1_i32_160 c1_i32_162 k0_t1
  let c1_i32_225 : BitVec 32 := 1#32
  let v385 : BitVec 32 := Scalar.addi arg11 c1_i32_225
  let v386 : BitVec 32 := Scalar.minsi v385 arg1
  let v387 : BitVec 32 := Scalar.subi arg1 v386
  let c128_i32_226 : BitVec 32 := 128#32
  let v388 : BitVec 32 := Scalar.muli v387 c128_i32_226
  let v389 : BitVec 32 := v388
  let v410 : Index := Scalar.indexCast v389
  ![0, 384, v410.toNat]
def k0_mult4 (i : grid0.Coords) (k0_t1 : Fin (k0_t1_loop i).trips) : BitVec 32 :=
  let arg1 : BitVec 32 := BitVec.ofNat 32 (i 1).val
  let c1_i32_160 : BitVec 32 := 1#32
  let c1_i32_162 : BitVec 32 := 1#32
  let arg11 : BitVec 32 := Scf.iv c1_i32_160 c1_i32_162 k0_t1
  let c1_i32_251 : BitVec 32 := 1#32
  let v414 : BitVec 32 := Scalar.subi arg11 c1_i32_251
  let v415 : BitVec 32 := Scalar.subi arg1 v414
  let c128_i32_252 : BitVec 32 := 128#32
  let v416 : BitVec 32 := Scalar.muli v415 c128_i32_252
  v416
def k0_off13 (i : grid0.Coords) (k0_t1 : Fin (k0_t1_loop i).trips) : Fin 3 → Nat :=
  let c0_256 : Index := 0#32
  let c0_257 : Index := 0#32
  let arg1 : BitVec 32 := BitVec.ofNat 32 (i 1).val
  let c1_i32_160 : BitVec 32 := 1#32
  let c1_i32_162 : BitVec 32 := 1#32
  let arg11 : BitVec 32 := Scf.iv c1_i32_160 c1_i32_162 k0_t1
  let c1_i32_251 : BitVec 32 := 1#32
  let v414 : BitVec 32 := Scalar.subi arg11 c1_i32_251
  let v415 : BitVec 32 := Scalar.subi arg1 v414
  let c128_i32_252 : BitVec 32 := 128#32
  let v416 : BitVec 32 := Scalar.muli v415 c128_i32_252
  let v417 : BitVec 32 := v416
  let v420 : Index := Scalar.indexCast v417
  ![0, 0, v420.toNat]
def k0_off14 (i : grid0.Coords) (k0_t1 : Fin (k0_t1_loop i).trips) : Fin 3 → Nat :=
  let c0_262 : Index := 0#32
  let c128_263 : Index := 128#32
  let arg1 : BitVec 32 := BitVec.ofNat 32 (i 1).val
  let c1_i32_160 : BitVec 32 := 1#32
  let c1_i32_162 : BitVec 32 := 1#32
  let arg11 : BitVec 32 := Scf.iv c1_i32_160 c1_i32_162 k0_t1
  let c1_i32_251 : BitVec 32 := 1#32
  let v414 : BitVec 32 := Scalar.subi arg11 c1_i32_251
  let v415 : BitVec 32 := Scalar.subi arg1 v414
  let c128_i32_252 : BitVec 32 := 128#32
  let v416 : BitVec 32 := Scalar.muli v415 c128_i32_252
  let v417 : BitVec 32 := v416
  let v426 : Index := Scalar.indexCast v417
  ![0, 128, v426.toNat]
def k0_off15 (i : grid0.Coords) (k0_t1 : Fin (k0_t1_loop i).trips) : Fin 3 → Nat :=
  let c0_268 : Index := 0#32
  let c256_269 : Index := 256#32
  let arg1 : BitVec 32 := BitVec.ofNat 32 (i 1).val
  let c1_i32_160 : BitVec 32 := 1#32
  let c1_i32_162 : BitVec 32 := 1#32
  let arg11 : BitVec 32 := Scf.iv c1_i32_160 c1_i32_162 k0_t1
  let c1_i32_251 : BitVec 32 := 1#32
  let v414 : BitVec 32 := Scalar.subi arg11 c1_i32_251
  let v415 : BitVec 32 := Scalar.subi arg1 v414
  let c128_i32_252 : BitVec 32 := 128#32
  let v416 : BitVec 32 := Scalar.muli v415 c128_i32_252
  let v417 : BitVec 32 := v416
  let v432 : Index := Scalar.indexCast v417
  ![0, 256, v432.toNat]
def k0_off16 (i : grid0.Coords) (k0_t1 : Fin (k0_t1_loop i).trips) : Fin 3 → Nat :=
  let c0_274 : Index := 0#32
  let c384_275 : Index := 384#32
  let arg1 : BitVec 32 := BitVec.ofNat 32 (i 1).val
  let c1_i32_160 : BitVec 32 := 1#32
  let c1_i32_162 : BitVec 32 := 1#32
  let arg11 : BitVec 32 := Scf.iv c1_i32_160 c1_i32_162 k0_t1
  let c1_i32_251 : BitVec 32 := 1#32
  let v414 : BitVec 32 := Scalar.subi arg11 c1_i32_251
  let v415 : BitVec 32 := Scalar.subi arg1 v414
  let c128_i32_252 : BitVec 32 := 128#32
  let v416 : BitVec 32 := Scalar.muli v415 c128_i32_252
  let v417 : BitVec 32 := v416
  let v438 : Index := Scalar.indexCast v417
  ![0, 384, v438.toNat]
@[reducible] def k0_t2_loop (i : grid0.Coords) : Scf.Loop 32 :=
  let c1_i32_160 : BitVec 32 := 1#32
  let arg1 : BitVec 32 := BitVec.ofNat 32 (i 1).val
  let c1_i32_158 : BitVec 32 := 1#32
  let v303 : BitVec 32 := Scalar.addi arg1 c1_i32_158
  let v304 : BitVec 32 := Scalar.subi v303 c1_i32_160
  let c1_i32_161 : BitVec 32 := 1#32
  let v306 : BitVec 32 := Scalar.divsi v304 c1_i32_161
  let v307 : BitVec 32 := Scalar.muli v306 c1_i32_161
  let v308 : BitVec 32 := Scalar.addi c1_i32_160 v307
  let v305 : BitVec 32 := Scalar.addi c1_i32_160 v304
  let c1_i32_163 : BitVec 32 := 1#32
  ⟨v308, v305, c1_i32_163⟩
def k0_mult5 (i : grid0.Coords) (k0_t2 : Fin (k0_t2_loop i).trips) : BitVec 32 :=
  let arg1 : BitVec 32 := BitVec.ofNat 32 (i 1).val
  let c1_i32_160 : BitVec 32 := 1#32
  let c1_i32_158 : BitVec 32 := 1#32
  let v303 : BitVec 32 := Scalar.addi arg1 c1_i32_158
  let v304 : BitVec 32 := Scalar.subi v303 c1_i32_160
  let c1_i32_161 : BitVec 32 := 1#32
  let v306 : BitVec 32 := Scalar.divsi v304 c1_i32_161
  let v307 : BitVec 32 := Scalar.muli v306 c1_i32_161
  let v308 : BitVec 32 := Scalar.addi c1_i32_160 v307
  let c1_i32_163 : BitVec 32 := 1#32
  let arg11 : BitVec 32 := Scf.iv v308 c1_i32_163 k0_t2
  let c1_i32_225 : BitVec 32 := 1#32
  let v385 : BitVec 32 := Scalar.addi arg11 c1_i32_225
  let v386 : BitVec 32 := Scalar.minsi v385 arg1
  let v387 : BitVec 32 := Scalar.subi arg1 v386
  let c128_i32_226 : BitVec 32 := 128#32
  let v388 : BitVec 32 := Scalar.muli v387 c128_i32_226
  v388
def k0_off17 (i : grid0.Coords) (k0_t2 : Fin (k0_t2_loop i).trips) : Fin 3 → Nat :=
  let c0_230 : Index := 0#32
  let c0_231 : Index := 0#32
  let arg1 : BitVec 32 := BitVec.ofNat 32 (i 1).val
  let c1_i32_160 : BitVec 32 := 1#32
  let c1_i32_158 : BitVec 32 := 1#32
  let v303 : BitVec 32 := Scalar.addi arg1 c1_i32_158
  let v304 : BitVec 32 := Scalar.subi v303 c1_i32_160
  let c1_i32_161 : BitVec 32 := 1#32
  let v306 : BitVec 32 := Scalar.divsi v304 c1_i32_161
  let v307 : BitVec 32 := Scalar.muli v306 c1_i32_161
  let v308 : BitVec 32 := Scalar.addi c1_i32_160 v307
  let c1_i32_163 : BitVec 32 := 1#32
  let arg11 : BitVec 32 := Scf.iv v308 c1_i32_163 k0_t2
  let c1_i32_225 : BitVec 32 := 1#32
  let v385 : BitVec 32 := Scalar.addi arg11 c1_i32_225
  let v386 : BitVec 32 := Scalar.minsi v385 arg1
  let v387 : BitVec 32 := Scalar.subi arg1 v386
  let c128_i32_226 : BitVec 32 := 128#32
  let v388 : BitVec 32 := Scalar.muli v387 c128_i32_226
  let v389 : BitVec 32 := v388
  let v392 : Index := Scalar.indexCast v389
  ![0, 0, v392.toNat]
def k0_off18 (i : grid0.Coords) (k0_t2 : Fin (k0_t2_loop i).trips) : Fin 3 → Nat :=
  let c0_236 : Index := 0#32
  let c128_237 : Index := 128#32
  let arg1 : BitVec 32 := BitVec.ofNat 32 (i 1).val
  let c1_i32_160 : BitVec 32 := 1#32
  let c1_i32_158 : BitVec 32 := 1#32
  let v303 : BitVec 32 := Scalar.addi arg1 c1_i32_158
  let v304 : BitVec 32 := Scalar.subi v303 c1_i32_160
  let c1_i32_161 : BitVec 32 := 1#32
  let v306 : BitVec 32 := Scalar.divsi v304 c1_i32_161
  let v307 : BitVec 32 := Scalar.muli v306 c1_i32_161
  let v308 : BitVec 32 := Scalar.addi c1_i32_160 v307
  let c1_i32_163 : BitVec 32 := 1#32
  let arg11 : BitVec 32 := Scf.iv v308 c1_i32_163 k0_t2
  let c1_i32_225 : BitVec 32 := 1#32
  let v385 : BitVec 32 := Scalar.addi arg11 c1_i32_225
  let v386 : BitVec 32 := Scalar.minsi v385 arg1
  let v387 : BitVec 32 := Scalar.subi arg1 v386
  let c128_i32_226 : BitVec 32 := 128#32
  let v388 : BitVec 32 := Scalar.muli v387 c128_i32_226
  let v389 : BitVec 32 := v388
  let v398 : Index := Scalar.indexCast v389
  ![0, 128, v398.toNat]
def k0_off19 (i : grid0.Coords) (k0_t2 : Fin (k0_t2_loop i).trips) : Fin 3 → Nat :=
  let c0_242 : Index := 0#32
  let c256_243 : Index := 256#32
  let arg1 : BitVec 32 := BitVec.ofNat 32 (i 1).val
  let c1_i32_160 : BitVec 32 := 1#32
  let c1_i32_158 : BitVec 32 := 1#32
  let v303 : BitVec 32 := Scalar.addi arg1 c1_i32_158
  let v304 : BitVec 32 := Scalar.subi v303 c1_i32_160
  let c1_i32_161 : BitVec 32 := 1#32
  let v306 : BitVec 32 := Scalar.divsi v304 c1_i32_161
  let v307 : BitVec 32 := Scalar.muli v306 c1_i32_161
  let v308 : BitVec 32 := Scalar.addi c1_i32_160 v307
  let c1_i32_163 : BitVec 32 := 1#32
  let arg11 : BitVec 32 := Scf.iv v308 c1_i32_163 k0_t2
  let c1_i32_225 : BitVec 32 := 1#32
  let v385 : BitVec 32 := Scalar.addi arg11 c1_i32_225
  let v386 : BitVec 32 := Scalar.minsi v385 arg1
  let v387 : BitVec 32 := Scalar.subi arg1 v386
  let c128_i32_226 : BitVec 32 := 128#32
  let v388 : BitVec 32 := Scalar.muli v387 c128_i32_226
  let v389 : BitVec 32 := v388
  let v404 : Index := Scalar.indexCast v389
  ![0, 256, v404.toNat]
def k0_off20 (i : grid0.Coords) (k0_t2 : Fin (k0_t2_loop i).trips) : Fin 3 → Nat :=
  let c0_248 : Index := 0#32
  let c384_249 : Index := 384#32
  let arg1 : BitVec 32 := BitVec.ofNat 32 (i 1).val
  let c1_i32_160 : BitVec 32 := 1#32
  let c1_i32_158 : BitVec 32 := 1#32
  let v303 : BitVec 32 := Scalar.addi arg1 c1_i32_158
  let v304 : BitVec 32 := Scalar.subi v303 c1_i32_160
  let c1_i32_161 : BitVec 32 := 1#32
  let v306 : BitVec 32 := Scalar.divsi v304 c1_i32_161
  let v307 : BitVec 32 := Scalar.muli v306 c1_i32_161
  let v308 : BitVec 32 := Scalar.addi c1_i32_160 v307
  let c1_i32_163 : BitVec 32 := 1#32
  let arg11 : BitVec 32 := Scf.iv v308 c1_i32_163 k0_t2
  let c1_i32_225 : BitVec 32 := 1#32
  let v385 : BitVec 32 := Scalar.addi arg11 c1_i32_225
  let v386 : BitVec 32 := Scalar.minsi v385 arg1
  let v387 : BitVec 32 := Scalar.subi arg1 v386
  let c128_i32_226 : BitVec 32 := 128#32
  let v388 : BitVec 32 := Scalar.muli v387 c128_i32_226
  let v389 : BitVec 32 := v388
  let v410 : Index := Scalar.indexCast v389
  ![0, 384, v410.toNat]
def k0_mult6 (i : grid0.Coords) (k0_t2 : Fin (k0_t2_loop i).trips) : BitVec 32 :=
  let arg1 : BitVec 32 := BitVec.ofNat 32 (i 1).val
  let c1_i32_160 : BitVec 32 := 1#32
  let c1_i32_158 : BitVec 32 := 1#32
  let v303 : BitVec 32 := Scalar.addi arg1 c1_i32_158
  let v304 : BitVec 32 := Scalar.subi v303 c1_i32_160
  let c1_i32_161 : BitVec 32 := 1#32
  let v306 : BitVec 32 := Scalar.divsi v304 c1_i32_161
  let v307 : BitVec 32 := Scalar.muli v306 c1_i32_161
  let v308 : BitVec 32 := Scalar.addi c1_i32_160 v307
  let c1_i32_163 : BitVec 32 := 1#32
  let arg11 : BitVec 32 := Scf.iv v308 c1_i32_163 k0_t2
  let c1_i32_251 : BitVec 32 := 1#32
  let v414 : BitVec 32 := Scalar.subi arg11 c1_i32_251
  let v415 : BitVec 32 := Scalar.subi arg1 v414
  let c128_i32_252 : BitVec 32 := 128#32
  let v416 : BitVec 32 := Scalar.muli v415 c128_i32_252
  v416
def k0_off21 (i : grid0.Coords) (k0_t2 : Fin (k0_t2_loop i).trips) : Fin 3 → Nat :=
  let c0_256 : Index := 0#32
  let c0_257 : Index := 0#32
  let arg1 : BitVec 32 := BitVec.ofNat 32 (i 1).val
  let c1_i32_160 : BitVec 32 := 1#32
  let c1_i32_158 : BitVec 32 := 1#32
  let v303 : BitVec 32 := Scalar.addi arg1 c1_i32_158
  let v304 : BitVec 32 := Scalar.subi v303 c1_i32_160
  let c1_i32_161 : BitVec 32 := 1#32
  let v306 : BitVec 32 := Scalar.divsi v304 c1_i32_161
  let v307 : BitVec 32 := Scalar.muli v306 c1_i32_161
  let v308 : BitVec 32 := Scalar.addi c1_i32_160 v307
  let c1_i32_163 : BitVec 32 := 1#32
  let arg11 : BitVec 32 := Scf.iv v308 c1_i32_163 k0_t2
  let c1_i32_251 : BitVec 32 := 1#32
  let v414 : BitVec 32 := Scalar.subi arg11 c1_i32_251
  let v415 : BitVec 32 := Scalar.subi arg1 v414
  let c128_i32_252 : BitVec 32 := 128#32
  let v416 : BitVec 32 := Scalar.muli v415 c128_i32_252
  let v417 : BitVec 32 := v416
  let v420 : Index := Scalar.indexCast v417
  ![0, 0, v420.toNat]
def k0_off22 (i : grid0.Coords) (k0_t2 : Fin (k0_t2_loop i).trips) : Fin 3 → Nat :=
  let c0_262 : Index := 0#32
  let c128_263 : Index := 128#32
  let arg1 : BitVec 32 := BitVec.ofNat 32 (i 1).val
  let c1_i32_160 : BitVec 32 := 1#32
  let c1_i32_158 : BitVec 32 := 1#32
  let v303 : BitVec 32 := Scalar.addi arg1 c1_i32_158
  let v304 : BitVec 32 := Scalar.subi v303 c1_i32_160
  let c1_i32_161 : BitVec 32 := 1#32
  let v306 : BitVec 32 := Scalar.divsi v304 c1_i32_161
  let v307 : BitVec 32 := Scalar.muli v306 c1_i32_161
  let v308 : BitVec 32 := Scalar.addi c1_i32_160 v307
  let c1_i32_163 : BitVec 32 := 1#32
  let arg11 : BitVec 32 := Scf.iv v308 c1_i32_163 k0_t2
  let c1_i32_251 : BitVec 32 := 1#32
  let v414 : BitVec 32 := Scalar.subi arg11 c1_i32_251
  let v415 : BitVec 32 := Scalar.subi arg1 v414
  let c128_i32_252 : BitVec 32 := 128#32
  let v416 : BitVec 32 := Scalar.muli v415 c128_i32_252
  let v417 : BitVec 32 := v416
  let v426 : Index := Scalar.indexCast v417
  ![0, 128, v426.toNat]
def k0_off23 (i : grid0.Coords) (k0_t2 : Fin (k0_t2_loop i).trips) : Fin 3 → Nat :=
  let c0_268 : Index := 0#32
  let c256_269 : Index := 256#32
  let arg1 : BitVec 32 := BitVec.ofNat 32 (i 1).val
  let c1_i32_160 : BitVec 32 := 1#32
  let c1_i32_158 : BitVec 32 := 1#32
  let v303 : BitVec 32 := Scalar.addi arg1 c1_i32_158
  let v304 : BitVec 32 := Scalar.subi v303 c1_i32_160
  let c1_i32_161 : BitVec 32 := 1#32
  let v306 : BitVec 32 := Scalar.divsi v304 c1_i32_161
  let v307 : BitVec 32 := Scalar.muli v306 c1_i32_161
  let v308 : BitVec 32 := Scalar.addi c1_i32_160 v307
  let c1_i32_163 : BitVec 32 := 1#32
  let arg11 : BitVec 32 := Scf.iv v308 c1_i32_163 k0_t2
  let c1_i32_251 : BitVec 32 := 1#32
  let v414 : BitVec 32 := Scalar.subi arg11 c1_i32_251
  let v415 : BitVec 32 := Scalar.subi arg1 v414
  let c128_i32_252 : BitVec 32 := 128#32
  let v416 : BitVec 32 := Scalar.muli v415 c128_i32_252
  let v417 : BitVec 32 := v416
  let v432 : Index := Scalar.indexCast v417
  ![0, 256, v432.toNat]
def k0_off24 (i : grid0.Coords) (k0_t2 : Fin (k0_t2_loop i).trips) : Fin 3 → Nat :=
  let c0_274 : Index := 0#32
  let c384_275 : Index := 384#32
  let arg1 : BitVec 32 := BitVec.ofNat 32 (i 1).val
  let c1_i32_160 : BitVec 32 := 1#32
  let c1_i32_158 : BitVec 32 := 1#32
  let v303 : BitVec 32 := Scalar.addi arg1 c1_i32_158
  let v304 : BitVec 32 := Scalar.subi v303 c1_i32_160
  let c1_i32_161 : BitVec 32 := 1#32
  let v306 : BitVec 32 := Scalar.divsi v304 c1_i32_161
  let v307 : BitVec 32 := Scalar.muli v306 c1_i32_161
  let v308 : BitVec 32 := Scalar.addi c1_i32_160 v307
  let c1_i32_163 : BitVec 32 := 1#32
  let arg11 : BitVec 32 := Scf.iv v308 c1_i32_163 k0_t2
  let c1_i32_251 : BitVec 32 := 1#32
  let v414 : BitVec 32 := Scalar.subi arg11 c1_i32_251
  let v415 : BitVec 32 := Scalar.subi arg1 v414
  let c128_i32_252 : BitVec 32 := 128#32
  let v416 : BitVec 32 := Scalar.muli v415 c128_i32_252
  let v417 : BitVec 32 := v416
  let v438 : Index := Scalar.indexCast v417
  ![0, 384, v438.toNat]
def k0_mult7 (i : grid0.Coords) : BitVec 32 :=
  let arg1 : BitVec 32 := BitVec.ofNat 32 (i 1).val
  let v309 : BitVec 32 := Scalar.subi arg1 arg1
  let c128_i32_164 : BitVec 32 := 128#32
  let v310 : BitVec 32 := Scalar.muli v309 c128_i32_164
  v310
def k0_off25 (i : grid0.Coords) : Fin 3 → Nat :=
  let c0_168 : Index := 0#32
  let c0_169 : Index := 0#32
  let arg1 : BitVec 32 := BitVec.ofNat 32 (i 1).val
  let v309 : BitVec 32 := Scalar.subi arg1 arg1
  let c128_i32_164 : BitVec 32 := 128#32
  let v310 : BitVec 32 := Scalar.muli v309 c128_i32_164
  let v311 : BitVec 32 := v310
  let v314 : Index := Scalar.indexCast v311
  ![0, 0, v314.toNat]
def k0_off26 (i : grid0.Coords) : Fin 3 → Nat :=
  let c0_174 : Index := 0#32
  let c128_175 : Index := 128#32
  let arg1 : BitVec 32 := BitVec.ofNat 32 (i 1).val
  let v309 : BitVec 32 := Scalar.subi arg1 arg1
  let c128_i32_164 : BitVec 32 := 128#32
  let v310 : BitVec 32 := Scalar.muli v309 c128_i32_164
  let v311 : BitVec 32 := v310
  let v320 : Index := Scalar.indexCast v311
  ![0, 128, v320.toNat]
def k0_off27 (i : grid0.Coords) : Fin 3 → Nat :=
  let c0_180 : Index := 0#32
  let c256_181 : Index := 256#32
  let arg1 : BitVec 32 := BitVec.ofNat 32 (i 1).val
  let v309 : BitVec 32 := Scalar.subi arg1 arg1
  let c128_i32_164 : BitVec 32 := 128#32
  let v310 : BitVec 32 := Scalar.muli v309 c128_i32_164
  let v311 : BitVec 32 := v310
  let v326 : Index := Scalar.indexCast v311
  ![0, 256, v326.toNat]
def k0_off28 (i : grid0.Coords) : Fin 3 → Nat :=
  let c0_186 : Index := 0#32
  let c384_187 : Index := 384#32
  let arg1 : BitVec 32 := BitVec.ofNat 32 (i 1).val
  let v309 : BitVec 32 := Scalar.subi arg1 arg1
  let c128_i32_164 : BitVec 32 := 128#32
  let v310 : BitVec 32 := Scalar.muli v309 c128_i32_164
  let v311 : BitVec 32 := v310
  let v332 : Index := Scalar.indexCast v311
  ![0, 384, v332.toNat]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F]
-- ==== ReferenceIdeal.lean ====
abbrev S16384x1024 : Shape := ⟨2, ![16384, 1024]⟩
abbrev S8x1536x2048 : Shape := ⟨3, ![8, 1536, 2048]⟩
abbrev S16384x512 : Shape := ⟨2, ![16384, 512]⟩
abbrev S8x2048x8x64 : Shape := ⟨4, ![8, 2048, 8, 64]⟩
abbrev S8x512x2048 : Shape := ⟨3, ![8, 512, 2048]⟩
abbrev S8x8x64x2048 : Shape := ⟨4, ![8, 8, 64, 2048]⟩
abbrev S8x8x2048x2048 : Shape := ⟨4, ![8, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S8x1536x2048, .bf16⟩
  | .hbm, ⟨2, _⟩ => ⟨S16384x512, .bf16⟩
  | .hbm, ⟨3, _⟩ => ⟨S16384x512, .f32⟩
  | .hbm, ⟨4, _⟩ => ⟨S8x2048x8x64, .f32⟩
  | .hbm, ⟨5, _⟩ => ⟨S8x512x2048, .bf16⟩
  | .hbm, ⟨6, _⟩ => ⟨S8x512x2048, .f32⟩
  | .hbm, ⟨7, _⟩ => ⟨S8x8x64x2048, .f32⟩
  | .hbm, ⟨8, _⟩ => ⟨S8x512x2048, .bf16⟩
  | .hbm, ⟨9, _⟩ => ⟨S8x512x2048, .f32⟩
  | .hbm, ⟨10, _⟩ => ⟨S8x8x64x2048, .f32⟩
  | .hbm, ⟨11, _⟩ => ⟨S8x8x2048x2048, .f32⟩
  | .hbm, ⟨12, _⟩ => ⟨S2048, .i32⟩
  | .hbm, ⟨13, _⟩ => ⟨S1x2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S8x8x2048x2048, .f32⟩
  | .hbm, ⟨19, _⟩ => ⟨S8x8x2048x2048, .f32⟩
  | .hbm, ⟨20, _⟩ => ⟨S_, .f32⟩
  | .hbm, ⟨21, _⟩ => ⟨S8x8x2048x2048, .f32⟩
  | .hbm, ⟨22, _⟩ => ⟨S8x8x2048x2048, .f32⟩
  | .hbm, ⟨23, _⟩ => ⟨S8x8x2048x2048, .f32⟩
  | .hbm, ⟨24, _⟩ => ⟨S8x8x2048x2048, .f32⟩
  | .hbm, ⟨25, _⟩ => ⟨S8x8x2048x2048, .i1⟩
  | .hbm, ⟨26, _⟩ => ⟨S8x8x2048x2048, .f32⟩
  | .hbm, ⟨27, _⟩ => ⟨S8x8x2048x2048, .f32⟩
  | .hbm, ⟨28, _⟩ => ⟨S8x8x2048x2048, .f32⟩
  | .hbm, ⟨29, _⟩ => ⟨S8x8x2048x2048, .f32⟩
  | .hbm, ⟨30, _⟩ => ⟨S8x8x2048x2048, .f32⟩
  | .hbm, ⟨31, _⟩ => ⟨S8x8x2048x2048, .f32⟩
  | .hbm, ⟨32, _⟩ => ⟨S8x8x2048x2048, .f32⟩
  | .hbm, ⟨33, _⟩ => ⟨S8x8x2048x2048, .f32⟩
  | .hbm, ⟨34, _⟩ => ⟨S8x8x2048x2048, .f32⟩
  | .hbm, ⟨35, _⟩ => ⟨S_, .f32⟩
  | .hbm, ⟨36, _⟩ => ⟨S_, .f32⟩
  | .hbm, ⟨37, _⟩ => ⟨S8x8x2048x2048, .i1⟩
  | .hbm, ⟨38, _⟩ => ⟨S8x8x2048x2048, .f32⟩
  | .hbm, ⟨39, _⟩ => ⟨S8x8x2048x2048, .f32⟩
  | .hbm, ⟨40, _⟩ => ⟨S_, .f32⟩
  | .hbm, ⟨41, _⟩ => ⟨S_, .f32⟩
  | .hbm, ⟨42, _⟩ => ⟨S8x8x2048x2048, .f32⟩
  | .hbm, ⟨43, _⟩ => ⟨S8x8x2048x2048, .f32⟩
  | .hbm, ⟨44, _⟩ => ⟨S8x8x2048x2048, .f32⟩
  | .hbm, ⟨45, _⟩ => ⟨S_, .f32⟩
  | .hbm, ⟨46, _⟩ => ⟨S8x8x2048x2048, .f32⟩
  | .hbm, ⟨47, _⟩ => ⟨S8x8x2048x2048, .f32⟩
  | .hbm, ⟨48, _⟩ => ⟨S8x8x2048x2048, .f32⟩
  | .hbm, ⟨49, _⟩ => ⟨S8x8x2048x2048, .f32⟩
  | .hbm, ⟨50, _⟩ => ⟨S8x8x2048x2048, .i1⟩
  | .hbm, ⟨51, _⟩ => ⟨S8x8x2048x2048, .f32⟩
  | .hbm, ⟨52, _⟩ => ⟨S8x8x2048x2048, .f32⟩
  | .hbm, ⟨53, _⟩ => ⟨S8x8x2048x2048, .f32⟩
  | .hbm, ⟨54, _⟩ => ⟨S8x8x2048x2048, .f32⟩
  | .hbm, ⟨55, _⟩ => ⟨S8x8x2048x2048, .f32⟩
  | .hbm, ⟨56, _⟩ => ⟨S8x8x2048x2048, .f32⟩
  | .hbm, ⟨57, _⟩ => ⟨S8x8x2048x2048, .f32⟩
  | .hbm, ⟨58, _⟩ => ⟨S8x8x2048x2048, .f32⟩
  | .hbm, ⟨59, _⟩ => ⟨S8x8x2048x2048, .f32⟩
  | .hbm, ⟨60, _⟩ => ⟨S8x8x2048x2048, .f32⟩
  | .hbm, ⟨61, _⟩ => ⟨S8x8x2048x2048, .f32⟩
  | .hbm, ⟨62, _⟩ => ⟨S_, .f32⟩
  | .hbm, ⟨63, _⟩ => ⟨S_, .f32⟩
  | .hbm, ⟨64, _⟩ => ⟨S8x8x2048x2048, .i1⟩
  | .hbm, ⟨65, _⟩ => ⟨S8x8x2048x2048, .f32⟩
  | .hbm, ⟨66, _⟩ => ⟨S8x8x2048x2048, .f32⟩
  | .hbm, ⟨67, _⟩ => ⟨S8x8x64x2048, .f32⟩
  | .hbm, ⟨68, _⟩ => ⟨S8x2048x8x64, .f32⟩
  | .hbm, ⟨69, _⟩ => ⟨S16384x512, .f32⟩
  | .hbm, ⟨70, _⟩ => ⟨S16384x512, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v17 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_call2_cst : Ref sig .tc := ⟨.hbm, 40, rfl⟩
abbrev main_call2_v0 : Ref sig .tc := ⟨.hbm, 41, rfl⟩
abbrev main_v19 : Ref sig .tc := ⟨.hbm, 42, rfl⟩
abbrev main_v20 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_0 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩

abbrev nD : Nat := 1
abbrev τ : Topo := Topo.v7x

variable {F : FTy → Type} [FloatOps F]
-- ==== Kernel2.lean ====
abbrev S8x2048x1024 : Shape := ⟨3, ![8, 2048, 1024]⟩
abbrev S1x1024x3072 : Shape := ⟨3, ![1, 1024, 3072]⟩
abbrev S1024x3072 : Shape := ⟨2, ![1024, 3072]⟩
abbrev S1024x512 : Shape := ⟨2, ![1024, 512]⟩
abbrev S1024x1536 : Shape := ⟨2, ![1024, 1536]⟩
abbrev S1024x1024 : Shape := ⟨2, ![1024, 1024]⟩
abbrev S1536x1024 : Shape := ⟨2, ![1536, 1024]⟩
abbrev S16384x1024 : Shape := ⟨2, ![16384, 1024]⟩
abbrev S8x512x2048 : Shape := ⟨3, ![8, 512, 2048]⟩
abbrev S16384x512 : Shape := ⟨2, ![16384, 512]⟩
abbrev S8x1536x2048 : Shape := ⟨3, ![8, 1536, 2048]⟩
abbrev S1x512x1024 : Shape := ⟨3, ![1, 512, 1024]⟩
abbrev S512x1024 : Shape := ⟨2, ![512, 1024]⟩
abbrev S1x512x512 : Shape := ⟨3, ![1, 512, 512]⟩
abbrev S512x512 : Shape := ⟨2, ![512, 512]⟩
abbrev S1x1536x512 : Shape := ⟨3, ![1, 1536, 512]⟩

abbrev nBuf : Space → Nat
  | .hbm => 19
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S1x1024x3072, .f32⟩
  | .hbm, ⟨2, _⟩ => ⟨S1024x3072, .f32⟩
  | .hbm, ⟨3, _⟩ => ⟨S1024x3072, .bf16⟩
  | .hbm, ⟨4, _⟩ => ⟨S1024x512, .bf16⟩
  | .hbm, ⟨5, _⟩ => ⟨S1024x512, .bf16⟩
  | .hbm, ⟨6, _⟩ => ⟨S1024x512, .bf16⟩
  | .hbm, ⟨7, _⟩ => ⟨S1024x1536, .bf16⟩
  | .hbm, ⟨8, _⟩ => ⟨S1024x1024, .bf16⟩
  | .hbm, ⟨9, _⟩ => ⟨S1024x512, .bf16⟩
  | .hbm, ⟨10, _⟩ => ⟨S1024x1536, .bf16⟩
  | .hbm, ⟨11, _⟩ => ⟨S1536x1024, .bf16⟩
  | .hbm, ⟨12, _⟩ => ⟨S16384x1024, .bf16⟩
  | .hbm, ⟨13, _⟩ => ⟨S8x512x2048, .f32⟩
  | .hbm, ⟨14, _⟩ => ⟨S8x512x2048, .f32⟩
  | .hbm, ⟨15, _⟩ => ⟨S8x512x2048, .f32⟩
  | .hbm, ⟨16, _⟩ => ⟨S16384x512, .f32⟩
  | .hbm, ⟨17, _⟩ => ⟨S8x1536x2048, .bf16⟩
  | .hbm, ⟨18, _⟩ => ⟨S16384x512, .bf16⟩
  | .local _ .vmem, ⟨0, _⟩ => ⟨S1x512x1024, .f32⟩
  | .local _ .vmem, ⟨1, _⟩ => ⟨S1x512x1024, .f32⟩
  | .local _ .vmem, ⟨2, _⟩ => ⟨S1024x1536, .bf16⟩
  | .local _ .vmem, ⟨3, _⟩ => ⟨S1536x1024, .bf16⟩
  | .local _ .vmem, ⟨4, _⟩ => ⟨S512x1024, .bf16⟩
  | .local _ .vmem, ⟨5, _⟩ => ⟨S512x1024, .bf16⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S512x512, .f32⟩
  | .local _ .vmem, ⟨13, _⟩ => ⟨S512x512, .f32⟩
  | .local _ .vmem, ⟨14, _⟩ => ⟨S1x1536x512, .bf16⟩
  | .local _ .vmem, ⟨15, _⟩ => ⟨S1x1536x512, .bf16⟩
  | .local _ .vmem, ⟨16, _⟩ => ⟨S512x512, .bf16⟩
  | .local _ .vmem, ⟨17, _⟩ => ⟨S512x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10_0 : Ref sig .tc := ⟨.hbm, 12, rfl⟩
abbrev main_v10_1 : Ref sig .tc := ⟨.hbm, 13, rfl⟩
abbrev main_v10_2 : Ref sig .tc := ⟨.hbm, 14, rfl⟩
abbrev main_v10_3 : Ref sig .tc := ⟨.hbm, 15, rfl⟩
abbrev main_v10_4 : Ref sig .tc := ⟨.hbm, 16, rfl⟩
abbrev main_v10_5 : Ref sig .tc := ⟨.hbm, 17, rfl⟩
abbrev main_v10_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1536x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S8x2048x1024 : Shape := ⟨3, ![8, 2048, 1024]⟩
abbrev S1x1024x3072 : Shape := ⟨3, ![1, 1024, 3072]⟩
abbrev S1024x3072 : Shape := ⟨2, ![1024, 3072]⟩
abbrev S8x2048x3072 : Shape := ⟨3, ![8, 2048, 3072]⟩
abbrev S8x2048x512 : Shape := ⟨3, ![8, 2048, 512]⟩
abbrev S_ : Shape := ⟨0, ![]⟩
abbrev S8x2048x1536 : Shape := ⟨3, ![8, 2048, 1536]⟩
abbrev S16384x1024 : Shape := ⟨2, ![16384, 1024]⟩
abbrev S8x512x2048 : Shape := ⟨3, ![8, 512, 2048]⟩
abbrev S16384x512 : Shape := ⟨2, ![16384, 512]⟩
abbrev S8x1536x2048 : Shape := ⟨3, ![8, 1536, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024x3072, .f32⟩
  | .hbm, ⟨2, _⟩ => ⟨S1024x3072, .f32⟩
  | .hbm, ⟨3, _⟩ => ⟨S8x2048x3072, .f32⟩
  | .hbm, ⟨4, _⟩ => ⟨S8x2048x512, .f32⟩
  | .hbm, ⟨5, _⟩ => ⟨S8x2048x512, .f32⟩
  | .hbm, ⟨6, _⟩ => ⟨S8x2048x512, .f32⟩
  | .hbm, ⟨7, _⟩ => ⟨S8x2048x512, .f32⟩
  | .hbm, ⟨8, _⟩ => ⟨S8x2048x512, .f32⟩
  | .hbm, ⟨9, _⟩ => ⟨S8x2048x512, .f32⟩
  | .hbm, ⟨10, _⟩ => ⟨S8x2048x1024, .f32⟩
  | .hbm, ⟨11, _⟩ => ⟨S_, .f32⟩
  | .hbm, ⟨12, _⟩ => ⟨S8x2048x1024, .f32⟩
  | .hbm, ⟨13, _⟩ => ⟨S8x2048x1024, .f32⟩
  | .hbm, ⟨14, _⟩ => ⟨S8x2048x1536, .f32⟩
  | .hbm, ⟨15, _⟩ => ⟨S16384x1024, .f32⟩
  | .hbm, ⟨16, _⟩ => ⟨S16384x1024, .bf16⟩
  | .hbm, ⟨17, _⟩ => ⟨S8x512x2048, .f32⟩
  | .hbm, ⟨18, _⟩ => ⟨S8x512x2048, .f32⟩
  | .hbm, ⟨19, _⟩ => ⟨S8x512x2048, .f32⟩
  | .hbm, ⟨20, _⟩ => ⟨S16384x512, .f32⟩
  | .hbm, ⟨21, _⟩ => ⟨S8x1536x2048, .f32⟩
  | .hbm, ⟨22, _⟩ => ⟨S8x1536x2048, .bf16⟩
  | .hbm, ⟨23, _⟩ => ⟨S16384x512, .f32⟩
  | .hbm, ⟨24, _⟩ => ⟨S16384x512, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== Kernel3.lean ====
abbrev S32x8x1024 : Shape := ⟨3, ![32, 8, 1024]⟩
abbrev S1x1024x3072 : Shape := ⟨3, ![1, 1024, 3072]⟩
abbrev S256x1024 : Shape := ⟨2, ![256, 1024]⟩
abbrev S1024x3072 : Shape := ⟨2, ![1024, 3072]⟩
abbrev S256x512 : Shape := ⟨2, ![256, 512]⟩
abbrev S256x3072 : Shape := ⟨2, ![256, 3072]⟩
abbrev S1024x512 : Shape := ⟨2, ![1024, 512]⟩

abbrev nBuf : Space → Nat
  | .hbm => 10
  | .vmem => 7
  | .smem => 0
  | _ => 0

abbrev bufTy : (tb : Table) → Fin (tcTables nBuf tb) → BufTy
  | .hbm, ⟨0, _⟩ => ⟨S32x8x1024, .f32⟩
  | .hbm, ⟨1, _⟩ => ⟨S1x1024x3072, .f32⟩
  | .hbm, ⟨2, _⟩ => ⟨S256x1024, .f32⟩
  | .hbm, ⟨3, _⟩ => ⟨S1024x3072, .f32⟩
  | .hbm, ⟨4, _⟩ => ⟨S1024x3072, .bf16⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x3072, .f32⟩
  | .local _ .vmem, ⟨0, _⟩ => ⟨S256x1024, .f32⟩
  | .local _ .vmem, ⟨1, _⟩ => ⟨S1024x3072, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x3072, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev main_v3_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference3Ideal.lean ====
abbrev S32x8x1024 : Shape := ⟨3, ![32, 8, 1024]⟩
abbrev S1x1024x3072 : Shape := ⟨3, ![1, 1024, 3072]⟩
abbrev S1024x3072 : Shape := ⟨2, ![1024, 3072]⟩
abbrev S32x8x3072 : Shape := ⟨3, ![32, 8, 3072]⟩
abbrev S32x8x512 : Shape := ⟨3, ![32, 8, 512]⟩
abbrev S_ : Shape := ⟨0, ![]⟩
abbrev S256x512 : Shape := ⟨2, ![256, 512]⟩
abbrev S256x3072 : Shape := ⟨2, ![256, 3072]⟩

abbrev nBuf : Space → Nat
  | .hbm => 22
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1x1024x3072, .f32⟩
  | .hbm, ⟨2, _⟩ => ⟨S1024x3072, .f32⟩
  | .hbm, ⟨3, _⟩ => ⟨S32x8x3072, .f32⟩
  | .hbm, ⟨4, _⟩ => ⟨S32x8x512, .f32⟩
  | .hbm, ⟨5, _⟩ => ⟨S32x8x512, .f32⟩
  | .hbm, ⟨6, _⟩ => ⟨S32x8x512, .f32⟩
  | .hbm, ⟨7, _⟩ => ⟨S32x8x512, .f32⟩
  | .hbm, ⟨8, _⟩ => ⟨S32x8x512, .f32⟩
  | .hbm, ⟨9, _⟩ => ⟨S32x8x512, .f32⟩
  | .hbm, ⟨10, _⟩ => ⟨S_, .f32⟩
  | .hbm, ⟨11, _⟩ => ⟨S32x8x512, .f32⟩
  | .hbm, ⟨12, _⟩ => ⟨S32x8x512, .f32⟩
  | .hbm, ⟨13, _⟩ => ⟨S_, .f32⟩
  | .hbm, ⟨14, _⟩ => ⟨S32x8x512, .f32⟩
  | .hbm, ⟨15, _⟩ => ⟨S32x8x512, .f32⟩
  | .hbm, ⟨16, _⟩ => ⟨S32x8x3072, .f32⟩
  | .hbm, ⟨17, _⟩ => ⟨S256x512, .f32⟩
  | .hbm, ⟨18, _⟩ => ⟨S256x512, .f32⟩
  | .hbm, ⟨19, _⟩ => ⟨S256x512, .f32⟩
  | .hbm, ⟨20, _⟩ => ⟨S256x512, .f32⟩
  | .hbm, ⟨21, _⟩ => ⟨S256x3072, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Kernel4.lean ====
abbrev S74752x1024 : Shape := ⟨2, ![74752, 1024]⟩
abbrev S292 : Shape := ⟨1, ![292]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S74752x1024, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S74752x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .vmem, ⟨12, _⟩ => ⟨S1024x2048, .bf16⟩
  | .local _ .vmem, ⟨13, _⟩ => ⟨S1024x1024, .bf16⟩
  | .local _ .smem, ⟨0, _⟩ => ⟨S292, .i32⟩
  | .local _ .smem, ⟨1, _⟩ => ⟨S1, .i32⟩
  | _, _ => ⟨S74752x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![292], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S74752x1024 : Shape := ⟨2, ![74752, 1024]⟩
abbrev S292 : Shape := ⟨1, ![292]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S292x256x1024 : Shape := ⟨3, ![292, 256, 1024]⟩
abbrev S_ : Shape := ⟨0, ![]⟩
abbrev S292x1 : Shape := ⟨2, ![292, 1]⟩
abbrev S292x1024x2048 : Shape := ⟨3, ![292, 1024, 2048]⟩
abbrev S292x256x2048 : Shape := ⟨3, ![292, 256, 2048]⟩
abbrev S292x1x2048 : Shape := ⟨3, ![292, 1, 2048]⟩
abbrev S292x1024x1024 : Shape := ⟨3, ![292, 1024, 1024]⟩
abbrev S292x1x1024 : Shape := ⟨3, ![292, 1, 1024]⟩
abbrev S292x1x1 : Shape := ⟨3, ![292, 1, 1]⟩

abbrev nBuf : Space → Nat
  | .hbm => 89
  | .vmem => 0
  | .smem => 0
  | _ => 0

abbrev bufTy : (tb : Table) → Fin (tcTables nBuf tb) → BufTy
  | .hbm, ⟨0, _⟩ => ⟨S74752x1024, .f32⟩
  | .hbm, ⟨1, _⟩ => ⟨S292, .i32⟩
  | .hbm, ⟨2, _⟩ => ⟨S1, .i32⟩
  | .hbm, ⟨3, _⟩ => ⟨S32x1024x2048, .f32⟩
  | .hbm, ⟨4, _⟩ => ⟨S32x1x2048, .f32⟩
  | .hbm, ⟨5, _⟩ => ⟨S32x1024x1024, .f32⟩
  | .hbm, ⟨6, _⟩ => ⟨S32x1x1024, .f32⟩
  | .hbm, ⟨7, _⟩ => ⟨S292x256x1024, .f32⟩
  | .hbm, ⟨8, _⟩ => ⟨S_, .i32⟩
  | .hbm, ⟨9, _⟩ => ⟨S292, .i32⟩
  | .hbm, ⟨10, _⟩ => ⟨S292, .i1⟩
  | .hbm, ⟨11, _⟩ => ⟨S_, .i32⟩
  | .hbm, ⟨12, _⟩ => ⟨S292, .i32⟩
  | .hbm, ⟨13, _⟩ => ⟨S292, .i32⟩
  | .hbm, ⟨14, _⟩ => ⟨S292, .i32⟩
  | .hbm, ⟨15, _⟩ => ⟨S292x1, .i32⟩
  | .hbm, ⟨16, _⟩ => ⟨S292x1024x2048, .f32⟩
  | .hbm, ⟨17, _⟩ => ⟨S292x256x2048, .f32⟩
  | .hbm, ⟨18, _⟩ => ⟨S_, .i32⟩
  | .hbm, ⟨19, _⟩ => ⟨S292, .i32⟩
  | .hbm, ⟨20, _⟩ => ⟨S292, .i1⟩
  | .hbm, ⟨21, _⟩ => ⟨S_, .i32⟩
  | .hbm, ⟨22, _⟩ => ⟨S292, .i32⟩
  | .hbm, ⟨23, _⟩ => ⟨S292, .i32⟩
  | .hbm, ⟨24, _⟩ => ⟨S292, .i32⟩
  | .hbm, ⟨25, _⟩ => ⟨S292x1, .i32⟩
  | .hbm, ⟨26, _⟩ => ⟨S292x1x2048, .f32⟩
  | .hbm, ⟨27, _⟩ => ⟨S292x256x2048, .f32⟩
  | .hbm, ⟨28, _⟩ => ⟨S292x256x2048, .f32⟩
  | .hbm, ⟨29, _⟩ => ⟨S292x256x1024, .f32⟩
  | .hbm, ⟨30, _⟩ => ⟨S292x256x1024, .f32⟩
  | .hbm, ⟨31, _⟩ => ⟨S_, .f32⟩
  | .hbm, ⟨32, _⟩ => ⟨S292x256x1024, .f32⟩
  | .hbm, ⟨33, _⟩ => ⟨S292x256x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S292x256x1024, .f32⟩
  | .hbm, ⟨38, _⟩ => ⟨S292x256x1024, .f32⟩
  | .hbm, ⟨39, _⟩ => ⟨S_, .f32⟩
  | .hbm, ⟨40, _⟩ => ⟨S292x256x1024, .f32⟩
  | .hbm, ⟨41, _⟩ => ⟨S292x256x1024, .f32⟩
  | .hbm, ⟨42, _⟩ => ⟨S_, .f32⟩
  | .hbm, ⟨43, _⟩ => ⟨S292x256x1024, .f32⟩
  | .hbm, ⟨44, _⟩ => ⟨S292x256x1024, .f32⟩
  | .hbm, ⟨45, _⟩ => ⟨S_, .f32⟩
  | .hbm, ⟨46, _⟩ => ⟨S292x256x1024, .f32⟩
  | .hbm, ⟨47, _⟩ => ⟨S292x256x1024, .f32⟩
  | .hbm, ⟨48, _⟩ => ⟨S292x256x1024, .f32⟩
  | .hbm, ⟨49, _⟩ => ⟨S292x256x1024, .f32⟩
  | .hbm, ⟨50, _⟩ => ⟨S_, .f32⟩
  | .hbm, ⟨51, _⟩ => ⟨S292x256x1024, .f32⟩
  | .hbm, ⟨52, _⟩ => ⟨S292x256x1024, .f32⟩
  | .hbm, ⟨53, _⟩ => ⟨S_, .f32⟩
  | .hbm, ⟨54, _⟩ => ⟨S292x256x1024, .f32⟩
  | .hbm, ⟨55, _⟩ => ⟨S292x256x1024, .f32⟩
  | .hbm, ⟨56, _⟩ => ⟨S292x256x1024, .f32⟩
  | .hbm, ⟨57, _⟩ => ⟨S292x256x1024, .f32⟩
  | .hbm, ⟨58, _⟩ => ⟨S_, .i32⟩
  | .hbm, ⟨59, _⟩ => ⟨S292, .i32⟩
  | .hbm, ⟨60, _⟩ => ⟨S292, .i1⟩
  | .hbm, ⟨61, _⟩ => ⟨S_, .i32⟩
  | .hbm, ⟨62, _⟩ => ⟨S292, .i32⟩
  | .hbm, ⟨63, _⟩ => ⟨S292, .i32⟩
  | .hbm, ⟨64, _⟩ => ⟨S292, .i32⟩
  | .hbm, ⟨65, _⟩ => ⟨S292x1, .i32⟩
  | .hbm, ⟨66, _⟩ => ⟨S292x1024x1024, .f32⟩
  | .hbm, ⟨67, _⟩ => ⟨S292x256x1024, .f32⟩
  | .hbm, ⟨68, _⟩ => ⟨S_, .i32⟩
  | .hbm, ⟨69, _⟩ => ⟨S292, .i32⟩
  | .hbm, ⟨70, _⟩ => ⟨S292, .i1⟩
  | .hbm, ⟨71, _⟩ => ⟨S_, .i32⟩
  | .hbm, ⟨72, _⟩ => ⟨S292, .i32⟩
  | .hbm, ⟨73, _⟩ => ⟨S292, .i32⟩
  | .hbm, ⟨74, _⟩ => ⟨S292, .i32⟩
  | .hbm, ⟨75, _⟩ => ⟨S292x1, .i32⟩
  | .hbm, ⟨76, _⟩ => ⟨S292x1x1024, .f32⟩
  | .hbm, ⟨77, _⟩ => ⟨S292x256x1024, .f32⟩
  | .hbm, ⟨78, _⟩ => ⟨S292x256x1024, .f32⟩
  | .hbm, ⟨79, _⟩ => ⟨S292, .i32⟩
  | .hbm, ⟨80, _⟩ => ⟨S292, .i32⟩
  | .hbm, ⟨81, _⟩ => ⟨S292, .i1⟩
  | .hbm, ⟨82, _⟩ => ⟨S292x1x1, .i1⟩
  | .hbm, ⟨83, _⟩ => ⟨S_, .f32⟩
  | .hbm, ⟨84, _⟩ => ⟨S_, .f32⟩
  | .hbm, ⟨85, _⟩ => ⟨S292x256x1024, .i1⟩
  | .hbm, ⟨86, _⟩ => ⟨S292x256x1024, .f32⟩
  | .hbm, ⟨87, _⟩ => ⟨S292x256x1024, .f32⟩
  | .hbm, ⟨88, _⟩ => ⟨S74752x1024, .f32⟩
  | _, _ => ⟨S74752x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_cst_8 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_c_10 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_c_12 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v56 : Ref sig .tc := ⟨.hbm, 87, rfl⟩
abbrev main_v57 : Ref sig .tc := ⟨.hbm, 88, rfl⟩

abbrev nD : Nat := 1
abbrev τ : Topo := Topo.v7x

variable {F : FTy → Type} [FloatOps F]
-- ==== Proof.Frames.lean ====
/- The runs of the attention's and the projections' programs: each ends, with its arguments and the semaphores as they were; and the rewrite of the
   stick-breaking attention's idealization. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run

@[expose] public section

noncomputable section

namespace Cert.Proof.Frames

open Idealize.ShloMosaic Idealize.SL.Sem

theorem kernel : Cert.quiescent_Kernel := fun m ρ _ => Cert.Kernel.Gen.frame m ρ
theorem kernelIdeal : Cert.quiescent_KernelIdeal := fun m ρ _ => Cert.KernelIdeal.Gen.frame m ρ
theorem kernelIdeal_finite (hf : Cert.Pre_finite.Facts) : Cert.quiescent_KernelIdeal_pre_finite := fun m ρ _ => Cert.KernelIdeal.Gen.frame m ρ
theorem kernel2 : Cert.quiescent_Kernel2 := fun m ρ _ => Cert.Kernel2.Gen.frame m ρ
theorem kernel2Ideal : Cert.quiescent_Kernel2Ideal := fun m ρ _ => Cert.Kernel2Ideal.Gen.frame m ρ
theorem kernel3 : Cert.quiescent_Kernel3 := fun m ρ _ => Cert.Kernel3.Gen.frame m ρ
theorem kernel3Ideal : Cert.quiescent_Kernel3Ideal := fun m ρ _ => Cert.Kernel3Ideal.Gen.frame m ρ

/-- The stick-breaking reference: one result, then the arguments. -/
theorem referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem referenceIdeal_finite (hf : Cert.Pre_finite.Facts) : Cert.quiescent_ReferenceIdeal_pre_finite := fun m ρ _ =>
  referenceIdeal m ρ trivial

/-- The prompts' projection: seven results, then the arguments. -/
theorem reference2Ideal : Cert.quiescent_Reference2Ideal := fun m ρ _ =>
  (θ_run Cert.Reference2Ideal.defs _ _).mono
    (fun r h => ⟨fun c => (h c).2.2.2.2.2.2.2, sem_eq_zero_of_no_sems (by decide) r.2⟩)
    (Cert.Reference2Ideal.Value.run (F := Ideal) m ρ)

/-- The sample prompts' projection: five results, then the arguments. -/
theorem reference3Ideal : Cert.quiescent_Reference3Ideal := fun m ρ _ =>
  (θ_run Cert.Reference3Ideal.defs _ _).mono
    (fun r h => ⟨fun c => (h c).2.2.2.2.2, sem_eq_zero_of_no_sems (by decide) r.2⟩)
    (Cert.Reference3Ideal.Value.run (F := Ideal) m ρ)

/-- The one kind of rewrite: the upper sixteen bits of an f32 are that f32 rounded to bf16. -/
theorem preserves : Cert.preserves_Kernel_KernelIdeal := IdealRules.bf16_pack.statement _

end Cert.Proof.Frames

end
-- ==== Proof.PromptProj.lean ====
/- The prompts' input projection: what the kernel's seven result arrays hold, over the extended reals. Every entry of every
   result is one entry of the product of a token row and the weights; the queries are multiplied by 1/8, and the keys and
   values come transposed, one column per token. -/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Proj

open Cert.Kernel2Ideal Cert.Kernel2Ideal.Gen Cert.Kernel2Ideal.Value

variable (m : (ℓ : Loc nD τ sig) → Buf (Elt Ideal) ℓ) (ρ : Dev nD → PrngReg)

/-- Column `c` of the projection of step `s` of prompt `b`. -/
def proj (x : Vec Ideal S8x2048x1024 .f32) (w : Vec Ideal S1x1024x3072 .f32) (b : Fin 8) (s : Fin 2048) (c : Fin 3072) : EReal :=
  ∑ k : Fin 1024, x (ix3 b s k) * w (ix3 0 k c)

/-- The factor 1/8 of the queries, as both programs write it. -/
def eighth : EReal := Ideal.ofBits .f32 0x3E000000#32

/-- The block of every window at a grid point. -/
theorem idx : ∀ t : Fin cfg0.N,
    win0_0.index t = ![(grid0.coords t 0).val, (grid0.coords t 1).val, 0] ∧ win0_1.index t = ![0, 0] ∧
    win0_2.index t = ![0, 0] ∧ win0_3.index t = ![(grid0.coords t 0).val * 4 + (grid0.coords t 1).val, 0] ∧
    win0_4.index t = ![(grid0.coords t 0).val, 0, (grid0.coords t 1).val] ∧
    win0_5.index t = ![(grid0.coords t 0).val, 0, (grid0.coords t 1).val] ∧
    win0_6.index t = ![(grid0.coords t 0).val, 0, (grid0.coords t 1).val] ∧
    win0_7.index t = ![(grid0.coords t 0).val * 4 + (grid0.coords t 1).val, 0] ∧
    win0_8.index t = ![(grid0.coords t 0).val, 0, (grid0.coords t 1).val] ∧
    win0_9.index t = ![(grid0.coords t 0).val * 4 + (grid0.coords t 1).val, 0] :=
  (by decide +kernel : ∀ t : Fin grid0.N, _)

theorem c0_lt (t : Fin cfg0.N) : (grid0.coords t 0).val < 8 := (grid0.coords t 0).isLt
theorem c1_lt (t : Fin cfg0.N) : (grid0.coords t 1).val < 4 := (grid0.coords t 1).isLt

/-- The weights by rows of columns: the columns of the queries, then the differential values'. -/
def natCol (j : Fin 1536) : Fin 3072 :=
  if h : j.val < 512 then ⟨j.val, by omega⟩ else if h : j.val < 1024 then ⟨1536 + (j.val - 512), by omega⟩ else ⟨2560 + (j.val - 1024), by omega⟩

/-- The columns of the transposed results: the stick-breaking keys and values, then the differential keys. -/
def trCol (j : Fin 1536) : Fin 3072 :=
  if h : j.val < 1024 then ⟨512 + j.val, by omega⟩ else ⟨2048 + (j.val - 1024), by omega⟩

theorem iblk0 (c : Dev nD) (t : Fin cfg0.N) (j : S1x512x1024.Idx) : iblk m c 0 t j =
    m ((c : Thread nD τ).loc main_arg0) (ix3 (⟨(grid0.coords t 0).val, c0_lt t⟩)
      ⟨(grid0.coords t 1).val * 512 + (j 1).val, by have := c1_lt t; have := (j 1).isLt; simp at this; omega⟩ (j 2)) := by
  blk_ext [iblk, V, idx t]

/-- The weights cast once, by `w_in`. -/
abbrev cast (w : Vec Ideal S1x1024x3072 .f32) : Vec Ideal S1024x3072 .bf16 :=
  truncf .bf16 (shapeCast S1024x3072 w shapeCasts_S1x1024x3072_S1024x3072 : FVec Ideal S1024x3072 .f32) bitsLt_bf16_f32

/-- The first weights array the kernel receives: three pieces of 512 columns. -/
theorem nat_eq (c : Dev nD) : V m c main_v5 = concatenate S1024x1536 1
    [⟨S1024x512, extractStridedSlice S1024x512 ![0, 0] (cast (m ((c : Thread nD τ).loc main_arg1))) slices_S1024x3072_S1024x512_0_0⟩,
     ⟨S1024x512, extractStridedSlice S1024x512 ![0, 1536] (cast (m ((c : Thread nD τ).loc main_arg1))) slices_S1024x3072_S1024x512_0_1536⟩,
     ⟨S1024x512, extractStridedSlice S1024x512 ![0, 2560] (cast (m ((c : Thread nD τ).loc main_arg1))) slices_S1024x3072_S1024x512_0_2560⟩]
    concatenates_S1024x512_S1024x512_S1024x512_S1024x1536_d1 := by
  show StableHlo.after hostOps0 _ _ = _
  unfold_abbrev_sides
  after_results <;> rfl

/-- The weights as the kernel receives them, by the columns of `w_in`. -/
theorem nat_apply (c : Dev nD) (j : S1024x1536.Idx) : V m c main_v5 j =
    m ((c : Thread nD τ).loc main_arg1) (ix3 0 (j 0) (natCol (j 1))) := by
  have hj : (j 1).val < 1536 := (j 1).isLt
  rw [nat_eq]
  pointwise [natCol]
  repeat' split
  all_goals
    first
    | rfl
    | omega
    | skip

theorem tr_apply (c : Dev nD) (j : S1536x1024.Idx) : V m c main_v9 j =
    m ((c : Thread nD τ).loc main_arg1) (ix3 0 (j 1) (trCol (j 0))) := by
  entry_read
  pointwise [trCol]
  repeat' split
  all_goals
    first
    | rfl
    | omega

theorem iblk1 (c : Dev nD) (t : Fin cfg0.N) (j : S1024x1536.Idx) : iblk m c 1 t j =
    m ((c : Thread nD τ).loc main_arg1) (ix3 0 (j 0) (natCol (j 1))) := by
  refine Eq.trans ?_ (nat_apply m c j)
  blk_ext [iblk, idx t]

theorem iblk2 (c : Dev nD) (t : Fin cfg0.N) (j : S1536x1024.Idx) : iblk m c 2 t j =
    m ((c : Thread nD τ).loc main_arg1) (ix3 0 (j 1) (trCol (j 0))) := by
  refine Eq.trans ?_ (tr_apply m c j)
  blk_ext [iblk, idx t]

/-- The projection of token `j 0` (step `j 0 % 2048` of prompt `j 0 / 2048`), column `off + j 1`. -/
def rows (off : Nat) (h : off + 512 ≤ 3072) (x : Vec Ideal S8x2048x1024 .f32) (w : Vec Ideal S1x1024x3072 .f32) :
    Vec Ideal S16384x512 .f32 :=
  fun j => proj x w ⟨(j 0).val / 2048, by have := (j 0).isLt; simp at this; omega⟩ ⟨(j 0).val % 2048, by omega⟩
    ⟨off + (j 1).val, by have := (j 1).isLt; simp at this; omega⟩

/-- 512 columns from `off` on, transposed: a row per column, a column per step. -/
def colsT (off : Nat) (h : off + 512 ≤ 3072) (x : Vec Ideal S8x2048x1024 .f32) (w : Vec Ideal S1x1024x3072 .f32) :
    Vec Ideal S8x512x2048 .f32 :=
  fun j => proj x w (j 0) (j 2) ⟨off + (j 1).val, by have := (j 1).isLt; simp at this; omega⟩

/-- The scaled queries. -/
def queries (x : Vec Ideal S8x2048x1024 .f32) (w : Vec Ideal S1x1024x3072 .f32) : Vec Ideal S16384x1024 .bf16 :=
  fun j => proj x w ⟨(j 0).val / 2048, by have := (j 0).isLt; simp at this; omega⟩ ⟨(j 0).val % 2048, by omega⟩
    (natCol ⟨(j 1).val, by have := (j 1).isLt; simp at this; omega⟩) * eighth

/-- The keys and values, transposed, in one array. -/
def keysValues (x : Vec Ideal S8x2048x1024 .f32) (w : Vec Ideal S1x1024x3072 .f32) : Vec Ideal S8x1536x2048 .bf16 :=
  fun j => proj x w (j 0) (j 2) (trCol ⟨(j 1).val, by have := (j 1).isLt; simp at this; omega⟩)

theorem natCol_lo (n : Nat) (h : n < 1536) (h' : n < 512) : natCol ⟨n, h⟩ = ⟨n, by omega⟩ := by
  simp [natCol, h']

theorem natCol_mid (n : Nat) (h : 512 + n < 1536) (h' : n < 512) : natCol ⟨512 + n, h⟩ = ⟨1536 + n, by omega⟩ := by
  have h1 : ¬ 512 + n < 512 := by omega
  have h2 : 512 + n < 1024 := by omega
  simp [natCol, h2]

theorem natCol_hi (n : Nat) (h : 1024 + n < 1536) : natCol ⟨1024 + n, h⟩ = ⟨2560 + n, by omega⟩ := by
  have h1 : ¬ 1024 + n < 512 := by omega
  simp [natCol, h1]

theorem trCol_lo (n : Nat) (h : n < 1536) (h' : n < 1024) : trCol ⟨n, h⟩ = ⟨512 + n, by omega⟩ := by
  simp [trCol, h']

theorem trCol_hi (n : Nat) (h : 1024 + n < 1536) : trCol ⟨1024 + n, h⟩ = ⟨2048 + n, by omega⟩ := by
  simp [trCol]

theorem final7 (c : Dev nD) : (dats m 0 c).arrAt 7 cfg0.N =
    rows 2560 (by decide) (m ((c : Thread nD τ).loc main_arg0)) (m ((c : Thread nD τ).loc main_arg1)) := by
  refine (dats m 0 c).arrAt_eq_of_covers 7 _ (by decide +kernel) fun t hf y => ?_
  have h0 := c0_lt t
  have h1 := c1_lt t
  blk_simp
  rw [after0_7]
  frame_out
  unfold_payloads
  pointwise [iblk0, iblk1]
  simp only [rows, proj]
  refine @Finset.sum_congr _ EReal _ _ _ _ _ rfl fun k _ => ?_
  rw [natCol_hi]
  congr 1 <;> blk_ext [idx t]

theorem final4 (c : Dev nD) : (dats m 0 c).arrAt 4 cfg0.N =
    colsT 512 (by decide) (m ((c : Thread nD τ).loc main_arg0)) (m ((c : Thread nD τ).loc main_arg1)) := by
  refine (dats m 0 c).arrAt_eq_of_covers 4 _ (by decide +kernel) fun t hf y => ?_
  have h0 := c0_lt t
  have h1 := c1_lt t
  have hy : (y 1).val < 512 := (y 1).isLt
  blk_simp
  rw [after0_4]
  frame_out
  unfold_payloads
  pointwise [iblk0, iblk2]
  simp only [colsT, proj]
  refine @Finset.sum_congr _ EReal _ _ _ _ _ rfl fun k _ => ?_
  rw [trCol_lo _ _ (by omega), mul_comm]
  congr 1 <;> blk_ext [idx t]

theorem final3 (c : Dev nD) : (dats m 0 c).arrAt 3 cfg0.N =
    queries (m ((c : Thread nD τ).loc main_arg0)) (m ((c : Thread nD τ).loc main_arg1)) := by
  refine (dats m 0 c).arrAt_eq_of_covers 3 _ (by decide +kernel) fun t hf y => ?_
  have h0 := c0_lt t
  have h1 := c1_lt t
  blk_simp
  rw [after0_3]
  unfold out0_3
  canon_tiles x h
  all_goals
    unfold_payloads
    pointwise [iblk0, iblk1]
    simp only [queries, proj, eighth]
    refine congrArg (fun v : EReal => v * Ideal.ofBits .f32 0x3E000000#32) (Finset.sum_congr rfl fun k _ => ?_)
    congr 1 <;> blk_ext [idx t]
    exact congrArg (fun n : Fin 1536 => (natCol n).val) (Fin.ext (by dsimp only; omega))
theorem final5 (c : Dev nD) : (dats m 0 c).arrAt 5 cfg0.N =
    colsT 1024 (by decide) (m ((c : Thread nD τ).loc main_arg0)) (m ((c : Thread nD τ).loc main_arg1)) := by
  refine (dats m 0 c).arrAt_eq_of_covers 5 _ (by decide +kernel) fun t hf y => ?_
  have h0 := c0_lt t
  have h1 := c1_lt t
  have hy : (y 1).val < 512 := (y 1).isLt
  blk_simp
  rw [after0_5]
  frame_out
  unfold_payloads
  pointwise [iblk0, iblk2]
  simp only [colsT, proj]
  refine @Finset.sum_congr _ EReal _ _ _ _ _ rfl fun k _ => ?_
  rw [trCol_lo _ _ (by omega), mul_comm]
  congr 1 <;> blk_ext [idx t]

theorem final6 (c : Dev nD) : (dats m 0 c).arrAt 6 cfg0.N =
    colsT 2048 (by decide) (m ((c : Thread nD τ).loc main_arg0)) (m ((c : Thread nD τ).loc main_arg1)) := by
  refine (dats m 0 c).arrAt_eq_of_covers 6 _ (by decide +kernel) fun t hf y => ?_
  have h0 := c0_lt t
  have h1 := c1_lt t
  have hy : (y 1).val < 512 := (y 1).isLt
  blk_simp
  rw [after0_6]
  frame_out
  unfold_payloads
  pointwise [iblk0, iblk2]
  simp only [colsT, proj]
  refine @Finset.sum_congr _ EReal _ _ _ _ _ rfl fun k _ => ?_
  rw [trCol_hi, mul_comm]
  congr 1 <;> blk_ext [idx t]

theorem final9 (c : Dev nD) : (dats m 0 c).arrAt 9 cfg0.N =
    rows 2560 (by decide) (m ((c : Thread nD τ).loc main_arg0)) (m ((c : Thread nD τ).loc main_arg1)) := by
  refine (dats m 0 c).arrAt_eq_of_covers 9 _ (by decide +kernel) fun t hf y => ?_
  have h0 := c0_lt t
  have h1 := c1_lt t
  blk_simp
  rw [after0_9]
  frame_out
  unfold_payloads
  pointwise [iblk0, iblk1]
  simp only [rows, proj]
  refine @Finset.sum_congr _ EReal _ _ _ _ _ rfl fun k _ => ?_
  rw [natCol_hi]
  congr 1 <;> blk_ext [idx t]

set_option maxHeartbeats 1000000 in
theorem final8 (c : Dev nD) : (dats m 0 c).arrAt 8 cfg0.N =
    keysValues (m ((c : Thread nD τ).loc main_arg0)) (m ((c : Thread nD τ).loc main_arg1)) := by
  refine (dats m 0 c).arrAt_eq_of_covers 8 _ (by decide +kernel) fun t hf y => ?_
  have h0 := c0_lt t
  have h1 := c1_lt t
  blk_simp
  rw [after0_8]
  unfold out0_8
  canon_tiles x h
  all_goals
    unfold_payloads
    pointwise [iblk0, iblk2]
    simp only [keysValues, proj]
    refine @Finset.sum_congr _ EReal _ _ _ _ _ rfl fun k _ => ?_
    rw [mul_comm]
    congr 1 <;> blk_ext [idx t]
    exact congrArg (fun n : Fin 1536 => (trCol n).val) (Fin.ext (by dsimp only; omega))

/-! ## The reference -/

/-- The reference's product at an index. -/
theorem ref_proj (x : Vec Ideal S8x2048x1024 .f32) (w : Vec Ideal S1x1024x3072 .f32) (i : Reference2Ideal.S8x2048x3072.Idx) :
    Host.dotGeneral (F := Ideal) (φ₁ := .f32) (φ₂ := .f32) Reference2Ideal.dot_S8x2048x1024_S1024x3072_S8x2048x3072_2_0_01_1_n_n none x
      (shapeCast Reference2Ideal.S1024x3072 w Reference2Ideal.Gen.shapeCasts_S1x1024x3072_S1024x3072) i =
      proj x w (i 0) (i 1) (i 2) := by
  pointwise [proj]

theorem algebraic : Cert.algebraic_Kernel2Ideal_Reference2Ideal := by
  pair_intro
  · run_from Cert.Kernel2Ideal.Value.run_blocks m g
  · run_from Cert.Reference2Ideal.Value.run m' g'
    all_goals
      first
      | rw [final3 m c]
      | rw [final4 m c]
      | rw [final5 m c]
      | rw [final6 m c]
      | rw [final7 m c]
      | rw [final8 m c]
      | rw [final9 m c]
      have hP := ref_proj (m ((c.tc : Thread nD τ).loc main_arg0)) (m ((c.tc : Thread nD τ).loc main_arg1))
      revert hP
      generalize Host.dotGeneral (F := Ideal) (φ₁ := .f32) (φ₂ := .f32) Reference2Ideal.dot_S8x2048x1024_S1024x3072_S8x2048x3072_2_0_01_1_n_n none _ _ = P
      intro hP
      funext j
      pointwise [rows, colsT, queries, keysValues, natCol, trCol, eighth, hP]
      try rfl
    · have hj : (j 1).val < 1024 := (j 1).isLt
      repeat' split
      all_goals
        first
        | rfl
        | omega
    · have hj : (j 1).val < 1536 := (j 1).isLt
      have key : ∀ (a b) (n n' : Nat) (h : n < 3072) (h' : n' < 3072), n = n' →
          proj (m ((c.tc : Thread nD τ).loc main_arg0)) (m ((c.tc : Thread nD τ).loc main_arg1)) a b ⟨n, h⟩ =
          proj (m ((c.tc : Thread nD τ).loc main_arg0)) (m ((c.tc : Thread nD τ).loc main_arg1)) a b ⟨n', h'⟩ := by
        intro a b n n' h h' e
        exact congrArg _ (Fin.ext e)
      repeat' split
      all_goals
        first
        | rfl
        | omega
        | exact key _ _ _ _ _ _ (by omega)

end Cert.Kernel2Ideal.Proj
-- ==== Proof.SampleProj.lean ====
/- The sample prompts' input projection: what the kernel's five result arrays hold, over the extended reals. Every entry of
   every result is one entry of the product of the token rows and the weights, the two query pieces multiplied by 1/8. -/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Proj

open Cert.Kernel3Ideal Cert.Kernel3Ideal.Gen Cert.Kernel3Ideal.Value

variable (m : (ℓ : Loc nD τ sig) → Buf (Elt Ideal) ℓ) (ρ : Dev nD → PrngReg)

/-- Column `c` of the projection of step `s` of sample `b`. -/
def row (x : Vec Ideal S32x8x1024 .f32) (w : Vec Ideal S1x1024x3072 .f32) (b : Fin 32) (s : Fin 8) (c : Fin 3072) : EReal :=
  ∑ k : Fin 1024, x (ix3 b s k) * w (ix3 0 k c)

/-- Column `c` of the projection of token `r`: sample `r / 8`, step `r % 8`. -/
def proj (x : Vec Ideal S32x8x1024 .f32) (w : Vec Ideal S1x1024x3072 .f32) (r : Fin 256) (c : Fin 3072) : EReal :=
  row x w ⟨r.val / 8, by omega⟩ ⟨r.val % 8, by omega⟩ c

/-- The 512 columns of the projection from column `off` on. -/
def cols (off : Nat) (h : off + 512 ≤ 3072) (x : Vec Ideal S32x8x1024 .f32) (w : Vec Ideal S1x1024x3072 .f32) :
    Vec Ideal S256x512 .f32 :=
  fun j => proj x w (j 0) ⟨off + (j 1).val, by have := (j 1).isLt; simp at this; omega⟩

theorem idx : ∀ t : Fin cfg0.N, win0_0.index t = ![0, 0] ∧ win0_1.index t = ![0, 0] ∧ win0_2.index t = ![0, 0] ∧
    win0_3.index t = ![0, 0] ∧ win0_4.index t = ![0, 0] ∧ win0_5.index t = ![0, 0] ∧ win0_6.index t = ![0, 0] :=
  (by decide +kernel : ∀ t : Fin grid0.N, _)

/-- The input blocks at the one point, by the arguments. -/
theorem iblk0 (c : Dev nD) (j : S256x1024.Idx) : iblk m c 0 t0_0 j =
    m ((c : Thread nD τ).loc main_arg0) (ix3 ⟨(j 0).val / 8, by have := (j 0).isLt; simp at this; omega⟩ ⟨(j 0).val % 8, by omega⟩ (j 1)) := by
  blk_ext! [iblk, V, idx t0_0]

theorem iblk1 (c : Dev nD) (j : S1024x3072.Idx) : iblk m c 1 t0_0 j =
    m ((c : Thread nD τ).loc main_arg1) (ix3 0 (j 0) (j 1)) := by
  blk_ext! [iblk, V, idx t0_0]

theorem final2 (c : Dev nD) : (dats m 0 c).arrAt 2 cfg0.N =
    cols 512 (by decide) (m ((c : Thread nD τ).loc main_arg0)) (m ((c : Thread nD τ).loc main_arg1)) := by
  refine (dats m 0 c).arrAt_eq_of_after_last 2 t0_0 (by decide +kernel) _ fun j => ?_
  blk_simp
  rw [after0_2]
  frame_out
  unfold_payloads
  pointwise [iblk0, iblk1]
  rfl

theorem final3 (c : Dev nD) : (dats m 0 c).arrAt 3 cfg0.N =
    cols 1024 (by decide) (m ((c : Thread nD τ).loc main_arg0)) (m ((c : Thread nD τ).loc main_arg1)) := by
  refine (dats m 0 c).arrAt_eq_of_after_last 3 t0_0 (by decide +kernel) _ fun j => ?_
  blk_simp
  rw [after0_3]
  frame_out
  unfold_payloads
  pointwise [iblk0, iblk1]
  rfl

theorem final4 (c : Dev nD) : (dats m 0 c).arrAt 4 cfg0.N =
    cols 2048 (by decide) (m ((c : Thread nD τ).loc main_arg0)) (m ((c : Thread nD τ).loc main_arg1)) := by
  refine (dats m 0 c).arrAt_eq_of_after_last 4 t0_0 (by decide +kernel) _ fun j => ?_
  blk_simp
  rw [after0_4]
  frame_out
  unfold_payloads
  pointwise [iblk0, iblk1]
  rfl

theorem final5 (c : Dev nD) : (dats m 0 c).arrAt 5 cfg0.N =
    cols 2560 (by decide) (m ((c : Thread nD τ).loc main_arg0)) (m ((c : Thread nD τ).loc main_arg1)) := by
  refine (dats m 0 c).arrAt_eq_of_after_last 5 t0_0 (by decide +kernel) _ fun j => ?_
  blk_simp
  rw [after0_5]
  frame_out
  unfold_payloads
  pointwise [iblk0, iblk1]
  rfl

/-- The factor 1/8 of the queries, as both programs write it. -/
def eighth : EReal := Ideal.ofBits .f32 0x3E000000#32

/-- All 3072 columns: the two pieces of queries (columns 0 to 511 and 1536 to 2047) scaled, the others as they are. -/
def all (x : Vec Ideal S32x8x1024 .f32) (w : Vec Ideal S1x1024x3072 .f32) : Vec Ideal S256x3072 .f32 :=
  fun j => if (j 1).val < 512 ∨ (1536 ≤ (j 1).val ∧ (j 1).val < 2048) then proj x w (j 0) (j 1) * eighth
    else proj x w (j 0) (j 1)

theorem final6 (c : Dev nD) : (dats m 0 c).arrAt 6 cfg0.N =
    all (m ((c : Thread nD τ).loc main_arg0)) (m ((c : Thread nD τ).loc main_arg1)) := by
  refine (dats m 0 c).arrAt_eq_of_after_last 6 t0_0 (by decide +kernel) _ fun j => ?_
  blk_simp
  rw [after0_6]
  unfold out0_6
  canon_tiles y h
  all_goals
    unfold_payloads
    pointwise [iblk0, iblk1, all, proj, row, eighth]
    have b1 : (j 1).val < 3072 := (j 1).isLt
    rw [h1] at b1
    have e1 : j 1 = (⟨_, b1⟩ : Fin 3072) := Fin.ext h1
    first
    | rw [if_pos (by omega)]
    | rw [if_neg (by omega)]
    simp only [h0, e1]
    try rfl

/-- The reference's product at an index. -/
theorem ref_proj (x : Vec Ideal S32x8x1024 .f32) (w : Vec Ideal S1x1024x3072 .f32) (i : Reference3Ideal.S32x8x3072.Idx) :
    Host.dotGeneral (F := Ideal) (φ₁ := .f32) (φ₂ := .f32) Reference3Ideal.dot_S32x8x1024_S1024x3072_S32x8x3072_2_0_01_1_n_n none x
      (shapeCast Reference3Ideal.S1024x3072 w Reference3Ideal.Gen.shapeCasts_S1x1024x3072_S1024x3072) i =
      row x w (i 0) (i 1) (i 2) := by
  pointwise [row]

/-- The reference's six pieces laid side by side again, by the product's entries. -/
theorem ref_all (x : Vec Ideal S32x8x1024 .f32) (w : Vec Ideal S1x1024x3072 .f32) (P : FVec Ideal Reference3Ideal.S32x8x3072 .f32)
    (hP : ∀ i, P i = row x w (i 0) (i 1) (i 2)) :
    shapeCast Reference3Ideal.S256x3072 (concatenate Reference3Ideal.S32x8x3072 2
      [⟨Reference3Ideal.S32x8x512, mulf (extractStridedSlice Reference3Ideal.S32x8x512 ![0, 0, 0] P Reference3Ideal.Gen.slices_S32x8x3072_S32x8x512_0_0_0)
          (broadcastInDim Reference3Ideal.S32x8x512 ![] Reference3Ideal.Gen.bcast_S_S32x8x512 (constant Reference3Ideal.S_ FTy.f32 0x3E000000#32))⟩,
        ⟨Reference3Ideal.S32x8x512, extractStridedSlice Reference3Ideal.S32x8x512 ![0, 0, 512] P Reference3Ideal.Gen.slices_S32x8x3072_S32x8x512_0_0_512⟩,
        ⟨Reference3Ideal.S32x8x512, extractStridedSlice Reference3Ideal.S32x8x512 ![0, 0, 1024] P Reference3Ideal.Gen.slices_S32x8x3072_S32x8x512_0_0_1024⟩,
        ⟨Reference3Ideal.S32x8x512, mulf (extractStridedSlice Reference3Ideal.S32x8x512 ![0, 0, 1536] P Reference3Ideal.Gen.slices_S32x8x3072_S32x8x512_0_0_1536)
          (broadcastInDim Reference3Ideal.S32x8x512 ![] Reference3Ideal.Gen.bcast_S_S32x8x512 (constant Reference3Ideal.S_ FTy.f32 0x3E000000#32))⟩,
        ⟨Reference3Ideal.S32x8x512, extractStridedSlice Reference3Ideal.S32x8x512 ![0, 0, 2048] P Reference3Ideal.Gen.slices_S32x8x3072_S32x8x512_0_0_2048⟩,
        ⟨Reference3Ideal.S32x8x512, extractStridedSlice Reference3Ideal.S32x8x512 ![0, 0, 2560] P Reference3Ideal.Gen.slices_S32x8x3072_S32x8x512_0_0_2560⟩]
      Reference3Ideal.Gen.concatenates_S32x8x512_S32x8x512_S32x8x512_S32x8x512_S32x8x512_S32x8x512_S32x8x3072_d2)
      Reference3Ideal.Gen.shapeCasts_S32x8x3072_S256x3072 = all x w := by
  funext j
  have hj : (j 1).val < 3072 := (j 1).isLt
  have key : ∀ (n : Nat) (h : n < 3072) (a b), n = (j 1).val → row x w a b ⟨n, h⟩ = row x w a b (j 1) := by
    intro n h a b e
    exact congrArg _ (Fin.ext e)
  pointwise [all, proj, eighth, hP]
  repeat' split
  all_goals
    first
    | omega
    | exact key _ _ _ _ (by omega)
    | exact congrArg (fun v : EReal => v * Ideal.ofBits .f32 0x3E000000#32) (key _ _ _ _ (by omega))

theorem algebraic : Cert.algebraic_Kernel3Ideal_Reference3Ideal := by
  pair_intro
  · run_from Cert.Kernel3Ideal.Value.run_blocks m g
  · run_from Cert.Reference3Ideal.Value.run m' g'
    all_goals
      first
      | rw [final2 m c]
      | rw [final3 m c]
      | rw [final4 m c]
      | rw [final5 m c]
      | rw [final6 m c]
      first
      | exact ref_all _ _ _ (ref_proj _ _)
      | have hP := ref_proj (m ((c.tc : Thread nD τ).loc main_arg0)) (m ((c.tc : Thread nD τ).loc main_arg1))
        revert hP
        generalize Host.dotGeneral (F := Ideal) (φ₁ := .f32) (φ₂ := .f32) Reference3Ideal.dot_S32x8x1024_S1024x3072_S32x8x3072_2_0_01_1_n_n none _ _ = P
        intro hP
        funext j
        pointwise [cols, proj, hP]
        try rfl

end Cert.Kernel3Ideal.Proj
-- ==== Proof.SbOffs.lean ====
/- The walk's length and the places its loads read, as plain numbers of the grid point and the step. -/
module

public import proofs.«01_k».proof.Defs
public import proofs.«01_k».proof.Proof.Gen.KernelIdeal.Value
public import Idealize.ShloMosaic.Lib.Pipeline.ValueKit
public import Idealize.ShloMosaic.Lib.Pipeline.ValueKit.Stack
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Sb

open Cert.KernelIdeal Cert.KernelIdeal.Gen

/-! ## The grid point's loop -/

theorem trips1 : ∀ i : grid0.Coords, (k0_t1_loop i).trips = (i 1).val := by decide +kernel
theorem trips2 : ∀ i : grid0.Coords, (k0_t2_loop i).trips = 0 := by decide +kernel

theorem off9 : ∀ (i : grid0.Coords) (k : Fin (k0_t1_loop i).trips), k0_off9 i k = ![0, 0, 128 * ((i 1).val - (k.val + 2))] := by decide +kernel
theorem off10 : ∀ (i : grid0.Coords) (k : Fin (k0_t1_loop i).trips), k0_off10 i k = ![0, 128, 128 * ((i 1).val - (k.val + 2))] := by decide +kernel
theorem off11 : ∀ (i : grid0.Coords) (k : Fin (k0_t1_loop i).trips), k0_off11 i k = ![0, 256, 128 * ((i 1).val - (k.val + 2))] := by decide +kernel
theorem off12 : ∀ (i : grid0.Coords) (k : Fin (k0_t1_loop i).trips), k0_off12 i k = ![0, 384, 128 * ((i 1).val - (k.val + 2))] := by decide +kernel
theorem off13 : ∀ (i : grid0.Coords) (k : Fin (k0_t1_loop i).trips), k0_off13 i k = ![0, 0, 128 * ((i 1).val - k.val)] := by decide +kernel
theorem off14 : ∀ (i : grid0.Coords) (k : Fin (k0_t1_loop i).trips), k0_off14 i k = ![0, 128, 128 * ((i 1).val - k.val)] := by decide +kernel
theorem off15 : ∀ (i : grid0.Coords) (k : Fin (k0_t1_loop i).trips), k0_off15 i k = ![0, 256, 128 * ((i 1).val - k.val)] := by decide +kernel
theorem off16 : ∀ (i : grid0.Coords) (k : Fin (k0_t1_loop i).trips), k0_off16 i k = ![0, 384, 128 * ((i 1).val - k.val)] := by decide +kernel

theorem off1 : ∀ i : grid0.Coords, k0_off1 i = ![0, 0, 128 * (i 1).val] := by decide +kernel
theorem off2 : ∀ i : grid0.Coords, k0_off2 i = ![0, 128, 128 * (i 1).val] := by decide +kernel
theorem off3 : ∀ i : grid0.Coords, k0_off3 i = ![0, 256, 128 * (i 1).val] := by decide +kernel
theorem off4 : ∀ i : grid0.Coords, k0_off4 i = ![0, 384, 128 * (i 1).val] := by decide +kernel
theorem off5 : ∀ i : grid0.Coords, k0_off5 i = ![0, 0, 128 * ((i 1).val - 1)] := by decide +kernel
theorem off6 : ∀ i : grid0.Coords, k0_off6 i = ![0, 128, 128 * ((i 1).val - 1)] := by decide +kernel
theorem off7 : ∀ i : grid0.Coords, k0_off7 i = ![0, 256, 128 * ((i 1).val - 1)] := by decide +kernel
theorem off8 : ∀ i : grid0.Coords, k0_off8 i = ![0, 384, 128 * ((i 1).val - 1)] := by decide +kernel
theorem off25 : ∀ i : grid0.Coords, k0_off25 i = ![0, 0, 0] := by decide +kernel
theorem off26 : ∀ i : grid0.Coords, k0_off26 i = ![0, 128, 0] := by decide +kernel
theorem off27 : ∀ i : grid0.Coords, k0_off27 i = ![0, 256, 0] := by decide +kernel
theorem off28 : ∀ i : grid0.Coords, k0_off28 i = ![0, 384, 0] := by decide +kernel

end Cert.KernelIdeal.Sb
-- ==== Proof.SbTrip.lean ====
/- One step of the walk over the earlier key blocks: what it leaves in the four scratch stacks, over the extended reals. -/
module

public import proofs.«01_k».proof.Defs
public import proofs.«01_k».proof.Proof.Gen.KernelIdeal.Value
public import proofs.«01_k».proof.Proof.SbOffs
public import Idealize.ShloMosaic.Lib.Pipeline.ValueKit
public import Idealize.ShloMosaic.Lib.Pipeline.ValueKit.Stack
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Sb

open Cert.KernelIdeal Cert.KernelIdeal.Gen

/-! ## What a step computes -/

/-- A stack of four arrays of 256 rows of 128. -/
abbrev Stk : Type := S4x256x128.Idx → EReal

/-- The scores of the 128 keys from token `s` on: pair `y 0`, row `y 1`, key `s + y 2`. -/
def scores (q : Stk) (K : S1x512x2048.Idx → EReal) (s : ℕ) : Stk := fun y =>
  ∑ d : Fin 128, q (ix3 (y 0) (y 1) d) *
    K (ix3 0 ⟨128 * (y 0).val + d.val, by have : (y 0).val < 4 := (y 0).isLt; omega⟩ ⟨(s + (y 2).val) % 2048, Nat.mod_lt _ (by decide)⟩)

/-- The weighted values of the 128 tokens from `s` on. -/
def valued (w : Stk) (V : S1x512x2048.Idx → EReal) (s : ℕ) : Stk := fun y =>
  ∑ j : Fin 128, w (ix3 (y 0) (y 1) j) *
    V (ix3 0 ⟨128 * (y 0).val + (y 2).val, by have : (y 0).val < 4 := (y 0).isLt; have : (y 2).val < 128 := (y 2).isLt; omega⟩ ⟨(s + j.val) % 2048, Nat.mod_lt _ (by decide)⟩)

/-- `log (1 + exp x)` as the kernel writes it. -/
def sp (x : EReal) : EReal := max x 0 + Ideal.log (1 + Ideal.exp (0 - max x (-x)))

theorem ext_S4x256x128 {x y : S4x256x128.Idx} (h0 : (x 0).val = (y 0).val) (h1 : (x 1).val = (y 1).val) (h2 : (x 2).val = (y 2).val) : x = y := by
  funext a
  fin_cases a
  exacts [Fin.ext h0, Fin.ext h1, Fin.ext h2]

theorem ext_S1x256x128 {x y : S1x256x128.Idx} (h0 : (x 0).val = (y 0).val) (h1 : (x 1).val = (y 1).val) (h2 : (x 2).val = (y 2).val) : x = y := by
  funext a
  fin_cases a
  exacts [Fin.ext h0, Fin.ext h1, Fin.ext h2]

theorem ext_S1x512x2048 {x y : S1x512x2048.Idx} (h0 : (x 0).val = (y 0).val) (h1 : (x 1).val = (y 1).val) (h2 : (x 2).val = (y 2).val) : x = y := by
  funext a
  fin_cases a
  exacts [Fin.ext h0, Fin.ext h1, Fin.ext h2]

/-- Four stored arrays as one stack. -/
def stack {e : EltTy} (p0 p1 p2 p3 : Vec Ideal S1x256x128 e) : Vec Ideal S4x256x128 e := fun y =>
  (![p0, p1, p2, p3] (y 0)) (ix3 0 (y 1) (y 2))

theorem read_stack {e : EltTy} (v : View sig .tc .vmem S4x256x128 e) (f : BufTy.Contents (Elt Ideal) v.ty)
    (p0 p1 p2 p3 : Vec Ideal S1x256x128 e) (i0 i1 i2 i3) :
    v.read (Elt Ideal) (v.writes (Elt Ideal) f [⟨Rect.unit ![3, 0, 0] ![1, 256, 128] i3, p3⟩, ⟨Rect.unit ![2, 0, 0] ![1, 256, 128] i2, p2⟩,
      ⟨Rect.unit ![1, 0, 0] ![1, 256, 128] i1, p1⟩, ⟨Rect.unit ![0, 0, 0] ![1, 256, 128] i0, p0⟩]) = stack p0 p1 p2 p3 := by
  have hc := View.cover_of_tiledL (Val := Elt Ideal) (s := S4x256x128) (e := e) [⟨Rect.unit ![3, 0, 0] ![1, 256, 128] i3, p3⟩,
    ⟨Rect.unit ![2, 0, 0] ![1, 256, 128] i2, p2⟩, ⟨Rect.unit ![1, 0, 0] ![1, 256, 128] i1, p1⟩,
    ⟨Rect.unit ![0, 0, 0] ![1, 256, 128] i0, p0⟩] (![1, 256, 128] : Fin 3 → ℕ) (by sl_kernel_rfl)
  refine (View.read_writes_eq_canon v f _ hc).trans ?_
  funext y
  canon_tiles x h using hc y
  · have e : y 0 = (3 : Fin 4) := Fin.ext (by simp; omega)
    simp only [stack, e]
    exact congrArg p3 (ext_S1x256x128 (by simp) h1.symm h2.symm)
  · have e : y 0 = (2 : Fin 4) := Fin.ext (by simp; omega)
    simp only [stack, e]
    exact congrArg p2 (ext_S1x256x128 (by simp) h1.symm h2.symm)
  · have e : y 0 = (1 : Fin 4) := Fin.ext (by simp; omega)
    simp only [stack, e]
    exact congrArg p1 (ext_S1x256x128 (by simp) h1.symm h2.symm)
  · have e : y 0 = (0 : Fin 4) := Fin.ext (by simp; omega)
    simp only [stack, e]
    exact congrArg p0 (ext_S1x256x128 (by simp) h1.symm h2.symm)

theorem stack_eq {e : EltTy} (p0 p1 p2 p3 : Vec Ideal S1x256x128 e) (F : Vec Ideal S4x256x128 e)
    (h0 : ∀ (r : Fin 256) (l : Fin 128), p0 (ix3 0 r l) = F (ix3 0 r l))
    (h1 : ∀ (r : Fin 256) (l : Fin 128), p1 (ix3 0 r l) = F (ix3 1 r l))
    (h2 : ∀ (r : Fin 256) (l : Fin 128), p2 (ix3 0 r l) = F (ix3 2 r l))
    (h3 : ∀ (r : Fin 256) (l : Fin 128), p3 (ix3 0 r l) = F (ix3 3 r l)) : stack p0 p1 p2 p3 = F := by
  funext y
  have e : ∀ (g : Fin 4) (r : Fin 256) (l : Fin 128), stack p0 p1 p2 p3 (ix3 g r l) = F (ix3 g r l) := fun g r l => by
    fin_cases g
    exacts [h0 r l, h1 r l, h2 r l, h3 r l]
  have hy : y = ix3 (y 0) (y 1) (y 2) := ext_S4x256x128 rfl rfl rfl
  rw [hy]
  exact e _ _ _

/-- Array `g` of a stack, under a unit axis. -/
def slot {e : EltTy} (g : Fin 4) (A : Vec Ideal S4x256x128 e) : Vec Ideal S1x256x128 e := fun x => A (ix3 g (x 1) (x 2))

theorem ld_slot0 {e : EltTy} (v : View sig .tc .vmem S4x256x128 e) (f : BufTy.Contents (Elt Ideal) v.ty) (inb) :
    v.readAt (Elt Ideal) (Rect.unit ![0, 0, 0] ![1, 256, 128] inb).toLoadRect f = slot 0 (v.read (Elt Ideal) f) := by
  funext x
  have h : (x 0).val < 1 := (x 0).isLt
  refine congrArg (v.read (Elt Ideal) f) (ext_S4x256x128 ?_ ?_ ?_)
  · show 0 + 1 * (x 0).val = 0
    omega
  · show 0 + 1 * (x 1).val = (x 1).val
    omega
  · show 0 + 1 * (x 2).val = (x 2).val
    omega

theorem ld_slot1 {e : EltTy} (v : View sig .tc .vmem S4x256x128 e) (f : BufTy.Contents (Elt Ideal) v.ty) (inb) :
    v.readAt (Elt Ideal) (Rect.unit ![1, 0, 0] ![1, 256, 128] inb).toLoadRect f = slot 1 (v.read (Elt Ideal) f) := by
  funext x
  have h : (x 0).val < 1 := (x 0).isLt
  refine congrArg (v.read (Elt Ideal) f) (ext_S4x256x128 ?_ ?_ ?_)
  · show 1 + 1 * (x 0).val = 1
    omega
  · show 0 + 1 * (x 1).val = (x 1).val
    omega
  · show 0 + 1 * (x 2).val = (x 2).val
    omega

theorem ld_slot2 {e : EltTy} (v : View sig .tc .vmem S4x256x128 e) (f : BufTy.Contents (Elt Ideal) v.ty) (inb) :
    v.readAt (Elt Ideal) (Rect.unit ![2, 0, 0] ![1, 256, 128] inb).toLoadRect f = slot 2 (v.read (Elt Ideal) f) := by
  funext x
  have h : (x 0).val < 1 := (x 0).isLt
  refine congrArg (v.read (Elt Ideal) f) (ext_S4x256x128 ?_ ?_ ?_)
  · show 2 + 1 * (x 0).val = 2
    omega
  · show 0 + 1 * (x 1).val = (x 1).val
    omega
  · show 0 + 1 * (x 2).val = (x 2).val
    omega

theorem ld_slot3 {e : EltTy} (v : View sig .tc .vmem S4x256x128 e) (f : BufTy.Contents (Elt Ideal) v.ty) (inb) :
    v.readAt (Elt Ideal) (Rect.unit ![3, 0, 0] ![1, 256, 128] inb).toLoadRect f = slot 3 (v.read (Elt Ideal) f) := by
  funext x
  have h : (x 0).val < 1 := (x 0).isLt
  refine congrArg (v.read (Elt Ideal) f) (ext_S4x256x128 ?_ ?_ ?_)
  · show 3 + 1 * (x 0).val = 3
    omega
  · show 0 + 1 * (x 1).val = (x 1).val
    omega
  · show 0 + 1 * (x 2).val = (x 2).val
    omega

/-- A block of 128 rows and 128 tokens of the keys or the values, loaded. -/
theorem ld_kv {e : EltTy} (v : View sig .tc .vmem S1x512x2048 e) (f : BufTy.Contents (Elt Ideal) v.ty) (off : Fin 3 → ℕ) (inb) (g s : ℕ)
    (h : off = ![0, g, s]) (x l : Fin 128) (hg : g + x.val < 512) :
    v.readAt (Elt Ideal) (Rect.unit (s := S1x512x2048) off ![1, 128, 128] inb).toLoadRect f (ix3 0 x l) =
      v.read (Elt Ideal) f (ix3 0 ⟨g + x.val, hg⟩ ⟨(s + l.val) % 2048, Nat.mod_lt _ (by decide)⟩) := by
  subst h
  have hs : s + 128 ≤ 2048 := inb 2
  have hl := l.isLt
  have e : (s + l.val) % 2048 = s + l.val := Nat.mod_eq_of_lt (by omega)
  refine congrArg (v.read (Elt Ideal) f) (ext_S1x512x2048 ?_ ?_ ?_)
  · show 0 + 1 * 0 = 0
    omega
  · show g + 1 * x.val = g + x.val
    omega
  · show s + 1 * l.val = (s + l.val) % 2048
    omega

/-- Columns `o + y 2` of the product with `T` of the rows `a` followed by the rows `a - a`: what a block of softplus values (and
    of their rounding remainders) passes on. -/
def carried (T : S256x256.Idx → EReal) (a : Stk) (o : ℕ) (ho : o + 128 ≤ 256) : Stk := fun y =>
  (∑ x : Fin 128, a (ix3 (y 0) (y 1) x) * T (ix2 ⟨x.val, by omega⟩ ⟨o + (y 2).val, by have : (y 2).val < 128 := (y 2).isLt; omega⟩)) +
  ∑ x : Fin 128, (a (ix3 (y 0) (y 1) x) - a (ix3 (y 0) (y 1) x)) *
    T (ix2 ⟨128 + x.val, by omega⟩ ⟨o + (y 2).val, by have : (y 2).val < 128 := (y 2).isLt; omega⟩)

variable (𝒱 : Variants) (c : Dev nD) (bd : Option 𝒱.V) (i : grid0.Coords) (arg2 : Memref sig .tc .vmem S128x512 .bf16) (harg2 : arg2.IsWhole) (arg3 : Memref sig .tc .vmem S1x512x2048 .bf16) (harg3 : arg3.IsWhole) (arg4 : Memref sig .tc .vmem S1x512x2048 .bf16) (harg4 : arg4.IsWhole) (arg5 : Memref sig .tc .vmem S128x512 .bf16) (harg5 : arg5.IsWhole) (arg6 : Memref sig .tc .vmem S4x256x128 .bf16) (harg6 : arg6.IsWhole) (arg7 : Memref sig .tc .vmem S4x256x128 .f32) (harg7 : arg7.IsWhole) (arg8 : Memref sig .tc .vmem S4x256x128 .bf16) (harg8 : arg8.IsWhole) (arg9 : Memref sig .tc .vmem S4x256x128 .f32) (harg9 : arg9.IsWhole) (arg10 : Memref sig .tc .vmem S4x256x128 .f32) (harg10 : arg10.IsWhole) (arg1 : BitVec 32) (v10 : FVec Ideal S256x256 .bf16) (X_arg3 : BufTy.Contents (Elt Ideal) arg3.view.ty) (X_arg4 : BufTy.Contents (Elt Ideal) arg4.view.ty) (X_arg6 : BufTy.Contents (Elt Ideal) arg6.view.ty) (k : Fin (k0_t1_loop i).trips)
  (f7 : BufTy.Contents (Elt Ideal) arg7.view.ty) (f8 : BufTy.Contents (Elt Ideal) arg8.view.ty) (f9 : BufTy.Contents (Elt Ideal) arg9.view.ty) (f10 : BufTy.Contents (Elt Ideal) arg10.view.ty)

theorem trip_z : arg7.view.read (Elt Ideal) (arg7.view.writes (Elt Ideal) f7 ((trip_k0_t1 𝒱 c bd i arg2 harg2 arg3 harg3 arg4 harg4 arg5 harg5 arg6 harg6 arg7 harg7 arg8 harg8 arg9 harg9 arg10 harg10 arg1 v10 X_arg3 X_arg4 X_arg6 k).1 f7 f8 f9 f10)) =
    scores (arg6.view.read (Elt Ideal) X_arg6) (arg3.view.read (Elt Ideal) X_arg3) (128 * ((i 1).val - (k.val + 2))) := by
  unfold trip_k0_t1
  dsimp only
  rw [read_stack]
  refine stack_eq _ _ _ _ _ (fun r l => ?_) (fun r l => ?_) (fun r l => ?_) (fun r l => ?_)
  all_goals sl_unfold_run_names
  all_goals simp only [ld_slot0, ld_slot1, ld_slot2, ld_slot3]
  all_goals unfold_payloads
  all_goals pointwise
  · refine @Finset.sum_congr _ EReal _ _ _ _ _ rfl fun x _ => ?_
    rw [ld_kv _ _ _ _ 0 _ (off9 i k) x l (by omega)]
    rfl
  · refine @Finset.sum_congr _ EReal _ _ _ _ _ rfl fun x _ => ?_
    rw [ld_kv _ _ _ _ 128 _ (off10 i k) x l (by omega)]
    rfl
  · refine @Finset.sum_congr _ EReal _ _ _ _ _ rfl fun x _ => ?_
    rw [ld_kv _ _ _ _ 256 _ (off11 i k) x l (by omega)]
    rfl
  · refine @Finset.sum_congr _ EReal _ _ _ _ _ rfl fun x _ => ?_
    rw [ld_kv _ _ _ _ 384 _ (off12 i k) x l (by omega)]
    rfl

theorem trip_acc : arg9.view.read (Elt Ideal) (arg9.view.writes (Elt Ideal) f9 ((trip_k0_t1 𝒱 c bd i arg2 harg2 arg3 harg3 arg4 harg4 arg5 harg5 arg6 harg6 arg7 harg7 arg8 harg8 arg9 harg9 arg10 harg10 arg1 v10 X_arg3 X_arg4 X_arg6 k).2.2.1 f7 f8 f9 f10)) =
    fun y => (arg9.view.read (Elt Ideal) f9) y + valued (arg8.view.read (Elt Ideal) f8) (arg4.view.read (Elt Ideal) X_arg4) (128 * ((i 1).val - k.val)) y := by
  unfold trip_k0_t1
  dsimp only
  rw [read_stack]
  refine stack_eq _ _ _ _ _ (fun r l => ?_) (fun r l => ?_) (fun r l => ?_) (fun r l => ?_)
  all_goals sl_unfold_run_names
  all_goals simp only [ld_slot0, ld_slot1, ld_slot2, ld_slot3]
  all_goals unfold_payloads
  all_goals pointwise
  · refine congrArg (fun v : EReal => _ + v) ?_
    refine @Finset.sum_congr _ EReal _ _ _ _ _ rfl fun x _ => ?_
    rw [ld_kv _ _ _ _ 0 _ (off13 i k) l x (by omega)]
    rfl
  · refine congrArg (fun v : EReal => _ + v) ?_
    refine @Finset.sum_congr _ EReal _ _ _ _ _ rfl fun x _ => ?_
    rw [ld_kv _ _ _ _ 128 _ (off14 i k) l x (by omega)]
    rfl
  · refine congrArg (fun v : EReal => _ + v) ?_
    refine @Finset.sum_congr _ EReal _ _ _ _ _ rfl fun x _ => ?_
    rw [ld_kv _ _ _ _ 256 _ (off15 i k) l x (by omega)]
    rfl
  · refine congrArg (fun v : EReal => _ + v) ?_
    refine @Finset.sum_congr _ EReal _ _ _ _ _ rfl fun x _ => ?_
    rw [ld_kv _ _ _ _ 384 _ (off16 i k) l x (by omega)]
    rfl

theorem trip_run : arg10.view.read (Elt Ideal) (arg10.view.writes (Elt Ideal) f10 ((trip_k0_t1 𝒱 c bd i arg2 harg2 arg3 harg3 arg4 harg4 arg5 harg5 arg6 harg6 arg7 harg7 arg8 harg8 arg9 harg9 arg10 harg10 arg1 v10 X_arg3 X_arg4 X_arg6 k).2.2.2.1 f7 f8 f9 f10)) =
    fun y => (arg10.view.read (Elt Ideal) f10) y + carried v10 (fun y => sp (arg7.view.read (Elt Ideal) f7 y)) 128 (by decide) y := by
  unfold trip_k0_t1
  dsimp only
  rw [read_stack]
  refine stack_eq _ _ _ _ _ (fun r l => ?_) (fun r l => ?_) (fun r l => ?_) (fun r l => ?_)
  all_goals sl_unfold_run_names
  all_goals simp only [ld_slot0, ld_slot1, ld_slot2, ld_slot3]
  all_goals unfold_payloads
  all_goals pointwise
  · rfl
  · rfl
  · rfl
  · rfl

theorem trip_w : arg8.view.read (Elt Ideal) (arg8.view.writes (Elt Ideal) f8 ((trip_k0_t1 𝒱 c bd i arg2 harg2 arg3 harg3 arg4 harg4 arg5 harg5 arg6 harg6 arg7 harg7 arg8 harg8 arg9 harg9 arg10 harg10 arg1 v10 X_arg3 X_arg4 X_arg6 k).2.1 f7 f8 f9 f10)) =
    fun y => Ideal.exp (((arg7.view.read (Elt Ideal) f7) y - sp ((arg7.view.read (Elt Ideal) f7) y)) - carried v10 (fun y => sp (arg7.view.read (Elt Ideal) f7 y)) 0 (by decide) y - (arg10.view.read (Elt Ideal) f10) y) := by
  unfold trip_k0_t1
  dsimp only
  rw [read_stack]
  refine stack_eq _ _ _ _ _ (fun r l => ?_) (fun r l => ?_) (fun r l => ?_) (fun r l => ?_)
  all_goals sl_unfold_run_names
  all_goals simp only [ld_slot0, ld_slot1, ld_slot2, ld_slot3]
  all_goals unfold_payloads
  all_goals pointwise
  · simp only [carried, Nat.zero_add]
    rfl
  · simp only [carried, Nat.zero_add]
    rfl
  · simp only [carried, Nat.zero_add]
    rfl
  · simp only [carried, Nat.zero_add]
    rfl

end Cert.KernelIdeal.Sb
-- ==== Proof.SbWalk.lean ====
/- The walk over the earlier key blocks: what any number of steps leaves in the four scratch stacks. -/
module

public import proofs.«01_k».proof.Defs
public import proofs.«01_k».proof.Proof.Gen.KernelIdeal.Value
public import proofs.«01_k».proof.Proof.SbTrip
public import Idealize.ShloMosaic.Lib.Pipeline.ValueKit
public import Idealize.ShloMosaic.Lib.Pipeline.ValueKit.Stack
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Sb

open Cert.KernelIdeal Cert.KernelIdeal.Gen

/-- The four stacks: the next block's scores, the last block's weights, the weighted values so far, the softplus sums so far. -/
structure St where
  z : Stk
  w : Stk
  acc : Stk
  run : Stk

/-- One step of the walk from query block `i`. -/
def step (q : Stk) (K V : S1x512x2048.Idx → EReal) (T : S256x256.Idx → EReal) (i n : ℕ) (s : St) : St where
  z := scores q K (128 * (i - (n + 2)))
  w := fun y => Ideal.exp ((s.z y - sp (s.z y)) - carried T (fun y => sp (s.z y)) 0 (by decide) y - s.run y)
  acc := fun y => s.acc y + valued s.w V (128 * (i - n)) y
  run := fun y => s.run y + carried T (fun y => sp (s.z y)) 128 (by decide) y

/-- The first `n` steps. -/
def walk (q : Stk) (K V : S1x512x2048.Idx → EReal) (T : S256x256.Idx → EReal) (i : ℕ) (s : St) : ℕ → St
  | 0 => s
  | n + 1 => step q K V T i n (walk q K V T i s n)

variable (𝒱 : Variants) (c : Dev nD) (bd : Option 𝒱.V) (i : grid0.Coords) (arg2 : Memref sig .tc .vmem S128x512 .bf16) (harg2 : arg2.IsWhole) (arg3 : Memref sig .tc .vmem S1x512x2048 .bf16) (harg3 : arg3.IsWhole) (arg4 : Memref sig .tc .vmem S1x512x2048 .bf16) (harg4 : arg4.IsWhole) (arg5 : Memref sig .tc .vmem S128x512 .bf16) (harg5 : arg5.IsWhole) (arg6 : Memref sig .tc .vmem S4x256x128 .bf16) (harg6 : arg6.IsWhole) (arg7 : Memref sig .tc .vmem S4x256x128 .f32) (harg7 : arg7.IsWhole) (arg8 : Memref sig .tc .vmem S4x256x128 .bf16) (harg8 : arg8.IsWhole) (arg9 : Memref sig .tc .vmem S4x256x128 .f32) (harg9 : arg9.IsWhole) (arg10 : Memref sig .tc .vmem S4x256x128 .f32) (harg10 : arg10.IsWhole) (arg1 : BitVec 32) (v10 : FVec Ideal S256x256 .bf16) (X_arg3 : BufTy.Contents (Elt Ideal) arg3.view.ty) (X_arg4 : BufTy.Contents (Elt Ideal) arg4.view.ty) (X_arg6 : BufTy.Contents (Elt Ideal) arg6.view.ty)
  (g7 : BufTy.Contents (Elt Ideal) arg7.view.ty) (g8 : BufTy.Contents (Elt Ideal) arg8.view.ty) (g9 : BufTy.Contents (Elt Ideal) arg9.view.ty) (g10 : BufTy.Contents (Elt Ideal) arg10.view.ty)

theorem walk_read (n : ℕ) (hn : n ≤ (k0_t1_loop i).trips) (s : St)
    (h7 : arg7.view.read (Elt Ideal) g7 = s.z) (h8 : arg8.view.read (Elt Ideal) g8 = s.w)
    (h9 : arg9.view.read (Elt Ideal) g9 = s.acc) (h10 : arg10.view.read (Elt Ideal) g10 = s.run) :
    arg7.view.read (Elt Ideal) (arg7.view.writes (Elt Ideal) g7 (pb_k0_t1 𝒱 c bd i arg2 harg2 arg3 harg3 arg4 harg4 arg5 harg5 arg6 harg6 arg7 harg7 arg8 harg8 arg9 harg9 arg10 harg10 arg1 v10 X_arg3 X_arg4 X_arg6 g7 g8 g9 g10 n).1) = (walk (arg6.view.read (Elt Ideal) X_arg6) (arg3.view.read (Elt Ideal) X_arg3) (arg4.view.read (Elt Ideal) X_arg4) v10 (i 1).val s n).z ∧
    arg8.view.read (Elt Ideal) (arg8.view.writes (Elt Ideal) g8 (pb_k0_t1 𝒱 c bd i arg2 harg2 arg3 harg3 arg4 harg4 arg5 harg5 arg6 harg6 arg7 harg7 arg8 harg8 arg9 harg9 arg10 harg10 arg1 v10 X_arg3 X_arg4 X_arg6 g7 g8 g9 g10 n).2.1) = (walk (arg6.view.read (Elt Ideal) X_arg6) (arg3.view.read (Elt Ideal) X_arg3) (arg4.view.read (Elt Ideal) X_arg4) v10 (i 1).val s n).w ∧
    arg9.view.read (Elt Ideal) (arg9.view.writes (Elt Ideal) g9 (pb_k0_t1 𝒱 c bd i arg2 harg2 arg3 harg3 arg4 harg4 arg5 harg5 arg6 harg6 arg7 harg7 arg8 harg8 arg9 harg9 arg10 harg10 arg1 v10 X_arg3 X_arg4 X_arg6 g7 g8 g9 g10 n).2.2.1) = (walk (arg6.view.read (Elt Ideal) X_arg6) (arg3.view.read (Elt Ideal) X_arg3) (arg4.view.read (Elt Ideal) X_arg4) v10 (i 1).val s n).acc ∧
    arg10.view.read (Elt Ideal) (arg10.view.writes (Elt Ideal) g10 (pb_k0_t1 𝒱 c bd i arg2 harg2 arg3 harg3 arg4 harg4 arg5 harg5 arg6 harg6 arg7 harg7 arg8 harg8 arg9 harg9 arg10 harg10 arg1 v10 X_arg3 X_arg4 X_arg6 g7 g8 g9 g10 n).2.2.2) = (walk (arg6.view.read (Elt Ideal) X_arg6) (arg3.view.read (Elt Ideal) X_arg3) (arg4.view.read (Elt Ideal) X_arg4) v10 (i 1).val s n).run := by
  induction n with
  | zero => exact ⟨h7, h8, h9, h10⟩
  | succ n ih =>
    obtain ⟨e7, e8, e9, e10⟩ := ih (by omega)
    have e := pb_k0_t1_succ 𝒱 c bd i arg2 harg2 arg3 harg3 arg4 harg4 arg5 harg5 arg6 harg6 arg7 harg7 arg8 harg8 arg9 harg9 arg10 harg10 arg1 v10 X_arg3 X_arg4 X_arg6 g7 g8 g9 g10 ⟨n, hn⟩
    dsimp only at e
    refine ⟨?_, ?_, ?_, ?_⟩
    · rw [e]
      dsimp only
      rw [View.writes_append, trip_z]
      rfl
    · rw [e]
      dsimp only
      rw [View.writes_append, trip_w, e7, e10]
      rfl
    · rw [e]
      dsimp only
      rw [View.writes_append, trip_acc, e8, e9]
      rfl
    · rw [e]
      dsimp only
      rw [View.writes_append, trip_run, e7, e10]
      rfl

end Cert.KernelIdeal.Sb
-- ==== Proof.SbConst.lean ====
/- Loads, masks and the triangle of ones, read as plain functions; the stacks a walk starts from. -/
module

public import proofs.«01_k».proof.Defs
public import proofs.«01_k».proof.Proof.Gen.KernelIdeal.Value
public import proofs.«01_k».proof.Proof.SbWalk
public import Idealize.ShloMosaic.Lib.Pipeline.ValueKit
public import Idealize.ShloMosaic.Lib.Pipeline.ValueKit.Stack
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Sb

open Cert.KernelIdeal Cert.KernelIdeal.Gen

/-! ## Loads -/

theorem cov_piece0 {e : EltTy} (v : View sig .tc .vmem S4x256x128 e) (p0 p1 p2 p3 : Vec Ideal S1x256x128 e) (i0 i1 i2 i3 inb) :
    v.readCov [⟨Rect.unit ![3, 0, 0] ![1, 256, 128] i3, p3⟩, ⟨Rect.unit ![2, 0, 0] ![1, 256, 128] i2, p2⟩,
      ⟨Rect.unit ![1, 0, 0] ![1, 256, 128] i1, p1⟩, ⟨Rect.unit ![0, 0, 0] ![1, 256, 128] i0, p0⟩]
      (Rect.unit ![0, 0, 0] ![1, 256, 128] inb).toLoadRect = p0 := by
  have h := ld_slot0 v (v.writes (Elt Ideal) v.junk [⟨Rect.unit ![3, 0, 0] ![1, 256, 128] i3, p3⟩, ⟨Rect.unit ![2, 0, 0] ![1, 256, 128] i2, p2⟩,
      ⟨Rect.unit ![1, 0, 0] ![1, 256, 128] i1, p1⟩, ⟨Rect.unit ![0, 0, 0] ![1, 256, 128] i0, p0⟩]) inb
  rw [read_stack] at h
  refine h.trans ?_
  funext x
  have hx : (x 0).val < 1 := (x 0).isLt
  exact congrArg p0 (ext_S1x256x128 (by show 0 = (x 0).val; omega) rfl rfl)

theorem cov_piece1 {e : EltTy} (v : View sig .tc .vmem S4x256x128 e) (p0 p1 p2 p3 : Vec Ideal S1x256x128 e) (i0 i1 i2 i3 inb) :
    v.readCov [⟨Rect.unit ![3, 0, 0] ![1, 256, 128] i3, p3⟩, ⟨Rect.unit ![2, 0, 0] ![1, 256, 128] i2, p2⟩,
      ⟨Rect.unit ![1, 0, 0] ![1, 256, 128] i1, p1⟩, ⟨Rect.unit ![0, 0, 0] ![1, 256, 128] i0, p0⟩]
      (Rect.unit ![1, 0, 0] ![1, 256, 128] inb).toLoadRect = p1 := by
  have h := ld_slot1 v (v.writes (Elt Ideal) v.junk [⟨Rect.unit ![3, 0, 0] ![1, 256, 128] i3, p3⟩, ⟨Rect.unit ![2, 0, 0] ![1, 256, 128] i2, p2⟩,
      ⟨Rect.unit ![1, 0, 0] ![1, 256, 128] i1, p1⟩, ⟨Rect.unit ![0, 0, 0] ![1, 256, 128] i0, p0⟩]) inb
  rw [read_stack] at h
  refine h.trans ?_
  funext x
  have hx : (x 0).val < 1 := (x 0).isLt
  exact congrArg p1 (ext_S1x256x128 (by show 0 = (x 0).val; omega) rfl rfl)

theorem cov_piece2 {e : EltTy} (v : View sig .tc .vmem S4x256x128 e) (p0 p1 p2 p3 : Vec Ideal S1x256x128 e) (i0 i1 i2 i3 inb) :
    v.readCov [⟨Rect.unit ![3, 0, 0] ![1, 256, 128] i3, p3⟩, ⟨Rect.unit ![2, 0, 0] ![1, 256, 128] i2, p2⟩,
      ⟨Rect.unit ![1, 0, 0] ![1, 256, 128] i1, p1⟩, ⟨Rect.unit ![0, 0, 0] ![1, 256, 128] i0, p0⟩]
      (Rect.unit ![2, 0, 0] ![1, 256, 128] inb).toLoadRect = p2 := by
  have h := ld_slot2 v (v.writes (Elt Ideal) v.junk [⟨Rect.unit ![3, 0, 0] ![1, 256, 128] i3, p3⟩, ⟨Rect.unit ![2, 0, 0] ![1, 256, 128] i2, p2⟩,
      ⟨Rect.unit ![1, 0, 0] ![1, 256, 128] i1, p1⟩, ⟨Rect.unit ![0, 0, 0] ![1, 256, 128] i0, p0⟩]) inb
  rw [read_stack] at h
  refine h.trans ?_
  funext x
  have hx : (x 0).val < 1 := (x 0).isLt
  exact congrArg p2 (ext_S1x256x128 (by show 0 = (x 0).val; omega) rfl rfl)

theorem cov_piece3 {e : EltTy} (v : View sig .tc .vmem S4x256x128 e) (p0 p1 p2 p3 : Vec Ideal S1x256x128 e) (i0 i1 i2 i3 inb) :
    v.readCov [⟨Rect.unit ![3, 0, 0] ![1, 256, 128] i3, p3⟩, ⟨Rect.unit ![2, 0, 0] ![1, 256, 128] i2, p2⟩,
      ⟨Rect.unit ![1, 0, 0] ![1, 256, 128] i1, p1⟩, ⟨Rect.unit ![0, 0, 0] ![1, 256, 128] i0, p0⟩]
      (Rect.unit ![3, 0, 0] ![1, 256, 128] inb).toLoadRect = p3 := by
  have h := ld_slot3 v (v.writes (Elt Ideal) v.junk [⟨Rect.unit ![3, 0, 0] ![1, 256, 128] i3, p3⟩, ⟨Rect.unit ![2, 0, 0] ![1, 256, 128] i2, p2⟩,
      ⟨Rect.unit ![1, 0, 0] ![1, 256, 128] i1, p1⟩, ⟨Rect.unit ![0, 0, 0] ![1, 256, 128] i0, p0⟩]) inb
  rw [read_stack] at h
  refine h.trans ?_
  funext x
  have hx : (x 0).val < 1 := (x 0).isLt
  exact congrArg p3 (ext_S1x256x128 (by show 0 = (x 0).val; omega) rfl rfl)

/-- The 128 columns of the queries from column `o` on. -/
def qcols (X : S128x512.Idx → EReal) (o : ℕ) (ho : o + 128 ≤ 512) : S128x128.Idx → EReal := fun j =>
  X (ix2 (j 0) ⟨o + (j 1).val, by have : (j 1).val < 128 := (j 1).isLt; omega⟩)

theorem ld_q (v : Memref sig .tc .vmem S128x512 .bf16) (hv : v.IsWhole) (X : Vec Ideal S128x512 .bf16) (o : ℕ) (ho : o + 128 ≤ 512) (inb) :
    v.view.readAt (Elt Ideal) (Rect.unit (s := S128x512) ![0, o] ![128, 128] inb).toLoadRect (hv.unread X) = qcols X o ho := by
  rw [View.readAt_eq_ld, hv.read_unread]
  funext j
  refine congrArg X ?_
  funext a
  fin_cases a
  · exact Fin.ext (by show 0 + 1 * (j 0).val = (j 0).val; omega)
  · exact Fin.ext (by show o + 1 * (j 1).val = o + (j 1).val; omega)

/-- A pair's queries: the first head's rows with the other head's lanes zero, then the second head's. -/
def pairQ (v : S128x128.Idx → EReal) : S1x256x128.Idx → EReal := fun x =>
  if h : (x 1).val < 128 then (if (x 2).val < 64 then v (ix2 ⟨(x 1).val, h⟩ (x 2)) else 0)
  else (if 64 ≤ (x 2).val then v (ix2 ⟨(x 1).val - 128, by have : (x 1).val < 256 := (x 1).isLt; omega⟩ (x 2)) else 0)

/-! ## The constants -/

theorem lane_lt : ∀ n : Fin 128, IntOp.cmpi CmpIPredicate.slt (BitVec.ofNat 32 n.val) 64#32 = if n.val < 64 then 1#1 else 0#1 := by
  decide +kernel

theorem lane_ge : ∀ n : Fin 128, IntOp.cmpi CmpIPredicate.sge (BitVec.ofNat 32 n.val) 64#32 = if 64 ≤ n.val then 1#1 else 0#1 := by
  decide +kernel

theorem below : ∀ (r : Fin 256) (l : Fin 128), IntOp.cmpi CmpIPredicate.slt (BitVec.ofNat 32 l.val) (IntOp.andi (BitVec.ofNat 32 r.val) 127#32) =
    if l.val < r.val % 128 then 1#1 else 0#1 := by
  decide +kernel

theorem above : ∀ (r : Fin 128) (l : Fin 256), IntOp.ori (IntOp.cmpi CmpIPredicate.sgt (BitVec.ofNat 32 r.val) (BitVec.ofNat 32 l.val))
    (IntOp.cmpi CmpIPredicate.sge (BitVec.ofNat 32 l.val) 128#32) = if l.val < r.val ∨ 128 ≤ l.val then 1#1 else 0#1 := by
  decide +kernel

theorem select_ite {α : Type} (p : Prop) [Decidable p] (a b : α) : Scalar.select (if p then 1#1 else 0#1) a b = if p then a else b := by
  split <;> rfl

theorem pay90 (v : Vec Ideal S128x128 .bf16) : k0_pay90 v = pairQ v := by
  funext x
  unfold k0_pay90
  pointwise
  simp only [lane_lt (x 2), lane_ge (x 2), select_ite]
  rfl

theorem pay91 (v : Vec Ideal S128x128 .bf16) : k0_pay91 v = pairQ v := by
  funext x
  unfold k0_pay91
  pointwise
  simp only [lane_lt (x 2), lane_ge (x 2), select_ite]
  rfl

theorem pay92 (v : Vec Ideal S128x128 .bf16) : k0_pay92 v = pairQ v := by
  funext x
  unfold k0_pay92
  pointwise
  simp only [lane_lt (x 2), lane_ge (x 2), select_ite]
  rfl

theorem pay93 (v : Vec Ideal S128x128 .bf16) : k0_pay93 v = pairQ v := by
  funext x
  unfold k0_pay93
  pointwise
  simp only [lane_lt (x 2), lane_ge (x 2), select_ite]
  rfl

/-- Key `l` of the diagonal block is earlier than row `r`'s query. -/
theorem pay104 (x : S256x128.Idx) : k0_pay104 k0_pay94 kernelRun0_A.sl.v66 x = if (x 1).val < (x 0).val % 128 then 1#1 else 0#1 := by
  unfold k0_pay104 k0_pay94 kernelRun0_A.sl.v66
  pointwise
  exact below (x 0) (x 1)

/-- The triangle of ones the sums are taken with. -/
def tri : S256x256.Idx → EReal := fun x => if (x 1).val < (x 0).val % 128 ∨ 128 ≤ (x 1).val then 1 else 0

theorem pay89 : k0_pay89 (F := Ideal) = tri := by
  funext x
  unfold k0_pay89
  pointwise
  have hx : (x 0).val < 256 := (x 0).isLt
  split
  · rename_i h
    rw [above ⟨(x 0).val, h⟩ (x 1), select_ite]
    simp only [tri, Nat.mod_eq_of_lt h]
  · rename_i h
    rw [above ⟨(x 0).val - 128, by omega⟩ (x 1), select_ite]
    simp only [tri, show (x 0).val % 128 = (x 0).val - 128 by omega]

/-! ## Before the walk -/

/-- The stacked queries. -/
def q2 (X : S128x512.Idx → EReal) : Stk := fun y =>
  pairQ (qcols X (128 * (y 0).val) (by have : (y 0).val < 4 := (y 0).isLt; omega)) (ix3 0 (y 1) (y 2))

/-- The diagonal block's masked softplus. -/
def spd (z : Stk) : Stk := fun y => if (y 2).val < (y 1).val % 128 then sp (z y) else 0

/-- The diagonal block's weights. -/
def wd (z : Stk) : Stk := fun y =>
  if (y 2).val < (y 1).val % 128 then Ideal.exp ((z y - sp (z y)) - carried tri (spd z) 0 (by decide) y) else 0

/-- The stacks at the walk's start, at query block `i`. -/
def start (X : S128x512.Idx → EReal) (K : S1x512x2048.Idx → EReal) (i : ℕ) : St where
  z := scores (q2 X) K (128 * (i - 1))
  w := wd (scores (q2 X) K (128 * i))
  acc := fun _ => 0
  run := fun y => carried tri (spd (scores (q2 X) K (128 * i))) 128 (by decide) y

end Cert.KernelIdeal.Sb
-- ==== Proof.SbStart.lean ====
/- The diagonal block: what the stacks hold when the walk starts. -/
module

public import proofs.«01_k».proof.Defs
public import proofs.«01_k».proof.Proof.Gen.KernelIdeal.Value
public import proofs.«01_k».proof.Proof.SbConst
public import Idealize.ShloMosaic.Lib.Pipeline.ValueKit
public import Idealize.ShloMosaic.Lib.Pipeline.ValueKit.Stack
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Sb

open Cert.KernelIdeal Cert.KernelIdeal.Gen

/-- Array `g` of a stack, as 256 rows of 128. -/
def slab (g : Fin 4) (A : Stk) : S256x128.Idx → EReal := fun x => A (ix3 g (x 0) (x 1))

variable (c : Dev nD) (i : grid0.Coords) (arg2 : Memref sig .tc .vmem S128x512 .bf16) (harg2 : arg2.IsWhole) (arg3 : Memref sig .tc .vmem S1x512x2048 .bf16) (harg3 : arg3.IsWhole) (arg4 : Memref sig .tc .vmem S1x512x2048 .bf16) (harg4 : arg4.IsWhole) (arg5 : Memref sig .tc .vmem S128x512 .bf16) (harg5 : arg5.IsWhole) (arg6 : Memref sig .tc .vmem S4x256x128 .bf16) (harg6 : arg6.IsWhole) (arg7 : Memref sig .tc .vmem S4x256x128 .f32) (harg7 : arg7.IsWhole) (arg8 : Memref sig .tc .vmem S4x256x128 .bf16) (harg8 : arg8.IsWhole) (arg9 : Memref sig .tc .vmem S4x256x128 .f32) (harg9 : arg9.IsWhole) (arg10 : Memref sig .tc .vmem S4x256x128 .f32) (harg10 : arg10.IsWhole) (x0 : Vec Ideal S128x512 .bf16) (x1 x2 : Vec Ideal S1x512x2048 .bf16)

theorem start_q (f) : arg6.view.read (Elt Ideal) (arg6.view.writes (Elt Ideal) f (kernelRun0_A.sl.HS0_4 c arg2 harg2 x0)) = q2 x0 := by
  unfold kernelRun0_A.sl.HS0_4
  rw [read_stack]
  refine stack_eq _ _ _ _ _ (fun r l => ?_) (fun r l => ?_) (fun r l => ?_) (fun r l => ?_)
  · rw [pay90, ld_q _ _ _ 0 (by decide)]; rfl
  · rw [pay91, ld_q _ _ _ 128 (by decide)]; rfl
  · rw [pay92, ld_q _ _ _ 256 (by decide)]; rfl
  · rw [pay93, ld_q _ _ _ 384 (by decide)]; rfl

theorem zd0 (inb inb') : k0_pay96 (k0_pay95 (pairQ (arg2.view.readAt (Elt Ideal) (Rect.unit (s := S128x512) ![0, 0] ![128, 128] inb).toLoadRect (harg2.unread x0))))
    (arg3.view.readAt (Elt Ideal) (Rect.unit (s := S1x512x2048) (k0_off1 i) ![1, 128, 128] inb').toLoadRect (harg3.unread x1)) =
    slab 0 (scores (q2 x0) x1 (128 * (i 1).val)) := by
  funext x
  rw [ld_q arg2 harg2 x0 0 (by decide)]
  unfold_payloads
  pointwise
  unfold slab scores
  refine @Finset.sum_congr _ EReal _ _ _ _ _ rfl fun k _ => ?_
  rw [ld_kv _ _ _ _ 0 _ (off1 i) k (x 1) (by omega), harg3.read_unread]
  rfl

theorem zd1 (inb inb') : k0_pay97 (pairQ (arg2.view.readAt (Elt Ideal) (Rect.unit (s := S128x512) ![0, 128] ![128, 128] inb).toLoadRect (harg2.unread x0)))
    (arg3.view.readAt (Elt Ideal) (Rect.unit (s := S1x512x2048) (k0_off2 i) ![1, 128, 128] inb').toLoadRect (harg3.unread x1)) =
    slab 1 (scores (q2 x0) x1 (128 * (i 1).val)) := by
  funext x
  rw [ld_q arg2 harg2 x0 128 (by decide)]
  unfold_payloads
  pointwise
  unfold slab scores
  refine @Finset.sum_congr _ EReal _ _ _ _ _ rfl fun k _ => ?_
  rw [ld_kv _ _ _ _ 128 _ (off2 i) k (x 1) (by omega), harg3.read_unread]
  rfl

theorem zd2 (inb inb') : k0_pay98 (pairQ (arg2.view.readAt (Elt Ideal) (Rect.unit (s := S128x512) ![0, 256] ![128, 128] inb).toLoadRect (harg2.unread x0)))
    (arg3.view.readAt (Elt Ideal) (Rect.unit (s := S1x512x2048) (k0_off3 i) ![1, 128, 128] inb').toLoadRect (harg3.unread x1)) =
    slab 2 (scores (q2 x0) x1 (128 * (i 1).val)) := by
  funext x
  rw [ld_q arg2 harg2 x0 256 (by decide)]
  unfold_payloads
  pointwise
  unfold slab scores
  refine @Finset.sum_congr _ EReal _ _ _ _ _ rfl fun k _ => ?_
  rw [ld_kv _ _ _ _ 256 _ (off3 i) k (x 1) (by omega), harg3.read_unread]
  rfl

theorem zd3 (inb inb') : k0_pay99 (pairQ (arg2.view.readAt (Elt Ideal) (Rect.unit (s := S128x512) ![0, 384] ![128, 128] inb).toLoadRect (harg2.unread x0)))
    (arg3.view.readAt (Elt Ideal) (Rect.unit (s := S1x512x2048) (k0_off4 i) ![1, 128, 128] inb').toLoadRect (harg3.unread x1)) =
    slab 3 (scores (q2 x0) x1 (128 * (i 1).val)) := by
  funext x
  rw [ld_q arg2 harg2 x0 384 (by decide)]
  unfold_payloads
  pointwise
  unfold slab scores
  refine @Finset.sum_congr _ EReal _ _ _ _ _ rfl fun k _ => ?_
  rw [ld_kv _ _ _ _ 384 _ (off4 i) k (x 1) (by omega), harg3.read_unread]
  rfl

theorem zn0 (inb inb') : k0_pay100 (pairQ (arg2.view.readAt (Elt Ideal) (Rect.unit (s := S128x512) ![0, 0] ![128, 128] inb).toLoadRect (harg2.unread x0)))
    (arg3.view.readAt (Elt Ideal) (Rect.unit (s := S1x512x2048) (k0_off5 i) ![1, 128, 128] inb').toLoadRect (harg3.unread x1)) =
    slab 0 (scores (q2 x0) x1 (128 * ((i 1).val - 1))) := by
  funext x
  rw [ld_q arg2 harg2 x0 0 (by decide)]
  unfold_payloads
  pointwise
  unfold slab scores
  refine @Finset.sum_congr _ EReal _ _ _ _ _ rfl fun k _ => ?_
  rw [ld_kv _ _ _ _ 0 _ (off5 i) k (x 1) (by omega), harg3.read_unread]
  rfl

theorem zn1 (inb inb') : k0_pay101 (pairQ (arg2.view.readAt (Elt Ideal) (Rect.unit (s := S128x512) ![0, 128] ![128, 128] inb).toLoadRect (harg2.unread x0)))
    (arg3.view.readAt (Elt Ideal) (Rect.unit (s := S1x512x2048) (k0_off6 i) ![1, 128, 128] inb').toLoadRect (harg3.unread x1)) =
    slab 1 (scores (q2 x0) x1 (128 * ((i 1).val - 1))) := by
  funext x
  rw [ld_q arg2 harg2 x0 128 (by decide)]
  unfold_payloads
  pointwise
  unfold slab scores
  refine @Finset.sum_congr _ EReal _ _ _ _ _ rfl fun k _ => ?_
  rw [ld_kv _ _ _ _ 128 _ (off6 i) k (x 1) (by omega), harg3.read_unread]
  rfl

theorem zn2 (inb inb') : k0_pay102 (pairQ (arg2.view.readAt (Elt Ideal) (Rect.unit (s := S128x512) ![0, 256] ![128, 128] inb).toLoadRect (harg2.unread x0)))
    (arg3.view.readAt (Elt Ideal) (Rect.unit (s := S1x512x2048) (k0_off7 i) ![1, 128, 128] inb').toLoadRect (harg3.unread x1)) =
    slab 2 (scores (q2 x0) x1 (128 * ((i 1).val - 1))) := by
  funext x
  rw [ld_q arg2 harg2 x0 256 (by decide)]
  unfold_payloads
  pointwise
  unfold slab scores
  refine @Finset.sum_congr _ EReal _ _ _ _ _ rfl fun k _ => ?_
  rw [ld_kv _ _ _ _ 256 _ (off7 i) k (x 1) (by omega), harg3.read_unread]
  rfl

theorem zn3 (inb inb') : k0_pay103 (pairQ (arg2.view.readAt (Elt Ideal) (Rect.unit (s := S128x512) ![0, 384] ![128, 128] inb).toLoadRect (harg2.unread x0)))
    (arg3.view.readAt (Elt Ideal) (Rect.unit (s := S1x512x2048) (k0_off8 i) ![1, 128, 128] inb').toLoadRect (harg3.unread x1)) =
    slab 3 (scores (q2 x0) x1 (128 * ((i 1).val - 1))) := by
  funext x
  rw [ld_q arg2 harg2 x0 384 (by decide)]
  unfold_payloads
  pointwise
  unfold slab scores
  refine @Finset.sum_congr _ EReal _ _ _ _ _ rfl fun k _ => ?_
  rw [ld_kv _ _ _ _ 384 _ (off8 i) k (x 1) (by omega), harg3.read_unread]
  rfl

theorem start_z (f) : arg7.view.read (Elt Ideal) (arg7.view.writes (Elt Ideal) f (kernelRun0_A.sl.HS1_4 c i arg2 harg2 arg3 harg3 arg6 x0 x1)) =
    (start x0 x1 (i 1).val).z := by
  unfold kernelRun0_A.sl.HS1_4
  rw [read_stack]
  refine stack_eq _ _ _ _ _ (fun r l => ?_) (fun r l => ?_) (fun r l => ?_) (fun r l => ?_)
  all_goals sl_unfold_run_names
  all_goals simp only [cov_piece0, cov_piece1, cov_piece2, cov_piece3, pay90, pay91, pay92, pay93]
  all_goals simp only [zn0, zn1, zn2, zn3]
  all_goals unfold_payloads
  all_goals pointwise
  all_goals rfl

theorem start_w (f) : arg8.view.read (Elt Ideal) (arg8.view.writes (Elt Ideal) f (kernelRun0_A.sl.HS2_4 c i arg2 harg2 arg3 harg3 arg6 x0 x1)) =
    (start x0 x1 (i 1).val).w := by
  unfold kernelRun0_A.sl.HS2_4
  rw [read_stack]
  refine stack_eq _ _ _ _ _ (fun r l => ?_) (fun r l => ?_) (fun r l => ?_) (fun r l => ?_)
  all_goals sl_unfold_run_names
  all_goals simp only [cov_piece0, cov_piece1, cov_piece2, cov_piece3, pay90, pay91, pay92, pay93]
  all_goals simp only [zd0, zd1, zd2, zd3, pay89]
  all_goals unfold_payloads
  all_goals pointwise
  all_goals simp only [below, select_ite]
  · simp only [start, wd, carried, spd, ite_mul, zero_mul, Nat.zero_add]
    rfl
  all_goals simp only [start, wd, carried, spd, ite_mul, zero_mul, Nat.zero_add]
  all_goals rfl

theorem start_acc (f) : arg9.view.read (Elt Ideal) (arg9.view.writes (Elt Ideal) f kernelRun0_A.sl.HS3_4) =
    (start x0 x1 (i 1).val).acc := by
  unfold kernelRun0_A.sl.HS3_4
  rw [read_stack]
  refine stack_eq _ _ _ _ _ (fun r l => ?_) (fun r l => ?_) (fun r l => ?_) (fun r l => ?_)
  all_goals unfold_payloads
  all_goals pointwise
  all_goals rfl

theorem start_run (f) : arg10.view.read (Elt Ideal) (arg10.view.writes (Elt Ideal) f (kernelRun0_A.sl.HS4_4 c i arg2 harg2 arg3 harg3 arg6 x0 x1)) =
    (start x0 x1 (i 1).val).run := by
  unfold kernelRun0_A.sl.HS4_4
  rw [read_stack]
  refine stack_eq _ _ _ _ _ (fun r l => ?_) (fun r l => ?_) (fun r l => ?_) (fun r l => ?_)
  all_goals sl_unfold_run_names
  all_goals simp only [cov_piece0, cov_piece1, cov_piece2, cov_piece3, pay90, pay91, pay92, pay93]
  all_goals simp only [zd0, zd1, zd2, zd3, pay89]
  all_goals unfold_payloads
  all_goals pointwise
  all_goals simp only [below, select_ite]
  · simp only [start, wd, carried, spd, ite_mul, zero_mul, Nat.zero_add]
    rfl
  all_goals simp only [start, wd, carried, spd, ite_mul, zero_mul, Nat.zero_add]
  all_goals rfl

end Cert.KernelIdeal.Sb
-- ==== Proof.SbEnd.lean ====
/- What the stacks hold when the walk ends, and the output block a grid point writes. -/
module

public import proofs.«01_k».proof.Defs
public import proofs.«01_k».proof.Proof.Gen.KernelIdeal.Value
public import proofs.«01_k».proof.Proof.SbStart
public import Idealize.ShloMosaic.Lib.Pipeline.ValueKit
public import Idealize.ShloMosaic.Lib.Pipeline.ValueKit.Stack
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Sb

open Cert.KernelIdeal Cert.KernelIdeal.Gen

/-- The stacks when the walk ends. -/
def last (X : S128x512.Idx → EReal) (K V : S1x512x2048.Idx → EReal) (i : ℕ) : St := walk (q2 X) K V tri i (start X K i) i

variable (c : Dev nD) (i : grid0.Coords) (arg2 : Memref sig .tc .vmem S128x512 .bf16) (harg2 : arg2.IsWhole) (arg3 : Memref sig .tc .vmem S1x512x2048 .bf16) (harg3 : arg3.IsWhole) (arg4 : Memref sig .tc .vmem S1x512x2048 .bf16) (harg4 : arg4.IsWhole) (arg5 : Memref sig .tc .vmem S128x512 .bf16) (harg5 : arg5.IsWhole) (arg6 : Memref sig .tc .vmem S4x256x128 .bf16) (harg6 : arg6.IsWhole) (arg7 : Memref sig .tc .vmem S4x256x128 .f32) (harg7 : arg7.IsWhole) (arg8 : Memref sig .tc .vmem S4x256x128 .bf16) (harg8 : arg8.IsWhole) (arg9 : Memref sig .tc .vmem S4x256x128 .f32) (harg9 : arg9.IsWhole) (arg10 : Memref sig .tc .vmem S4x256x128 .f32) (harg10 : arg10.IsWhole) (x0 : Vec Ideal S128x512 .bf16) (x1 x2 : Vec Ideal S1x512x2048 .bf16)

theorem walk_trips : walk (q2 x0) x1 x2 tri (i 1).val (start x0 x1 (i 1).val) (k0_t1_loop i).trips = last x0 x1 x2 (i 1).val := by
  rw [trips1]
  rfl

theorem cov_slot0 {e : EltTy} (v : View sig .tc .vmem S4x256x128 e) (L : List (View.Piece (Elt Ideal) S4x256x128 e)) (A : Vec Ideal S4x256x128 e)
    (h : v.read (Elt Ideal) (v.writes (Elt Ideal) v.junk L) = A) (inb) :
    v.readCov L (Rect.unit ![0, 0, 0] ![1, 256, 128] inb).toLoadRect = slot 0 A := by
  have e := ld_slot0 v (v.writes (Elt Ideal) v.junk L) inb
  rw [h] at e
  exact e

theorem cov_slot1 {e : EltTy} (v : View sig .tc .vmem S4x256x128 e) (L : List (View.Piece (Elt Ideal) S4x256x128 e)) (A : Vec Ideal S4x256x128 e)
    (h : v.read (Elt Ideal) (v.writes (Elt Ideal) v.junk L) = A) (inb) :
    v.readCov L (Rect.unit ![1, 0, 0] ![1, 256, 128] inb).toLoadRect = slot 1 A := by
  have e := ld_slot1 v (v.writes (Elt Ideal) v.junk L) inb
  rw [h] at e
  exact e

theorem cov_slot2 {e : EltTy} (v : View sig .tc .vmem S4x256x128 e) (L : List (View.Piece (Elt Ideal) S4x256x128 e)) (A : Vec Ideal S4x256x128 e)
    (h : v.read (Elt Ideal) (v.writes (Elt Ideal) v.junk L) = A) (inb) :
    v.readCov L (Rect.unit ![2, 0, 0] ![1, 256, 128] inb).toLoadRect = slot 2 A := by
  have e := ld_slot2 v (v.writes (Elt Ideal) v.junk L) inb
  rw [h] at e
  exact e

theorem cov_slot3 {e : EltTy} (v : View sig .tc .vmem S4x256x128 e) (L : List (View.Piece (Elt Ideal) S4x256x128 e)) (A : Vec Ideal S4x256x128 e)
    (h : v.read (Elt Ideal) (v.writes (Elt Ideal) v.junk L) = A) (inb) :
    v.readCov L (Rect.unit ![3, 0, 0] ![1, 256, 128] inb).toLoadRect = slot 3 A := by
  have e := ld_slot3 v (v.writes (Elt Ideal) v.junk L) inb
  rw [h] at e
  exact e

theorem end_w0 : kernelRun0_A.sl.v312 c i arg2 harg2 arg3 harg3 arg4 harg4 arg5 harg5 arg6 harg6 arg7 harg7 arg8 harg8 arg9 harg9 arg10 harg10 x0 x1 x2 = slot 0 (last x0 x1 x2 (i 1).val).w := by
  unfold kernelRun0_A.sl.v312
  refine cov_slot0 _ _ _ ?_ _
  have e2 : Scf.trips (k0_t2_loop i).lb (k0_t2_loop i).ub (k0_t2_loop i).st = 0 := trips2 i
  rw [e2, pb_k0_t2.eq_1]
  dsimp only
  rw [List.nil_append, View.writes_append, pay89]
  have h := (walk_read Variants.none c none i arg2 harg2 arg3 harg3 arg4 harg4 arg5 harg5 arg6 harg6 arg7 harg7 arg8 harg8 arg9 harg9 arg10 harg10 (BitVec.ofNat 32 (i 1).val) tri (harg3.unread x1) (harg4.unread x2) (arg6.view.writes (Elt Ideal) arg6.view.junk (kernelRun0_A.sl.HS0_4 c arg2 harg2 x0)) _ _ _ _ (k0_t1_loop i).trips le_rfl (start x0 x1 (i 1).val) (start_z c i arg2 harg2 arg3 harg3 arg6 arg7 x0 x1 arg7.view.junk) (start_w c i arg2 harg2 arg3 harg3 arg6 arg8 x0 x1 arg8.view.junk) (start_acc i arg9 x0 x1 arg9.view.junk) (start_run c i arg2 harg2 arg3 harg3 arg6 arg10 x0 x1 arg10.view.junk)).2.1
  rw [start_q, harg3.read_unread, harg4.read_unread, walk_trips] at h
  exact h

theorem end_w1 : kernelRun0_A.sl.v318 c i arg2 harg2 arg3 harg3 arg4 harg4 arg5 harg5 arg6 harg6 arg7 harg7 arg8 harg8 arg9 harg9 arg10 harg10 x0 x1 x2 = slot 1 (last x0 x1 x2 (i 1).val).w := by
  unfold kernelRun0_A.sl.v318
  refine cov_slot1 _ _ _ ?_ _
  have e2 : Scf.trips (k0_t2_loop i).lb (k0_t2_loop i).ub (k0_t2_loop i).st = 0 := trips2 i
  rw [e2, pb_k0_t2.eq_1]
  dsimp only
  rw [List.nil_append, View.writes_append, pay89]
  have h := (walk_read Variants.none c none i arg2 harg2 arg3 harg3 arg4 harg4 arg5 harg5 arg6 harg6 arg7 harg7 arg8 harg8 arg9 harg9 arg10 harg10 (BitVec.ofNat 32 (i 1).val) tri (harg3.unread x1) (harg4.unread x2) (arg6.view.writes (Elt Ideal) arg6.view.junk (kernelRun0_A.sl.HS0_4 c arg2 harg2 x0)) _ _ _ _ (k0_t1_loop i).trips le_rfl (start x0 x1 (i 1).val) (start_z c i arg2 harg2 arg3 harg3 arg6 arg7 x0 x1 arg7.view.junk) (start_w c i arg2 harg2 arg3 harg3 arg6 arg8 x0 x1 arg8.view.junk) (start_acc i arg9 x0 x1 arg9.view.junk) (start_run c i arg2 harg2 arg3 harg3 arg6 arg10 x0 x1 arg10.view.junk)).2.1
  rw [start_q, harg3.read_unread, harg4.read_unread, walk_trips] at h
  exact h

theorem end_w2 : kernelRun0_A.sl.v324 c i arg2 harg2 arg3 harg3 arg4 harg4 arg5 harg5 arg6 harg6 arg7 harg7 arg8 harg8 arg9 harg9 arg10 harg10 x0 x1 x2 = slot 2 (last x0 x1 x2 (i 1).val).w := by
  unfold kernelRun0_A.sl.v324
  refine cov_slot2 _ _ _ ?_ _
  have e2 : Scf.trips (k0_t2_loop i).lb (k0_t2_loop i).ub (k0_t2_loop i).st = 0 := trips2 i
  rw [e2, pb_k0_t2.eq_1]
  dsimp only
  rw [List.nil_append, View.writes_append, pay89]
  have h := (walk_read Variants.none c none i arg2 harg2 arg3 harg3 arg4 harg4 arg5 harg5 arg6 harg6 arg7 harg7 arg8 harg8 arg9 harg9 arg10 harg10 (BitVec.ofNat 32 (i 1).val) tri (harg3.unread x1) (harg4.unread x2) (arg6.view.writes (Elt Ideal) arg6.view.junk (kernelRun0_A.sl.HS0_4 c arg2 harg2 x0)) _ _ _ _ (k0_t1_loop i).trips le_rfl (start x0 x1 (i 1).val) (start_z c i arg2 harg2 arg3 harg3 arg6 arg7 x0 x1 arg7.view.junk) (start_w c i arg2 harg2 arg3 harg3 arg6 arg8 x0 x1 arg8.view.junk) (start_acc i arg9 x0 x1 arg9.view.junk) (start_run c i arg2 harg2 arg3 harg3 arg6 arg10 x0 x1 arg10.view.junk)).2.1
  rw [start_q, harg3.read_unread, harg4.read_unread, walk_trips] at h
  exact h

theorem end_w3 : kernelRun0_A.sl.v330 c i arg2 harg2 arg3 harg3 arg4 harg4 arg5 harg5 arg6 harg6 arg7 harg7 arg8 harg8 arg9 harg9 arg10 harg10 x0 x1 x2 = slot 3 (last x0 x1 x2 (i 1).val).w := by
  unfold kernelRun0_A.sl.v330
  refine cov_slot3 _ _ _ ?_ _
  have e2 : Scf.trips (k0_t2_loop i).lb (k0_t2_loop i).ub (k0_t2_loop i).st = 0 := trips2 i
  rw [e2, pb_k0_t2.eq_1]
  dsimp only
  rw [List.nil_append, View.writes_append, pay89]
  have h := (walk_read Variants.none c none i arg2 harg2 arg3 harg3 arg4 harg4 arg5 harg5 arg6 harg6 arg7 harg7 arg8 harg8 arg9 harg9 arg10 harg10 (BitVec.ofNat 32 (i 1).val) tri (harg3.unread x1) (harg4.unread x2) (arg6.view.writes (Elt Ideal) arg6.view.junk (kernelRun0_A.sl.HS0_4 c arg2 harg2 x0)) _ _ _ _ (k0_t1_loop i).trips le_rfl (start x0 x1 (i 1).val) (start_z c i arg2 harg2 arg3 harg3 arg6 arg7 x0 x1 arg7.view.junk) (start_w c i arg2 harg2 arg3 harg3 arg6 arg8 x0 x1 arg8.view.junk) (start_acc i arg9 x0 x1 arg9.view.junk) (start_run c i arg2 harg2 arg3 harg3 arg6 arg10 x0 x1 arg10.view.junk)).2.1
  rw [start_q, harg3.read_unread, harg4.read_unread, walk_trips] at h
  exact h

theorem end_acc0 : kernelRun0_A.sl.v337 c i arg2 harg2 arg3 harg3 arg4 harg4 arg5 harg5 arg6 harg6 arg7 harg7 arg8 harg8 arg9 harg9 arg10 harg10 x0 x1 x2 = slot 0 (last x0 x1 x2 (i 1).val).acc := by
  unfold kernelRun0_A.sl.v337
  refine cov_slot0 _ _ _ ?_ _
  have e2 : Scf.trips (k0_t2_loop i).lb (k0_t2_loop i).ub (k0_t2_loop i).st = 0 := trips2 i
  rw [e2, pb_k0_t2.eq_1]
  dsimp only
  rw [List.nil_append, View.writes_append, pay89]
  have h := (walk_read Variants.none c none i arg2 harg2 arg3 harg3 arg4 harg4 arg5 harg5 arg6 harg6 arg7 harg7 arg8 harg8 arg9 harg9 arg10 harg10 (BitVec.ofNat 32 (i 1).val) tri (harg3.unread x1) (harg4.unread x2) (arg6.view.writes (Elt Ideal) arg6.view.junk (kernelRun0_A.sl.HS0_4 c arg2 harg2 x0)) _ _ _ _ (k0_t1_loop i).trips le_rfl (start x0 x1 (i 1).val) (start_z c i arg2 harg2 arg3 harg3 arg6 arg7 x0 x1 arg7.view.junk) (start_w c i arg2 harg2 arg3 harg3 arg6 arg8 x0 x1 arg8.view.junk) (start_acc i arg9 x0 x1 arg9.view.junk) (start_run c i arg2 harg2 arg3 harg3 arg6 arg10 x0 x1 arg10.view.junk)).2.2.1
  rw [start_q, harg3.read_unread, harg4.read_unread, walk_trips] at h
  exact h

theorem end_acc1 : kernelRun0_A.sl.v347 c i arg2 harg2 arg3 harg3 arg4 harg4 arg5 harg5 arg6 harg6 arg7 harg7 arg8 harg8 arg9 harg9 arg10 harg10 x0 x1 x2 = slot 1 (last x0 x1 x2 (i 1).val).acc := by
  unfold kernelRun0_A.sl.v347
  refine cov_slot1 _ _ _ ?_ _
  have e2 : Scf.trips (k0_t2_loop i).lb (k0_t2_loop i).ub (k0_t2_loop i).st = 0 := trips2 i
  rw [e2, pb_k0_t2.eq_1]
  dsimp only
  rw [List.nil_append, View.writes_append, pay89]
  have h := (walk_read Variants.none c none i arg2 harg2 arg3 harg3 arg4 harg4 arg5 harg5 arg6 harg6 arg7 harg7 arg8 harg8 arg9 harg9 arg10 harg10 (BitVec.ofNat 32 (i 1).val) tri (harg3.unread x1) (harg4.unread x2) (arg6.view.writes (Elt Ideal) arg6.view.junk (kernelRun0_A.sl.HS0_4 c arg2 harg2 x0)) _ _ _ _ (k0_t1_loop i).trips le_rfl (start x0 x1 (i 1).val) (start_z c i arg2 harg2 arg3 harg3 arg6 arg7 x0 x1 arg7.view.junk) (start_w c i arg2 harg2 arg3 harg3 arg6 arg8 x0 x1 arg8.view.junk) (start_acc i arg9 x0 x1 arg9.view.junk) (start_run c i arg2 harg2 arg3 harg3 arg6 arg10 x0 x1 arg10.view.junk)).2.2.1
  rw [start_q, harg3.read_unread, harg4.read_unread, walk_trips] at h
  exact h

theorem end_acc2 : kernelRun0_A.sl.v357 c i arg2 harg2 arg3 harg3 arg4 harg4 arg5 harg5 arg6 harg6 arg7 harg7 arg8 harg8 arg9 harg9 arg10 harg10 x0 x1 x2 = slot 2 (last x0 x1 x2 (i 1).val).acc := by
  unfold kernelRun0_A.sl.v357
  refine cov_slot2 _ _ _ ?_ _
  have e2 : Scf.trips (k0_t2_loop i).lb (k0_t2_loop i).ub (k0_t2_loop i).st = 0 := trips2 i
  rw [e2, pb_k0_t2.eq_1]
  dsimp only
  rw [List.nil_append, View.writes_append, pay89]
  have h := (walk_read Variants.none c none i arg2 harg2 arg3 harg3 arg4 harg4 arg5 harg5 arg6 harg6 arg7 harg7 arg8 harg8 arg9 harg9 arg10 harg10 (BitVec.ofNat 32 (i 1).val) tri (harg3.unread x1) (harg4.unread x2) (arg6.view.writes (Elt Ideal) arg6.view.junk (kernelRun0_A.sl.HS0_4 c arg2 harg2 x0)) _ _ _ _ (k0_t1_loop i).trips le_rfl (start x0 x1 (i 1).val) (start_z c i arg2 harg2 arg3 harg3 arg6 arg7 x0 x1 arg7.view.junk) (start_w c i arg2 harg2 arg3 harg3 arg6 arg8 x0 x1 arg8.view.junk) (start_acc i arg9 x0 x1 arg9.view.junk) (start_run c i arg2 harg2 arg3 harg3 arg6 arg10 x0 x1 arg10.view.junk)).2.2.1
  rw [start_q, harg3.read_unread, harg4.read_unread, walk_trips] at h
  exact h

theorem end_acc3 : kernelRun0_A.sl.v367 c i arg2 harg2 arg3 harg3 arg4 harg4 arg5 harg5 arg6 harg6 arg7 harg7 arg8 harg8 arg9 harg9 arg10 harg10 x0 x1 x2 = slot 3 (last x0 x1 x2 (i 1).val).acc := by
  unfold kernelRun0_A.sl.v367
  refine cov_slot3 _ _ _ ?_ _
  have e2 : Scf.trips (k0_t2_loop i).lb (k0_t2_loop i).ub (k0_t2_loop i).st = 0 := trips2 i
  rw [e2, pb_k0_t2.eq_1]
  dsimp only
  rw [List.nil_append, View.writes_append, pay89]
  have h := (walk_read Variants.none c none i arg2 harg2 arg3 harg3 arg4 harg4 arg5 harg5 arg6 harg6 arg7 harg7 arg8 harg8 arg9 harg9 arg10 harg10 (BitVec.ofNat 32 (i 1).val) tri (harg3.unread x1) (harg4.unread x2) (arg6.view.writes (Elt Ideal) arg6.view.junk (kernelRun0_A.sl.HS0_4 c arg2 harg2 x0)) _ _ _ _ (k0_t1_loop i).trips le_rfl (start x0 x1 (i 1).val) (start_z c i arg2 harg2 arg3 harg3 arg6 arg7 x0 x1 arg7.view.junk) (start_w c i arg2 harg2 arg3 harg3 arg6 arg8 x0 x1 arg8.view.junk) (start_acc i arg9 x0 x1 arg9.view.junk) (start_run c i arg2 harg2 arg3 harg3 arg6 arg10 x0 x1 arg10.view.junk)).2.2.1
  rw [start_q, harg3.read_unread, harg4.read_unread, walk_trips] at h
  exact h

/-- The output block at query block `i`: row `y 0` of the lane's head. -/
def block (X : S128x512.Idx → EReal) (K V : S1x512x2048.Idx → EReal) (i : ℕ) : S128x512.Idx → EReal := fun y =>
  (fun t : Stk => t (ix3 ⟨(y 1).val / 128, by have : (y 1).val < 512 := (y 1).isLt; omega⟩
    ⟨if (y 1).val % 128 < 64 then (y 0).val else 128 + (y 0).val, by have : (y 0).val < 128 := (y 0).isLt; split <;> omega⟩
    ⟨(y 1).val % 128, Nat.mod_lt _ (by decide)⟩))
    (fun z => (last X K V i).acc z + valued (last X K V i).w V 0 z)

/-- The weighted values at the walk's end, the last block of tokens included. -/
def total (X : S128x512.Idx → EReal) (K V : S1x512x2048.Idx → EReal) (i : ℕ) : Stk := fun z =>
  (last X K V i).acc z + valued (last X K V i).w V 0 z

theorem block_at (X : S128x512.Idx → EReal) (K V : S1x512x2048.Idx → EReal) (i : ℕ) (y : S128x512.Idx) (g : Fin 4) (r e : Fin 128)
    (h0 : (y 0).val = r.val) (h1 : (y 1).val = 128 * g.val + e.val) :
    block X K V i y = if e.val < 64 then total X K V i (ix3 g ⟨r.val, by omega⟩ e) else total X K V i (ix3 g ⟨128 + r.val, by omega⟩ e) := by
  have e1 : (y 1).val / 128 = g.val := by omega
  have e2 : (y 1).val % 128 = e.val := by omega
  split
  · rename_i h
    refine congrArg (total X K V i) (ext_S4x256x128 e1 ?_ e2)
    show (if (y 1).val % 128 < 64 then (y 0).val else 128 + (y 0).val) = r.val
    rw [e2, if_pos h, h0]
  · rename_i h
    refine congrArg (total X K V i) (ext_S4x256x128 e1 ?_ e2)
    show (if (y 1).val % 128 < 64 then (y 0).val else 128 + (y 0).val) = 128 + r.val
    rw [e2, if_neg h, h0]

theorem total_at (g : Fin 4) (r : Fin 256) (e : Fin 128) (off : Fin 3 → ℕ) (inb) (h : off = ![0, 128 * g.val, 0]) :
    slot (e := .f32) g (last x0 x1 x2 (i 1).val).acc (ix3 0 r e) + ∑ k : Fin 128, slot (e := .f32) g (last x0 x1 x2 (i 1).val).w (ix3 0 r k) *
      arg4.view.readAt (Elt Ideal) (Rect.unit (s := S1x512x2048) off ![1, 128, 128] inb).toLoadRect (harg4.unread x2) (ix3 0 e k) =
    total x0 x1 x2 (i 1).val (ix3 g r e) := by
  unfold total valued
  refine congrArg (fun v : EReal => _ + v) ?_
  refine @Finset.sum_congr _ EReal _ _ _ _ _ rfl fun k _ => ?_
  rw [ld_kv _ _ _ _ (128 * g.val) 0 h e k (by omega), harg4.read_unread]
  rfl

theorem out_block : out0_A_3 c i arg2 harg2 arg3 harg3 arg4 harg4 arg5 harg5 arg6 harg6 arg7 harg7 arg8 harg8 arg9 harg9 arg10 harg10 x0 x1 x2 = block x0 x1 x2 (i 1).val := by
  unfold out0_A_3 kernelRun0_A
  dsimp only
  rw [View.read_writes_junk_eq_canon]
  funext y
  canon_tiles x h
  all_goals simp only [kernelRun0_A.sl.r_25, kernelRun0_A.sl.r_26, kernelRun0_A.sl.r_27, kernelRun0_A.sl.r_28, kernelRun0_A.sl.r_29, kernelRun0_A.sl.r_30, kernelRun0_A.sl.r_31, kernelRun0_A.sl.v336, end_w0, end_w1, end_w2, end_w3, end_acc0, end_acc1, end_acc2, end_acc3]
  all_goals unfold_payloads
  all_goals pointwise
  · have e1 := total_at i arg4 harg4 x0 x1 x2 3 ⟨(x 0).val, by omega⟩ (x 1) _ (k0_off28_inb i) (off28 i)
    have e2 := total_at i arg4 harg4 x0 x1 x2 3 ⟨128 + (x 0).val, by omega⟩ (x 1) _ (k0_off28_inb i) (off28 i)
    rw [block_at _ _ _ _ y 3 (x 0) (x 1) h0 (by simpa using h1), ← e1, ← e2, lane_lt (x 1), select_ite]
    rfl
  · have e1 := total_at i arg4 harg4 x0 x1 x2 2 ⟨(x 0).val, by omega⟩ (x 1) _ (k0_off27_inb i) (off27 i)
    have e2 := total_at i arg4 harg4 x0 x1 x2 2 ⟨128 + (x 0).val, by omega⟩ (x 1) _ (k0_off27_inb i) (off27 i)
    rw [block_at _ _ _ _ y 2 (x 0) (x 1) h0 (by simpa using h1), ← e1, ← e2, lane_lt (x 1), select_ite]
    rfl
  · have e1 := total_at i arg4 harg4 x0 x1 x2 1 ⟨(x 0).val, by omega⟩ (x 1) _ (k0_off26_inb i) (off26 i)
    have e2 := total_at i arg4 harg4 x0 x1 x2 1 ⟨128 + (x 0).val, by omega⟩ (x 1) _ (k0_off26_inb i) (off26 i)
    rw [block_at _ _ _ _ y 1 (x 0) (x 1) h0 (by simpa using h1), ← e1, ← e2, lane_lt (x 1), select_ite]
    rfl
  · have e1 := total_at i arg4 harg4 x0 x1 x2 0 ⟨(x 0).val, by omega⟩ (x 1) _ (k0_off25_inb i) (off25 i)
    have e2 := total_at i arg4 harg4 x0 x1 x2 0 ⟨128 + (x 0).val, by omega⟩ (x 1) _ (k0_off25_inb i) (off25 i)
    rw [block_at _ _ _ _ y 0 (x 0) (x 1) h0 (by simpa using h1), ← e1, ← e2, lane_lt (x 1), select_ite]
    rfl

end Cert.KernelIdeal.Sb
-- ==== Proof.SbReal.lean ====
/- The walk over the key blocks, read over the real numbers: one row of a stack holds the softplus sums, the weights and the
   weighted values of one query. -/
module

public import proofs.«01_k».proof.Defs
public import proofs.«01_k».proof.Proof.SbEnd

@[expose] public section

noncomputable section

open Idealize.ShloMosaic

namespace Cert.KernelIdeal.Sb

open Cert.KernelIdeal Finset

/-! ## Real values -/

/-- A finite sum of reals, as an extended real. -/
theorem coe_sum {α : Type} (s : Finset α) (f : α → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) := EReal.coe_strictMono.monotone.map_max

/-- `log (1 + exp x)`. -/
def lsp (x : ℝ) : ℝ := max x 0 + Real.log (1 + Real.exp (0 - max x (-x)))

theorem log1p_exp_coe (x : ℝ) : Ideal.log (1 + Ideal.exp (x : EReal)) = ((Real.log (1 + Real.exp x) : ℝ) : EReal) := by
  rw [Ideal.exp_coe, ← EReal.coe_one, ← EReal.coe_add, Ideal.log_coe, if_neg (not_le.2 (by positivity))]

theorem sp_coe (x : ℝ) : sp (x : EReal) = (lsp x : EReal) := by
  have h : (0 : EReal) - max (x : EReal) (-(x : EReal)) = ((0 - max x (-x) : ℝ) : EReal) := by
    rw [← EReal.coe_neg, ← coe_max, ← EReal.coe_zero, ← EReal.coe_sub]
  unfold sp lsp
  rw [h, log1p_exp_coe, EReal.coe_add, coe_max, EReal.coe_zero]

/-! ## What a query's row holds -/

/-- The softplus of the scores before token `p`. -/
def spm (z : ℕ → ℝ) (p s : ℕ) : ℝ := if s < p then lsp (z s) else 0

/-- The softplus of the scores from token `a` on. -/
def tail (z : ℕ → ℝ) (p a : ℕ) : ℝ := ∑ s ∈ Ico a 2048, spm z p s

/-- The weight of token `j`. -/
def wt (z : ℕ → ℝ) (p j : ℕ) : ℝ := if j < p then Real.exp (z j - lsp (z j) - tail z p (j + 1)) else 0

theorem tail_split (z : ℕ → ℝ) (p : ℕ) {a b : ℕ} (h : a ≤ b) (hb : b ≤ 2048) : tail z p a = (∑ s ∈ Ico a b, spm z p s) + tail z p b :=
  (sum_Ico_consecutive _ h hb).symm

theorem tail_zero (z : ℕ → ℝ) (p : ℕ) {a : ℕ} (h : p ≤ a) : tail z p a = 0 :=
  sum_eq_zero fun s hs => if_neg (by have := (mem_Ico.1 hs).1; omega)

/-! ## A block's sums -/

theorem sum_block (f : ℕ → ℝ) (b : ℕ) : ∑ x : Fin 128, f (b + x.val) = ∑ s ∈ Ico b (b + 128), f s := by
  rw [sum_Ico_eq_sum_range, Fin.sum_univ_eq_sum_range (fun x => f (b + x)) 128]
  simp

theorem sum_later (f : ℕ → ℝ) (b c : ℕ) : ∑ x : Fin 128, (if c < x.val then f (b + x.val) else 0) = ∑ s ∈ Ico (b + c + 1) (b + 128), f s := by
  have e : ∀ x : Fin 128, (if c < x.val then f (b + x.val) else 0) = (fun s => if b + c < s then f s else 0) (b + x.val) := fun x => by
    by_cases h : c < x.val
    · simp [h]
    · simp [h]
  rw [sum_congr rfl fun x _ => e x, sum_block (fun s => if b + c < s then f s else 0), ← sum_filter]
  refine sum_congr (Finset.ext fun s => ?_) fun _ _ => rfl
  simp only [mem_filter, mem_Ico]
  omega

/-- The remainders of a row of reals vanish, so that one block of the product is left. -/
theorem carried_coe (a : Stk) (g : Fin 4) (r : Fin 256) (f : ℕ → ℝ) (b : ℕ) (h : ∀ x : Fin 128, a (ix3 g r x) = (f (b + x.val) : EReal)) (o : ℕ)
    (ho : o + 128 ≤ 256) (c : Fin 128) : carried tri a o ho (ix3 g r c) =
      ((∑ x : Fin 128, if o + c.val < x.val ∨ 128 ≤ o + c.val then f (b + x.val) else 0 : ℝ) : EReal) := by
  have e1 : ∀ x : Fin 128, a (ix3 g r x) * tri (ix2 ⟨x.val, by omega⟩ ⟨o + c.val, by omega⟩) =
      ((if o + c.val < x.val ∨ 128 ≤ o + c.val then f (b + x.val) else 0 : ℝ) : EReal) := fun x => by
    rw [h x]
    show _ * (if o + c.val < x.val % 128 ∨ 128 ≤ o + c.val then (1 : EReal) else 0) = _
    rw [Nat.mod_eq_of_lt x.isLt]
    split <;> simp
  have e2 : ∀ x : Fin 128, (a (ix3 g r x) - a (ix3 g r x)) * tri (ix2 ⟨128 + x.val, by omega⟩ ⟨o + c.val, by omega⟩) = 0 := fun x => by
    rw [h x, ← EReal.coe_sub, sub_self, EReal.coe_zero, zero_mul]
  rw [coe_sum]
  show (∑ x : Fin 128, a (ix3 g r x) * tri (ix2 ⟨x.val, by omega⟩ ⟨o + c.val, by omega⟩)) +
    (∑ x : Fin 128, (a (ix3 g r x) - a (ix3 g r x)) * tri (ix2 ⟨128 + x.val, by omega⟩ ⟨o + c.val, by omega⟩)) = _
  rw [sum_congr rfl fun x _ => e1 x, sum_congr rfl fun x _ => e2 x, sum_const_zero, add_zero]

theorem carried_later (a : Stk) (g : Fin 4) (r : Fin 256) (f : ℕ → ℝ) (b : ℕ) (h : ∀ x : Fin 128, a (ix3 g r x) = (f (b + x.val) : EReal)) (ho)
    (c : Fin 128) : carried tri a 0 ho (ix3 g r c) = ((∑ s ∈ Ico (b + c.val + 1) (b + 128), f s : ℝ) : EReal) := by
  rw [carried_coe a g r f b h, ← sum_later]
  refine congrArg _ (sum_congr rfl fun x _ => ?_)
  have : ¬ 128 ≤ c.val := by omega
  simp [this]

theorem carried_all (a : Stk) (g : Fin 4) (r : Fin 256) (f : ℕ → ℝ) (b : ℕ) (h : ∀ x : Fin 128, a (ix3 g r x) = (f (b + x.val) : EReal)) (ho)
    (c : Fin 128) : carried tri a 128 ho (ix3 g r c) = ((∑ s ∈ Ico b (b + 128), f s : ℝ) : EReal) := by
  rw [carried_coe a g r f b h, ← sum_block]
  refine congrArg _ (sum_congr rfl fun x _ => ?_)
  simp

/-- The weighted values of a block, of real weights and values. -/
theorem valued_coe (w : Stk) (V : S1x512x2048.Idx → EReal) (g : Fin 4) (r : Fin 256) (e : Fin 128) (f v : ℕ → ℝ) (b : ℕ) (hb : b + 128 ≤ 2048)
    (hw : ∀ x : Fin 128, w (ix3 g r x) = (f (b + x.val) : EReal))
    (hv : ∀ t : Fin 2048, V (ix3 0 ⟨128 * g.val + e.val, by omega⟩ t) = (v t.val : EReal)) :
    valued w V b (ix3 g r e) = ((∑ s ∈ Ico b (b + 128), f s * v s : ℝ) : EReal) := by
  rw [← sum_block, coe_sum]
  show (∑ j : Fin 128, w (ix3 g r j) * V (ix3 0 ⟨128 * g.val + e.val, _⟩ ⟨(b + j.val) % 2048, _⟩)) = _
  refine sum_congr rfl fun j _ => ?_
  rw [hw, hv, EReal.coe_mul]
  simp only [Nat.mod_eq_of_lt (show b + j.val < 2048 by omega)]

/-! ## The walk -/

section
variable (X : S128x512.Idx → EReal) (K V : S1x512x2048.Idx → EReal) (i : ℕ) (g : Fin 4) (r : Fin 256) (z : ℕ → ℝ)

/-- What the row holds after `n` steps. -/
structure Row (p n : ℕ) (s : St) : Prop where
  z_eq : ∀ c : Fin 128, s.z (ix3 g r c) = (z (128 * (i - (n + 1)) + c.val) : EReal)
  w_eq : ∀ c : Fin 128, s.w (ix3 g r c) = (wt z p (128 * (i - n) + c.val) : EReal)
  run_eq : ∀ c : Fin 128, s.run (ix3 g r c) = (tail z p (128 * (i - n)) : EReal)
  acc_eq : ∀ (e : Fin 128) (v : ℕ → ℝ), (∀ t : Fin 2048, V (ix3 0 ⟨128 * g.val + e.val, by omega⟩ t) = (v t.val : EReal)) →
    s.acc (ix3 g r e) = ((∑ j ∈ Ico (128 * (i - n + 1)) (128 * (i + 1)), wt z p j * v j : ℝ) : EReal)

variable (hi : i < 16) (hz : ∀ (s : ℕ) (c : Fin 128), s + 128 ≤ 2048 → scores (q2 X) K s (ix3 g r c) = (z (s + c.val) : EReal))

include hi hz

theorem row_start : Row V i g r z (128 * i + r.val % 128) 0 (start X K i) := by
  have hs : ∀ x : Fin 128, spd (scores (q2 X) K (128 * i)) (ix3 g r x) = (spm z (128 * i + r.val % 128) (128 * i + x.val) : EReal) := fun x => by
    show (if x.val < r.val % 128 then sp (scores (q2 X) K (128 * i) (ix3 g r x)) else 0) = _
    unfold spm
    rw [hz _ _ (by omega), sp_coe]
    by_cases h : x.val < r.val % 128
    · rw [if_pos h, if_pos (by omega)]
    · rw [if_neg h, if_neg (by omega), EReal.coe_zero]
  refine ⟨fun c => hz _ _ (by omega), fun c => ?_, fun c => ?_, fun e v hv => ?_⟩
  · show (if c.val < r.val % 128 then Ideal.exp ((scores (q2 X) K (128 * i) (ix3 g r c) - sp (scores (q2 X) K (128 * i) (ix3 g r c))) -
      carried tri (spd (scores (q2 X) K (128 * i))) 0 (by decide) (ix3 g r c)) else 0) = _
    unfold wt
    rw [carried_later _ g r _ _ hs, hz _ _ (by omega), sp_coe, Nat.sub_zero]
    by_cases h : c.val < r.val % 128
    · rw [if_pos h, if_pos (by omega), ← EReal.coe_sub, ← EReal.coe_sub, Ideal.exp_coe,
        tail_split z _ (show 128 * i + c.val + 1 ≤ 128 * i + 128 by omega) (by omega), tail_zero z _ (show _ ≤ 128 * i + 128 by omega), add_zero]
    · rw [if_neg h, if_neg (by omega), EReal.coe_zero]
  · show carried tri (spd (scores (q2 X) K (128 * i))) 128 (by decide) (ix3 g r c) = _
    rw [carried_all _ g r _ _ hs, Nat.sub_zero, tail_split z _ (show 128 * i ≤ 128 * i + 128 by omega) (by omega),
      tail_zero z _ (show _ ≤ 128 * i + 128 by omega), add_zero]
  · show (0 : EReal) = _
    rw [Nat.sub_zero, Ico_self, sum_empty, EReal.coe_zero]

theorem row_step (p n : ℕ) (hp : 128 * i ≤ p) (hn : n < i) (s : St) (h : Row V i g r z p n s) : Row V i g r z p (n + 1) (step (q2 X) K V tri i n s) := by
  have hb : 128 * (i - (n + 1)) + 128 = 128 * (i - n) := by omega
  have hs : ∀ x : Fin 128, sp (s.z (ix3 g r x)) = (spm z p (128 * (i - (n + 1)) + x.val) : EReal) := fun x => by
    unfold spm
    rw [h.z_eq, sp_coe, if_pos (by omega)]
  refine ⟨fun c => hz _ _ (by omega), fun c => ?_, fun c => ?_, fun e v hv => ?_⟩
  · show Ideal.exp ((s.z (ix3 g r c) - sp (s.z (ix3 g r c))) - carried tri (fun y => sp (s.z y)) 0 (by decide) (ix3 g r c) - s.run (ix3 g r c)) = _
    unfold wt
    rw [carried_later _ g r _ _ hs, h.run_eq, h.z_eq, sp_coe, if_pos (by omega),
      tail_split z p (show 128 * (i - (n + 1)) + c.val + 1 ≤ 128 * (i - (n + 1)) + 128 by omega) (by omega), hb,
      ← EReal.coe_sub, ← EReal.coe_sub, ← EReal.coe_sub, Ideal.exp_coe, sub_sub]
  · show s.run (ix3 g r c) + carried tri (fun y => sp (s.z y)) 128 (by decide) (ix3 g r c) = _
    rw [carried_all _ g r _ _ hs, h.run_eq, tail_split z p (show 128 * (i - (n + 1)) ≤ 128 * (i - (n + 1)) + 128 by omega) (by omega), hb,
      ← EReal.coe_add, add_comm]
  · show s.acc (ix3 g r e) + valued s.w V (128 * (i - n)) (ix3 g r e) = _
    rw [valued_coe _ _ g r e (wt z p) v _ (by omega) h.w_eq hv, h.acc_eq e v hv, ← EReal.coe_add, add_comm,
      show 128 * (i - n + 1) = 128 * (i - n) + 128 by omega, sum_Ico_consecutive _ (by omega) (by omega),
      show 128 * (i - (n + 1) + 1) = 128 * (i - n) by omega]

theorem row_walk (n : ℕ) (hn : n ≤ i) : Row V i g r z (128 * i + r.val % 128) n (walk (q2 X) K V tri i (start X K i) n) := by
  induction n with
  | zero => exact row_start X K V i g r z hi hz
  | succ n ih => exact row_step X K V i g r z hi hz _ n (by omega) (by omega) _ (ih (by omega))

/-- The weighted values at the walk's end: a sum over all tokens. -/
theorem total_coe (e : Fin 128) (v : ℕ → ℝ) (hv : ∀ t : Fin 2048, V (ix3 0 ⟨128 * g.val + e.val, by omega⟩ t) = (v t.val : EReal)) :
    total X K V i (ix3 g r e) = ((∑ j ∈ range 2048, wt z (128 * i + r.val % 128) j * v j : ℝ) : EReal) := by
  have h := row_walk X K V i g r z hi hz i le_rfl
  show (walk (q2 X) K V tri i (start X K i) i).acc (ix3 g r e) + valued (walk (q2 X) K V tri i (start X K i) i).w V 0 (ix3 g r e) = _
  have hw : ∀ x : Fin 128, (walk (q2 X) K V tri i (start X K i) i).w (ix3 g r x) = (wt z (128 * i + r.val % 128) (0 + x.val) : EReal) := fun x => by
    rw [h.w_eq x, Nat.sub_self, Nat.mul_zero]
  rw [valued_coe _ _ g r e _ v 0 (by omega) hw hv, h.acc_eq e v hv, ← EReal.coe_add, add_comm, Nat.sub_self, Nat.zero_add, Nat.zero_add, Nat.mul_one,
    sum_Ico_consecutive _ (by omega) (by omega), range_eq_Ico, ← sum_Ico_consecutive _ (show 0 ≤ 128 * (i + 1) by omega) (show _ ≤ 2048 by omega)]
  rw [sum_eq_zero (s := Ico (128 * (i + 1)) 2048), add_zero]
  intro j hj
  have := (mem_Ico.1 hj).1
  unfold wt
  rw [if_neg (by omega), zero_mul]

end

end Cert.KernelIdeal.Sb
-- ==== Proof.SbFinal.lean ====
/- The stick-breaking attention of the prompts: what the kernel's result array holds. -/
module

public import proofs.«01_k».proof.Defs
public import proofs.«01_k».proof.Proof.SbReal

@[expose] public section

set_option maxRecDepth 16384

noncomputable section

open Idealize.ShloMosaic Idealize.ShloMosaic.TcCoe Idealize.SL.Sem
open Idealize.ShloMosaic.Pipeline (Dat)

namespace Cert.KernelIdeal.Sb

open Cert.KernelIdeal Cert.KernelIdeal.Gen Cert.KernelIdeal.Value

/-! ## The attention, over the real numbers -/

/-- The score of token `t` for token `p` of prompt `b`, in head `h`. -/
def score (A : S16384x1024.Idx → ℝ) (B : S8x1536x2048.Idx → ℝ) (b h : Fin 8) (p : Fin 2048) (t : ℕ) : ℝ :=
  ∑ d : Fin 64, A (ix2 ⟨2048 * b.val + p.val, by omega⟩ ⟨64 * h.val + d.val, by omega⟩) *
    B (ix3 b ⟨64 * h.val + d.val, by omega⟩ ⟨t % 2048, Nat.mod_lt _ (by decide)⟩)

/-- The weighted values of token `p` of prompt `b`, component `e` of head `h`. -/
def attend (A : S16384x1024.Idx → ℝ) (B : S8x1536x2048.Idx → ℝ) (b h : Fin 8) (p : Fin 2048) (e : Fin 64) : ℝ :=
  ∑ t ∈ Finset.range 2048, wt (score A B b h p) p.val t *
    B (ix3 b ⟨512 + (64 * h.val + e.val), by omega⟩ ⟨t % 2048, Nat.mod_lt _ (by decide)⟩)

/-- All of them: a row per token, a column per component of a head. -/
def attention (A : S16384x1024.Idx → ℝ) (B : S8x1536x2048.Idx → ℝ) : S16384x512.Idx → EReal := fun j =>
  (attend A B ⟨(j 0).val / 2048, by have : (j 0).val < 16384 := (j 0).isLt; omega⟩ ⟨(j 1).val / 64, by have : (j 1).val < 512 := (j 1).isLt; omega⟩
    ⟨(j 0).val % 2048, Nat.mod_lt _ (by decide)⟩ ⟨(j 1).val % 64, Nat.mod_lt _ (by decide)⟩ : ℝ)

theorem attention_at (A : S16384x1024.Idx → ℝ) (B : S8x1536x2048.Idx → ℝ) (j : S16384x512.Idx) (b h : Fin 8) (p : Fin 2048) (e : Fin 64)
    (h0 : (j 0).val = 2048 * b.val + p.val) (h1 : (j 1).val = 64 * h.val + e.val) : attention A B j = (attend A B b h p e : ℝ) := by
  have e1 : (⟨(j 0).val / 2048, by omega⟩ : Fin 8) = b := Fin.ext (by show (j 0).val / 2048 = _; omega)
  have e2 : (⟨(j 1).val / 64, by omega⟩ : Fin 8) = h := Fin.ext (by show (j 1).val / 64 = _; omega)
  have e3 : (⟨(j 0).val % 2048, by omega⟩ : Fin 2048) = p := Fin.ext (by show (j 0).val % 2048 = _; omega)
  have e4 : (⟨(j 1).val % 64, by omega⟩ : Fin 64) = e := Fin.ext (by show (j 1).val % 64 = _; omega)
  unfold attention
  simp only [e1, e2, e3, e4]

/-! ## A grid point's block -/

section
variable (A : S16384x1024.Idx → ℝ) (B : S8x1536x2048.Idx → ℝ) (b : Fin 8) (i : Fin 16)
  (X : S128x512.Idx → EReal) (K V : S1x512x2048.Idx → EReal)
  (hX : ∀ (r : Fin 128) (l : Fin 512), X (ix2 r l) = (A (ix2 ⟨2048 * b.val + (128 * i.val + r.val), by omega⟩ ⟨l.val, by omega⟩) : EReal))
  (hK : ∀ (l : Fin 512) (t : Fin 2048), K (ix3 0 l t) = (B (ix3 b ⟨l.val, by omega⟩ t) : EReal))
  (hV : ∀ (l : Fin 512) (t : Fin 2048), V (ix3 0 l t) = (B (ix3 b ⟨512 + l.val, by omega⟩ t) : EReal))

/-- A sum over 128 lanes of which one half vanishes. -/
theorem sum_lower (f : Fin 128 → EReal) (h : ∀ d : Fin 128, 64 ≤ d.val → f d = 0) : ∑ d : Fin 128, f d = ∑ d : Fin 64, f ⟨d.val, by omega⟩ := by
  rw [show (∑ d : Fin 128, f d) = ∑ d : Fin (64 + 64), f d from rfl, Fin.sum_univ_add,
    Finset.sum_eq_zero (f := fun d : Fin 64 => f (Fin.natAdd 64 d)) fun d _ => h _ (by simp), add_zero]
  rfl

theorem sum_upper (f : Fin 128 → EReal) (h : ∀ d : Fin 128, d.val < 64 → f d = 0) : ∑ d : Fin 128, f d = ∑ d : Fin 64, f ⟨64 + d.val, by omega⟩ := by
  rw [show (∑ d : Fin 128, f d) = ∑ d : Fin (64 + 64), f d from rfl, Fin.sum_univ_add,
    Finset.sum_eq_zero (f := fun d : Fin 64 => f (Fin.castAdd 64 d)) fun d _ => h _ (by simp), zero_add]
  rfl

theorem q2_low (g : Fin 4) (r : Fin 256) (d : Fin 128) (hr : r.val < 128) :
    q2 X (ix3 g r d) = if d.val < 64 then X (ix2 ⟨r.val, hr⟩ ⟨128 * g.val + d.val, by omega⟩) else 0 := by
  show (if h : r.val < 128 then (if d.val < 64 then X (ix2 ⟨r.val, h⟩ ⟨128 * g.val + d.val, _⟩) else 0) else _) = _
  rw [dif_pos hr]

theorem q2_high (g : Fin 4) (r : Fin 256) (d : Fin 128) (hr : ¬ r.val < 128) :
    q2 X (ix3 g r d) = if 64 ≤ d.val then X (ix2 ⟨r.val - 128, by omega⟩ ⟨128 * g.val + d.val, by omega⟩) else 0 := by
  show (if h : r.val < 128 then _ else (if 64 ≤ d.val then X (ix2 ⟨r.val - 128, _⟩ ⟨128 * g.val + d.val, _⟩) else 0)) = _
  rw [dif_neg hr]

include hX hK

/-- The score of a key, of a row's own head. -/
theorem scores_coe (g : Fin 4) (r : Fin 256) (s : ℕ) (c : Fin 128) : scores (q2 X) K s (ix3 g r c) =
    (score A B b ⟨2 * g.val + r.val / 128, by omega⟩ ⟨128 * i.val + r.val % 128, by omega⟩ (s + c.val) : EReal) := by
  unfold score
  rw [coe_sum]
  show (∑ d : Fin 128, q2 X (ix3 g r d) * K (ix3 0 ⟨128 * g.val + d.val, _⟩ ⟨(s + c.val) % 2048, _⟩)) = _
  by_cases hr : r.val < 128
  · rw [sum_lower _ fun d hd => by rw [q2_low X g r d hr, if_neg (by omega), zero_mul]]
    refine Finset.sum_congr rfl fun d _ => ?_
    rw [q2_low X g r _ hr, if_pos d.isLt, hX, hK, EReal.coe_mul]
    congr 3
    · congr 1 <;> exact Fin.ext (by dsimp only; omega)
    · congr 1
      exact Fin.ext (by dsimp only; omega)
  · rw [sum_upper _ fun d hd => by rw [q2_high X g r d hr, if_neg (by omega), zero_mul]]
    refine Finset.sum_congr rfl fun d _ => ?_
    rw [q2_high X g r _ hr, if_pos (by dsimp only; omega), hX, hK, EReal.coe_mul]
    congr 3
    · congr 1 <;> exact Fin.ext (by dsimp only; omega)
    · congr 1
      exact Fin.ext (by dsimp only; omega)

include hV

theorem total_attend (g : Fin 4) (r : Fin 256) (e : Fin 128) (d : Fin 64) (he : e.val = 64 * (r.val / 128) + d.val) :
    total X K V i.val (ix3 g r e) =
      (attend A B b ⟨2 * g.val + r.val / 128, by omega⟩ ⟨128 * i.val + r.val % 128, by omega⟩ d : EReal) := by
  rw [total_coe X K V i.val g r _ i.isLt (fun s c _ => scores_coe A B b i X K hX hK g r s c) e
    (fun t => B (ix3 b ⟨512 + (64 * (2 * g.val + r.val / 128) + d.val), by omega⟩ ⟨t % 2048, Nat.mod_lt _ (by decide)⟩)) fun t => ?_]
  · rfl
  · rw [hV]
    congr 2
    · congr 1
      · exact Fin.ext (by dsimp only; omega)
      · exact Fin.ext (Nat.mod_eq_of_lt t.isLt).symm

theorem block_attend (y : S128x512.Idx) (j : S16384x512.Idx) (h0 : (j 0).val = 2048 * b.val + (128 * i.val + (y 0).val)) (h1 : (j 1).val = (y 1).val) :
    block X K V i.val y = attention A B j := by
  have hy0 : (y 0).val < 128 := (y 0).isLt
  have hy1 : (y 1).val < 512 := (y 1).isLt
  rw [block_at X K V i.val y ⟨(y 1).val / 128, by omega⟩ ⟨(y 0).val, hy0⟩ ⟨(y 1).val % 128, by omega⟩ rfl (by dsimp only; omega)]
  split
  · rename_i he
    rw [total_attend A B b i X K V hX hK hV _ _ _ ⟨(y 1).val % 128, he⟩ (by dsimp only; omega)]
    exact (attention_at A B j b _ _ _ (by dsimp only; omega) (by dsimp only; omega)).symm
  · rename_i he
    have he' : ¬ (y 1).val % 128 < 64 := he
    rw [total_attend A B b i X K V hX hK hV _ _ _ ⟨(y 1).val % 128 - 64, by omega⟩ (by dsimp only; omega)]
    exact (attention_at A B j b _ _ _ (by dsimp only; omega) (by dsimp only; omega)).symm

end

/-! ## The result array -/

variable (m : (ℓ : Loc nD τ sig) → Buf (Elt Ideal) ℓ)

/-- The block of every window at a grid point. -/
theorem idx : ∀ t : Fin cfg0.N,
    win0_0.index t = ![(grid0.coords t 0).val * 16 + (grid0.coords t 1).val, 0] ∧ win0_1.index t = ![(grid0.coords t 0).val, 0, 0] ∧
    win0_2.index t = ![(grid0.coords t 0).val, 1, 0] ∧ win0_3.index t = ![(grid0.coords t 0).val * 16 + (grid0.coords t 1).val, 0] :=
  (by decide +kernel : ∀ t : Fin grid0.N, _)

theorem c0_lt (t : Fin cfg0.N) : (grid0.coords t 0).val < 8 := (grid0.coords t 0).isLt
theorem c1_lt (t : Fin cfg0.N) : (grid0.coords t 1).val < 16 := (grid0.coords t 1).isLt

theorem iblk0 (c : Dev nD) (t : Fin cfg0.N) (r : Fin 128) (l : Fin 512) : iblk m c 0 t (ix2 r l) =
    m ((c : Thread nD τ).loc main_arg0) (ix2 ⟨2048 * (grid0.coords t 0).val + (128 * (grid0.coords t 1).val + r.val), by
      have := c0_lt t; have := c1_lt t; omega⟩ ⟨l.val, by omega⟩) := by
  blk_ext [iblk, V, idx t]

theorem iblk1 (c : Dev nD) (t : Fin cfg0.N) (l : Fin 512) (s : Fin 2048) : iblk m c 1 t (ix3 0 l s) =
    m ((c : Thread nD τ).loc main_arg1) (ix3 ⟨(grid0.coords t 0).val, c0_lt t⟩ ⟨l.val, by omega⟩ s) := by
  blk_ext [iblk, V, idx t]

theorem iblk2 (c : Dev nD) (t : Fin cfg0.N) (l : Fin 512) (s : Fin 2048) : iblk m c 2 t (ix3 0 l s) =
    m ((c : Thread nD τ).loc main_arg1) (ix3 ⟨(grid0.coords t 0).val, c0_lt t⟩ ⟨512 + l.val, by omega⟩ s) := by
  blk_ext [iblk, V, idx t]

theorem final3 (c : Dev nD) (A : S16384x1024.Idx → ℝ) (B : S8x1536x2048.Idx → ℝ)
    (hA : ∀ j, m ((c : Thread nD τ).loc main_arg0) j = (A j : EReal)) (hB : ∀ j, m ((c : Thread nD τ).loc main_arg1) j = (B j : EReal)) :
    (dats m 0 c).arrAt 3 cfg0.N = attention A B := by
  refine (dats m 0 c).arrAt_eq_of_covers 3 _ (by decide +kernel) fun t hf y => ?_
  have h0 := c0_lt t
  have h1 := c1_lt t
  blk_simp
  rw [after0_3]
  unfold outsAt0
  rw [out_block]
  refine block_attend A B ⟨(grid0.coords t 0).val, h0⟩ ⟨(grid0.coords t 1).val, h1⟩ _ _ _ (fun r l => ?_) (fun l s => ?_) (fun l s => ?_) _ _ ?_ ?_
  · rw [iblk0, hA]
  · rw [iblk1, hB]
  · rw [iblk2, hB]
  · show win0_3.index t 0 * 128 + 1 * (y 0).val = _
    rw [(idx t).2.2.2]
    show ((grid0.coords t 0).val * 16 + (grid0.coords t 1).val) * 128 + 1 * (y 0).val = _
    dsimp only
    omega
  · show win0_3.index t 1 * 512 + 1 * (y 1).val = _
    rw [(idx t).2.2.2]
    show 0 * 512 + 1 * (y 1).val = (y 1).val
    omega

end Cert.KernelIdeal.Sb
-- ==== Proof.SbWindow.lean ====
/- The sums a reversed cumulative sum takes, over the extended reals. -/
module

public import proofs.«01_k».proof.Defs
public import proofs.«01_k».proof.Proof.Gen.ReferenceIdeal.Read
public import Idealize.ShloMosaic.Lib.Pointwise

@[expose] public section

set_option maxRecDepth 16384

noncomputable section

open Idealize.ShloMosaic

namespace Cert.ReferenceIdeal.Sb

open Cert.ReferenceIdeal Cert.ReferenceIdeal.Gen

theorem foldl_sum {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

/-- The shape of a window: the rest of a row. -/
abbrev W : Shape := ⟨4, ![1, 1, 1, 2048]⟩

/-- A position in a window is its last coordinate. -/
def lastCoord : W.Idx ≃ Fin 2048 where
  toFun w := w 3
  invFun s := ix4 0 0 0 s
  left_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv _ := rfl

theorem window (x : S8x8x2048x2048.Idx → EReal) (init : S_.Idx → EReal) (h0 : ∀ u, init u = 0) (h hu) (j : S8x8x2048x2048.Idx) :
    Host.reduceWindowAdd (F := Ideal) (φ := .f32) (s := S8x8x2048x2048) (t := S8x8x2048x2048) (u := S_) ![1, 1, 1, 2048] ![1, 1, 1, 1] ![0, 0, 0, 0] ![0, 0, 0, 2047] x init h hu j =
      ∑ s : Fin 2048, if hs : (j 3).val + s.val < 2048 then x (ix4 (j 0) (j 1) (j 2) ⟨(j 3).val + s.val, hs⟩) else 0 := by
  unfold Host.reduceWindowAdd
  rw [Ideal.hostReduceWindowAdd_def, h0]
  unfold Ideal.hostReduceWindowAdd Host.reduceWindow
  dsimp only
  rw [foldl_sum, zero_add, ← Fin.sum_univ_def]
  refine (Equiv.sum_comp (M := EReal) W.rowMajor _).symm.trans ?_
  rw [← Equiv.sum_comp lastCoord.symm]
  refine Finset.sum_congr rfl fun s _ => ?_
  simp only [show ∀ w, (Shape.rowMajor ⟨S8x8x2048x2048.rank, ![1, 1, 1, 2048]⟩).symm (W.rowMajor w) = w from fun w => Equiv.symm_apply_apply W.rowMajor w]
  have h3 : (j 3).val < 2048 := (j 3).isLt
  by_cases hs : (j 3).val + s.val < 2048
  · rw [dif_pos hs, dif_pos]
    · refine congrArg x (funext fun a => Fin.ext ?_)
      match a with
      | ⟨0, _⟩ => show (j 0).val * 1 + 0 - 0 = (j 0).val; omega
      | ⟨1, _⟩ => show (j 1).val * 1 + 0 - 0 = (j 1).val; omega
      | ⟨2, _⟩ => show (j 2).val * 1 + 0 - 0 = (j 2).val; omega
      | ⟨3, _⟩ => show (j 3).val * 1 + s.val - 0 = (j 3).val + s.val; omega
    · intro a
      match a with
      | ⟨0, _⟩ => have h : (j 0).val < 8 := (j 0).isLt; exact ⟨Nat.zero_le _, by show (j 0).val * 1 + 0 - 0 < 8; omega⟩
      | ⟨1, _⟩ => have h : (j 1).val < 8 := (j 1).isLt; exact ⟨Nat.zero_le _, by show (j 1).val * 1 + 0 - 0 < 8; omega⟩
      | ⟨2, _⟩ => have h : (j 2).val < 2048 := (j 2).isLt; exact ⟨Nat.zero_le _, by show (j 2).val * 1 + 0 - 0 < 2048; omega⟩
      | ⟨3, _⟩ => exact ⟨Nat.zero_le _, by show (j 3).val * 1 + s.val - 0 < 2048; omega⟩
  · rw [dif_neg hs, dif_neg]
    intro hin
    have := (hin 3).2
    have : (j 3).val * 1 + s.val - 0 < 2048 := this
    omega

end Cert.ReferenceIdeal.Sb
-- ==== Proof.SbRef.lean ====
/- The stick-breaking attention of the prompts: what the reference computes, over the real numbers. -/
module

public import proofs.«01_k».proof.Defs
public import proofs.«01_k».proof.Proof.SbFinal
public import proofs.«01_k».proof.Proof.SbWindow

@[expose] public section

set_option maxRecDepth 16384

noncomputable section

open Idealize.ShloMosaic

namespace Cert.ReferenceIdeal.Sb

open Cert.ReferenceIdeal Cert.ReferenceIdeal.Gen Cert.ReferenceIdeal.Read
open Cert.KernelIdeal.Sb (lsp spm tail wt score attend attention coe_sum coe_max log1p_exp_coe attention_at tail_split select_ite)

/-! ## The logistic function's logarithm -/

/-- `log (1 + exp x)` as the reference writes it, of a real. -/
theorem softplus_coe (x : ℝ) (o : EReal) (ho : o = 0) :
    Scalar.select (FloatOps.cmpf (F := Ideal) (φ := .f32) .une (FloatOps.subf (F := Ideal) (φ := .f32) (x : EReal) o) (FloatOps.subf (F := Ideal) (φ := .f32) (x : EReal) o))
      (FloatOps.addf (F := Ideal) (φ := .f32) (x : EReal) o)
      (FloatOps.addf (F := Ideal) (φ := .f32) (FloatOps.maximumf (F := Ideal) (φ := .f32) (x : EReal) o)
        (FloatOps.hostUnary (F := Ideal) (φ := .f32) .log1p (FloatOps.hostUnary (F := Ideal) (φ := .f32) .exp
          (FloatOps.hostNegf (F := Ideal) (φ := .f32) (FloatOps.hostAbsf (F := Ideal) (φ := .f32) (FloatOps.subf (F := Ideal) (φ := .f32) (x : EReal) o)))))) = (lsp x : EReal) := by
  subst ho
  have h1 : FloatOps.subf (F := Ideal) (φ := .f32) (x : EReal) (0 : EReal) = (x : EReal) := sub_zero (x : EReal)
  have h2 : FloatOps.cmpf (F := Ideal) (φ := .f32) .une (x : EReal) (x : EReal) = 0#1 := by
    show BitVec.ofBool (decide ((x : EReal) ≠ x)) = 0#1
    simp
  rw [h1, h2]
  show (max (x : EReal) 0 + Ideal.log (1 + Ideal.exp (-(max (x : EReal) (-(x : EReal)))))) = _
  have h3 : -(max (x : EReal) (-(x : EReal))) = ((-(max x (-x)) : ℝ) : EReal) := by
    rw [EReal.coe_neg, coe_max, EReal.coe_neg]
  unfold lsp
  rw [h3, log1p_exp_coe, EReal.coe_add, coe_max, EReal.coe_zero, zero_sub]

theorem lsp_neg (x : ℝ) : lsp (-x) = lsp x - x := by
  unfold lsp
  rw [neg_neg, max_comm (-x) x]
  rcases le_total x 0 with h | h
  · rw [max_eq_left (show 0 ≤ -x by linarith), max_eq_right h]
    ring
  · rw [max_eq_right (show -x ≤ 0 by linarith), max_eq_left h]
    ring

theorem zero_bits : (FloatOps.ofBits (F := Ideal) .f32 0x00000000#32 : EReal) = 0 := by
  rw [Ideal.ofBits_def]
  simp [Ideal.ofBits, Ideal.ieee]

/-! ## The reference's values -/

section
variable (x0 : S16384x1024.Idx → EReal) (x1 : S8x1536x2048.Idx → EReal) (A : S16384x1024.Idx → ℝ) (B : S8x1536x2048.Idx → ℝ)
  (hA : ∀ j, x0 j = (A j : EReal)) (hB : ∀ j, x1 j = (B j : EReal)) (b h : Fin 8) (p t : Fin 2048)

include hA hB

theorem ref_z : val_main_v9 (F := Ideal) x0 x1 (ix4 b h p t) = (score A B b h p t.val : EReal) := by
  rw [val_main_v9_apply]
  unfold score
  rw [coe_sum]
  refine @Finset.sum_congr _ EReal _ _ _ _ _ rfl fun d _ => ?_
  rw [val_main_v2_apply, val_main_v1_apply, val_main_v0_apply, val_main_v5_apply, val_main_v4_apply, val_main_v3_apply, EReal.coe_mul]
  show x0 _ * x1 _ = _
  rw [hA, hB]
  congr 2
  · refine congrArg A (funext fun a => Fin.ext ?_)
    match a with
    | ⟨0, _⟩ => show (((b.val * 2048 + p.val) * 8 + h.val) * 64 + d.val) / 512 = 2048 * b.val + p.val; omega
    | ⟨1, _⟩ => show (((b.val * 2048 + p.val) * 8 + h.val) * 64 + d.val) % 512 = 64 * h.val + d.val; omega
  · refine congrArg B (funext fun a => Fin.ext ?_)
    match a with
    | ⟨0, _⟩ => show (((b.val * 8 + h.val) * 64 + d.val) * 2048 + t.val) / 1048576 = b.val; omega
    | ⟨1, _⟩ => show (((b.val * 8 + h.val) * 64 + d.val) * 2048 + t.val) / 2048 % 512 = 64 * h.val + d.val; omega
    | ⟨2, _⟩ => show (((b.val * 8 + h.val) * 64 + d.val) * 2048 + t.val) % 2048 = t.val % 2048; omega

omit hA in
theorem ref_v (e : Fin 64) : val_main_v8 (F := Ideal) x1 (ix4 b h e t) = (B (ix3 b ⟨512 + (64 * h.val + e.val), by omega⟩ ⟨t.val % 2048, Nat.mod_lt _ (by decide)⟩) : EReal) := by
  rw [val_main_v8_apply, val_main_v7_apply, val_main_v6_apply]
  show x1 _ = _
  rw [hB]
  refine congrArg (fun v : ℝ => (v : EReal)) (congrArg B (funext fun a => Fin.ext ?_))
  match a with
  | ⟨0, _⟩ => show (((b.val * 8 + h.val) * 64 + e.val) * 2048 + t.val) / 1048576 = b.val; omega
  | ⟨1, _⟩ => show 512 + (((b.val * 8 + h.val) * 64 + e.val) * 2048 + t.val) / 2048 % 512 = 512 + (64 * h.val + e.val); omega
  | ⟨2, _⟩ => show (((b.val * 8 + h.val) * 64 + e.val) * 2048 + t.val) % 2048 = t.val % 2048; omega

/-- The logarithm of one minus the logistic function of a score. -/
theorem ref_v17 : val_main_v17 (F := Ideal) x0 x1 (ix4 b h p t) = ((-lsp (score A B b h p t.val) : ℝ) : EReal) := by
  rw [val_main_v17_apply, EReal.coe_neg]
  refine congrArg (fun v : EReal => -v) ?_
  refine Eq.trans ?_ (softplus_coe (score A B b h p t.val) _ zero_bits)
  have hz : val_main_call0_v0 (F := Ideal) x0 x1 (ix4 b h p t) = (score A B b h p t.val : EReal) := by
    rw [val_main_call0_v0_apply, val_main_v16_apply, ref_z x0 x1 A B hA hB]
    exact neg_neg _
  rw [← hz]
  rfl

/-- The logarithm of the logistic function of a score. -/
theorem ref_v21 : val_main_v21 (F := Ideal) x0 x1 (ix4 b h p t) = ((score A B b h p t.val - lsp (score A B b h p t.val) : ℝ) : EReal) := by
  have e : score A B b h p t.val - lsp (score A B b h p t.val) = -lsp (-score A B b h p t.val) := by rw [lsp_neg]; ring
  rw [val_main_v21_apply, e, EReal.coe_neg]
  refine congrArg (fun v : EReal => -v) ?_
  refine Eq.trans ?_ (softplus_coe (-score A B b h p t.val) _ zero_bits)
  have hz : val_main_call3_v0 (F := Ideal) x0 x1 (ix4 b h p t) = ((-score A B b h p t.val : ℝ) : EReal) := by
    rw [val_main_call3_v0_apply, ref_z x0 x1 A B hA hB]
    rfl
  rw [← hz]
  rfl

end

/-- The mask: the tokens before `p`. -/
theorem ref_mask (p t : Fin 2048) (i : S2048x2048.Idx) (h0 : i = ix2 p t) : val_main_v15 (F := Ideal) i = if t.val < p.val then 1#1 else 0#1 := by
  subst h0
  rw [val_main_v15_apply, val_main_v13_apply, val_main_v14_apply, val_main_v11_apply, val_main_v12_apply, val_main_v10_apply, val_main_v10_apply]
  show IntOp.cmpi .slt (BitVec.ofNat 32 t.val) (BitVec.ofNat 32 p.val) = _
  have ht := t.isLt
  have hp := p.isLt
  have e : (BitVec.ofNat 32 t.val).slt (BitVec.ofNat 32 p.val) = decide (t.val < p.val) := by
    have hn : ∀ n : ℕ, n < 2048 → (BitVec.ofNat 32 n).toInt = (n : ℤ) := fun n hn => by
      have h2 : (BitVec.ofNat 32 n).toNat = n := by rw [BitVec.toNat_ofNat]; exact Nat.mod_eq_of_lt (by omega)
      rw [BitVec.toInt_eq_toNat_of_lt (by omega), h2]
    rw [BitVec.slt_eq_decide, hn _ ht, hn _ hp]
    simp
  show BitVec.ofBool ((BitVec.ofNat 32 t.val).slt (BitVec.ofNat 32 p.val)) = _
  rw [e]
  by_cases h : t.val < p.val <;> simp [h]

section
variable (x0 : S16384x1024.Idx → EReal) (x1 : S8x1536x2048.Idx → EReal) (A : S16384x1024.Idx → ℝ) (B : S8x1536x2048.Idx → ℝ)
  (hA : ∀ j, x0 j = (A j : EReal)) (hB : ∀ j, x1 j = (B j : EReal)) (b h : Fin 8) (p t : Fin 2048)

include hA hB

theorem ref_v18 : val_main_v18 (F := Ideal) x0 x1 (ix4 b h p t) = ((-spm (score A B b h p) p.val t.val : ℝ) : EReal) := by
  rw [val_main_v18_apply, val_main_call1_v1_apply, ref_mask p t _ (by funext a; match a with | ⟨0, _⟩ => rfl | ⟨1, _⟩ => rfl),
    ref_v17 x0 x1 A B hA hB, select_ite]
  unfold spm
  split
  · rfl
  · rw [neg_zero]
    exact zero_bits

theorem ref_v19 : val_main_v19 (F := Ideal) x0 x1 (ix4 b h p t) = ((-tail (score A B b h p) p.val t.val : ℝ) : EReal) := by
  unfold val_main_v19
  rw [window _ (val_main_call2_v0 (F := Ideal)) (fun _ => zero_bits)]
  have e : ∀ s : Fin 2048, (if hs : t.val + s.val < 2048 then val_main_v18 (F := Ideal) x0 x1 (ix4 b h p ⟨t.val + s.val, hs⟩) else (0 : EReal)) =
      ((if t.val + s.val < 2048 then -spm (score A B b h p) p.val (t.val + s.val) else 0 : ℝ) : EReal) := fun s => by
    split
    · rw [ref_v18 x0 x1 A B hA hB]
    · rw [EReal.coe_zero]
  refine (@Finset.sum_congr _ EReal _ _ _ _ _ rfl fun s _ => e s).trans ?_
  rw [← coe_sum]
  refine congrArg _ ?_
  unfold tail
  rw [← Finset.sum_neg_distrib, Fin.sum_univ_eq_sum_range (fun s => if t.val + s < 2048 then -spm (score A B b h p) p.val (t.val + s) else 0) 2048,
    Finset.sum_Ico_eq_sum_range, ← Finset.sum_filter]
  refine Finset.sum_congr (Finset.ext fun s => ?_) fun _ _ => rfl
  simp only [Finset.mem_filter, Finset.mem_range]
  omega

/-- A token's weight. -/
theorem ref_w : val_main_v24 (F := Ideal) x0 x1 (ix4 b h p t) = (wt (score A B b h p) p.val t.val : EReal) := by
  rw [val_main_v24_apply, val_main_call4_v1_apply, ref_mask p t _ (by funext a; match a with | ⟨0, _⟩ => rfl | ⟨1, _⟩ => rfl), select_ite]
  unfold wt
  split
  · rw [val_main_v23_apply, val_main_v22_apply, val_main_v20_apply, ref_v19 x0 x1 A B hA hB, ref_v18 x0 x1 A B hA hB, ref_v21 x0 x1 A B hA hB,
      tail_split (score A B b h p) p.val (show t.val ≤ t.val + 1 by omega) (by omega)]
    generalize hr : (∑ s ∈ Finset.Ico t.val (t.val + 1), spm (score A B b h p) p.val s) + tail (score A B b h p) p.val (t.val + 1) = r
    show Ideal.exp (((score A B b h p t.val - lsp (score A B b h p t.val) : ℝ) : EReal) + (((-r : ℝ) : EReal) - ((-spm (score A B b h p) p.val t.val : ℝ) : EReal))) = _
    rw [← hr, ← EReal.coe_sub, ← EReal.coe_add, Ideal.exp_coe]
    refine congrArg (fun v : ℝ => (Real.exp v : EReal)) ?_
    simp
    ring
  · exact zero_bits

theorem ref_attend (e : Fin 64) : val_main_v25 (F := Ideal) x0 x1 (ix4 b h e p) = (attend A B b h p e : EReal) := by
  rw [val_main_v25_apply]
  unfold attend
  rw [← Fin.sum_univ_eq_sum_range (fun s => wt (score A B b h p) p.val s * B (ix3 b ⟨512 + (64 * h.val + e.val), _⟩ ⟨s % 2048, _⟩)) 2048, coe_sum]
  refine @Finset.sum_congr _ EReal _ _ _ _ _ rfl fun s _ => ?_
  have e1 : lidx_main_v25 (ix4 b h e p) s = ix4 b h e s := by
    funext a; match a with | ⟨0, _⟩ => rfl | ⟨1, _⟩ => rfl | ⟨2, _⟩ => rfl | ⟨3, _⟩ => rfl
  have e2 : ridx_main_v25 (ix4 b h e p) s = ix4 b h p s := by
    funext a; match a with | ⟨0, _⟩ => rfl | ⟨1, _⟩ => rfl | ⟨2, _⟩ => rfl | ⟨3, _⟩ => rfl
  rw [e1, e2, ref_v x1 B hB, ref_w x0 x1 A B hA hB, EReal.coe_mul, mul_comm]

theorem ref_attention : val_main_v28 (F := Ideal) x0 x1 = attention A B := by
  funext j
  have h0 : (j 0).val < 16384 := (j 0).isLt
  have h1 : (j 1).val < 512 := (j 1).isLt
  rw [val_main_v28_apply, val_main_v27_apply, val_main_v26_apply,
    attention_at A B j ⟨(j 0).val / 2048, by omega⟩ ⟨(j 1).val / 64, by omega⟩ ⟨(j 0).val % 2048, by omega⟩ ⟨(j 1).val % 64, by omega⟩
      (by dsimp only; omega) (by dsimp only; omega), ← ref_attend x0 x1 A B hA hB]
  show val_main_v25 (F := Ideal) x0 x1 _ = _
  refine congrArg _ (funext fun a => Fin.ext ?_)
  match a with
  | ⟨0, _⟩ => show ((j 0).val * 512 + (j 1).val) / 1048576 = (j 0).val / 2048; omega
  | ⟨1, _⟩ => show ((j 0).val * 512 + (j 1).val) / 64 % 8 = (j 1).val / 64; omega
  | ⟨2, _⟩ => show ((j 0).val * 512 + (j 1).val) % 64 = (j 1).val % 64; omega
  | ⟨3, _⟩ => show ((j 0).val * 512 + (j 1).val) / 512 % 2048 = (j 0).val % 2048; omega

end

end Cert.ReferenceIdeal.Sb
-- ==== Proof.SbEq.lean ====
/- The stick-breaking attention of the prompts: on finite arguments the kernel and the reference return one array. -/
module

public import proofs.«01_k».proof.Defs
public import proofs.«01_k».proof.Proof.SbRef
public import proofs.«01_k».proof.Proof.Gen.ReferenceIdeal.Run

@[expose] public section

set_option maxRecDepth 16384

noncomputable section

open Idealize.ShloMosaic Idealize.ShloMosaic.TcCoe Idealize.SL.Sem

namespace Cert.KernelIdeal.Sb

open Cert.KernelIdeal Cert.KernelIdeal.Gen Cert.KernelIdeal.Value

/-- The side conditions of the precondition's own operations. -/
theorem finite_facts : Cert.Pre_finite.Facts where
  bitsLt_bf16_f32 := by decide
  bcast_S_S16384x1024 := by decide
  bcast_S_S8x1536x2048 := by decide

/-- An extended real whose absolute value is less than `⊤` is a real. -/
theorem real_of_lt (x : EReal)
    (h : FloatOps.cmpf (F := Ideal) (φ := .f32) .olt (FloatOps.hostAbsf (F := Ideal) (φ := .f32) x) (FloatOps.ofBits (F := Ideal) .f32 0x7F800000#32) = 1#1) :
    x = (x.toReal : EReal) := by
  have htop : Ideal.ofBits .f32 0x7F800000#32 = ⊤ := by simp [Ideal.ofBits, Ideal.ieee]
  have h' : BitVec.ofBool (decide (max x (-x) < Ideal.ofBits .f32 0x7F800000#32)) = 1#1 := h
  rw [htop] at h'
  by_cases hx : max x (-x) < ⊤
  · rw [max_lt_iff] at hx
    refine (EReal.coe_toReal (ne_of_lt hx.1) fun hb => ?_).symm
    rw [hb] at hx
    exact absurd hx.2 (by simp)
  · simp [hx] at h'

variable (m : (ℓ : Loc nD τ sig) → Buf (Elt Ideal) ℓ)

/-- Real arguments, when the precondition holds. -/
theorem real_args (hpre : Cert.Pre_KernelIdeal_finite (hPre_finite := finite_facts) m) (c : Dev nD) :
    (∀ j, m ((c.tc : Thread nD τ).loc main_arg0) j = (((m ((c.tc : Thread nD τ).loc main_arg0) j : EReal).toReal : ℝ) : EReal)) ∧
    (∀ j, m ((c.tc : Thread nD τ).loc main_arg1) j = (((m ((c.tc : Thread nD τ).loc main_arg1) j : EReal).toReal : ℝ) : EReal)) :=
  ⟨fun j => real_of_lt _ (congrFun (hpre c).1 j), fun j => real_of_lt _ (congrFun (hpre c).2 j)⟩

theorem algebraic : Cert.algebraic_KernelIdeal_ReferenceIdeal_pre_finite (hPre_finite := finite_facts) := by
  pair_intro
  · run_from Cert.KernelIdeal.Value.run_blocks m g
  · run_from Cert.ReferenceIdeal.Value.run m' g'
    obtain ⟨hA, hB⟩ := real_args m hpre c
    rw [final3 m c _ _ hA hB, Cert.ReferenceIdeal.Read.val_main_v28_eq]
    exact Cert.ReferenceIdeal.Sb.ref_attention _ _ _ _ (fun j => (congrFun (hagree c).1 j).trans (hA j)) (fun j => (congrFun (hagree c).2 j).trans (hB j))

end Cert.KernelIdeal.Sb
-- ==== Proof.ExpPre.lean ====
/- The precondition of the experts' claims, read: every block names an expert below 32. -/
module

public import proofs.«01_k».proof.Defs

@[expose] public section

noncomputable section

open Idealize.ShloMosaic Idealize.ShloMosaic.TcCoe Idealize.SL.Sem

namespace Cert.Experts

/-- The side conditions of the precondition's own operations. -/
theorem named_facts : Cert.Pre_experts_named.Facts where
  bcast_S_S292 := by decide

/-- A word at least 0 and less than 32, as signed numbers. -/
theorem below (v : BitVec 32) (h : IntOp.andi (IntOp.cmpi .sge v 0#32) (IntOp.cmpi .slt v 32#32) = 1#1) : v.toNat < 32 := by
  have h' : BitVec.ofBool ((0#32 : BitVec 32).sle v) &&& BitVec.ofBool (v.slt 32#32) = 1#1 := h
  have h0 : (0#32 : BitVec 32).sle v = true := by
    by_contra hc
    rw [Bool.not_eq_true] at hc
    rw [hc] at h'
    revert h'
    cases v.slt 32#32 <;> decide
  have h1 : v.slt 32#32 = true := by
    by_contra hc
    rw [Bool.not_eq_true] at hc
    rw [hc] at h'
    revert h'
    cases (0#32 : BitVec 32).sle v <;> decide
  rw [BitVec.sle_iff_toInt_le] at h0
  rw [BitVec.slt_iff_toInt_lt] at h1
  have e0 : (0#32 : BitVec 32).toInt = 0 := by decide
  have e1 : (32#32 : BitVec 32).toInt = 32 := by decide
  rw [e0] at h0
  rw [e1] at h1
  have hi := BitVec.toInt_eq_toNat_cond v
  split at hi <;> omega

/-- Every entry of such a table. -/
theorem named {F : FTy → Type} [FloatOps F] {x0} {x1 : Cert.Pre_experts_named.S292.Idx → BitVec 32} {x2 x3 x4 x5 x6}
    (h : @Cert.Pre_experts_named.fn named_facts F _ x0 x1 x2 x3 x4 x5 x6 = fun _ => 1#1) (j) : (x1 j).toNat < 32 :=
  below _ (congrFun h j)

end Cert.Experts

end
-- ==== Proof.ExpRunBits.lean ====
/- The experts' kernel body, run once for each way its tests can fall out: the block is used and its expert differs from
   the one before it (the weights are first laid into the two scratch arrays), the block is used and its expert is the one
   before it (the scratch arrays are read as they are), the block is not used (zeros are stored). -/
module

public import proofs.«01_k».proof.Proof.Gen.Kernel4.Skeleton
public import proofs.«01_k».proof.Proof.Gen.Kernel4.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.PureOps.BitExact

@[expose] public section

set_option maxRecDepth 16384

noncomputable section

namespace Cert.Kernel4.Exp

open Cert.Kernel4 Cert.Kernel4.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-- The two tables and the two scratch arrays. -/
abbrev tab0 : Memref sig .tc .smem S292 .i32 := Memref.whole main_arg1
abbrev tab1 : Memref sig .tc .smem S1 .i32 := Memref.whole main_arg2
abbrev scr0 : Memref sig .tc .vmem S1024x2048 .bf16 := Memref.whole cc0_scratch0
abbrev scr1 : Memref sig .tc .vmem S1024x1024 .bf16 := Memref.whole cc0_scratch1

/-- The words the body reads: the number of used blocks, this block's expert, the expert before it. -/
abbrev rdN (T1 : S1.Idx → Elt Bits .i32) : BitVec 32 :=
  View.readAt (Elt Bits) tab1.view (Rect.unit (s := S1) ![0] S1.size inb_S1_S1_0).toLoadRect T1 (Shape.Idx.first (numel1_S1.symm ▸ Nat.one_pos))
abbrev rdE (i : grid0.Coords) (T0 : S292.Idx → Elt Bits .i32) : BitVec 32 :=
  View.readAt (Elt Bits) tab0.view (Rect.unit (s := S292) (k0_off1 i) S1.size (k0_off1_inb i)).toLoadRect T0 (Shape.Idx.first (numel1_S1.symm ▸ Nat.one_pos))
abbrev rdP (i : grid0.Coords) (T0 : S292.Idx → Elt Bits .i32) : BitVec 32 :=
  View.readAt (Elt Bits) tab0.view (Rect.unit (s := S292) (k0_off2 i) S1.size (k0_off2_inb i)).toLoadRect T0 (Shape.Idx.first (numel1_S1.symm ▸ Nat.one_pos))

/-- The test before the weights are laid down. -/
abbrev fresh (i : grid0.Coords) (T0 : S292.Idx → Elt Bits .i32) (T1 : S1.Idx → Elt Bits .i32) : Prop :=
  (Scalar.cmpi .ne (Scalar.extui (Scalar.andi (Scalar.cmpi .slt (BitVec.ofNat 32 (i 0).val) (rdN T1)) (Scalar.ori (Scalar.cmpi .eq (BitVec.ofNat 32 (i 0).val) 0#32) (Scalar.cmpi .ne (rdE i T0) (rdP i T0))))) 0#32) = 1#1

/-- One piece stored over the whole of a view is what it then reads. -/
theorem read_whole {sig : RefSig} {κ : Kind} {sp : Space} {s : Shape} {e : EltTy} {Val : EltTy → Type} (v : View sig κ sp s e) (f : v.ty.Contents Val)
    {off : Fin s.rank → ℕ} (inb : ∀ a, off a + s.size a ≤ s.size a) (w : s.Idx → Val e) (L : List (View.Piece Val s e)) :
    v.read Val (v.writes Val f ((⟨Rect.unit off s.size inb, w⟩ : View.Piece Val s e) :: L)) = w :=
  funext fun y => View.read_writes_cons_hit_of_coords v f (Rect.unit off s.size inb) w L y y fun a => by
    have := inb a
    show (y a).val = off a + 1 * (y a).val
    omega

theorem pay3_congr {a a' : Vec Bits S256x1024 .f32} {b b' : Vec Bits S1024x2048 .bf16} {p p' : Vec Bits S1x1x2048 .f32} {d d' : Vec Bits S1024x1024 .bf16}
    {e e' : Vec Bits S1x1x1024 .f32} (ha : a = a') (hb : b = b') (hp : p = p') (hd : d = d') (he : e = e') :
    k0_pay3 a b p d e = k0_pay3 a' b' p' d' e' := by
  subst ha hb hp hd he; rfl

section

variable (c : Dev nD) (i : grid0.Coords)
  (arg3 : Memref sig .tc .vmem S256x1024 .f32) (harg3 : arg3.IsWhole)
  (arg4 : Memref sig .tc .vmem S1x1024x2048 .f32) (harg4 : arg4.IsWhole)
  (arg5 : Memref sig .tc .vmem S1x1x2048 .f32) (harg5 : arg5.IsWhole)
  (arg6 : Memref sig .tc .vmem S1x1024x1024 .f32) (harg6 : arg6.IsWhole)
  (arg7 : Memref sig .tc .vmem S1x1x1024 .f32) (harg7 : arg7.IsWhole)
  (arg8 : Memref sig .tc .vmem S256x1024 .f32) (harg8 : arg8.IsWhole)
  (T0 : S292.Idx → Elt Bits .i32) (T1 : S1.Idx → Elt Bits .i32)
  (x0 : S256x1024.Idx → Elt Bits .f32) (x1 : S1x1024x2048.Idx → Elt Bits .f32) (x2 : S1x1x2048.Idx → Elt Bits .f32)
  (x3 : S1x1024x1024.Idx → Elt Bits .f32) (x4 : S1x1x1024.Idx → Elt Bits .f32)
  (xa0 : Buf (Elt Bits) ((c : Thread nD τ).loc cc0_scratch0)) (xa1 : Buf (Elt Bits) ((c : Thread nD τ).loc cc0_scratch1))

/-- What the body starts from, but for the output's buffer and the scratch arrays: the blocks and the tables. -/
abbrev held : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (arg7.view.loc (c : Thread nD τ) ↦[arg7.view.set]{fullShare} arg7.view.rep x4)
    ∗ (tab0.view.loc (c : Thread nD τ) ↦{fullShare.right} T0)
    ∗ (tab1.view.loc (c : Thread nD τ) ↦{fullShare.right} T1))

/-- The body on these buffers. -/
abbrev body : Prog (TpuEff nD τ sig (Elt Bits) Λ₀ .tc) PUnit :=
  cc0_experts i tab0 (Memref.isWhole_whole _) tab1 (Memref.isWhole_whole _) arg3 harg3 arg4 harg4 arg5 harg5 arg6 harg6 arg7 harg7 arg8 harg8 scr0 (Memref.isWhole_whole _) scr1 (Memref.isWhole_whole _)

/-- What a run of the body finds: the pieces stored into the output and what the scratch arrays end with, from these
    blocks, tables and scratch arrays. -/
abbrev Found (out0 : List (View.Piece (Elt Bits) S256x1024 .f32)) (out1 : Buf (Elt Bits) ((c : Thread nD τ).loc cc0_scratch0))
    (out2 : Buf (Elt Bits) ((c : Thread nD τ).loc cc0_scratch1)) : Prop :=
  ∀ K : PUnit → sProp 𝕄,
    iprop(held c arg3 arg4 arg5 arg6 arg7 T0 T1 x0 x1 x2 x3 x4
      ∗ (∃ d, owns (c : Thread nD τ) arg8 fullShare d)
      ∗ (scr0.view.loc (c : Thread nD τ) ↦{fullShare} xa0)
      ∗ (scr1.view.loc (c : Thread nD τ) ↦{fullShare} xa1)
      ∗ (iprop(held c arg3 arg4 arg5 arg6 arg7 T0 T1 x0 x1 x2 x3 x4
          ∗ (∃ f, arg8.view.loc (c : Thread nD τ) ↦[arg8.view.set]{fullShare} arg8.view.writes (Elt Bits) f out0)
          ∗ (scr0.view.loc (c : Thread nD τ) ↦{fullShare} out1)
          ∗ (scr1.view.loc (c : Thread nD τ) ↦{fullShare} out2)) -∗ K ⟨⟩))
      ⊢ wp frame (wpE (defs₀ (F := Bits)) Variants.none c none) Set.univ
          (body i arg3 harg3 arg4 harg4 arg5 harg5 arg6 harg6 arg7 harg7 arg8 harg8) K

set_option backward.proofsInPublic true in
set_option maxHeartbeats 8000000 in
/-- The block is used and its expert is not the one before it. -/
noncomputable def runLay (hc0 : fresh i T0 T1) (k0_h2 : (k0_cond2 i (rdN T1) = 1#1)) (k0_h3 : ¬(k0_cond3 i (rdN T1) = 1#1)) :
    Σ' (out0 : List (View.Piece (Elt Bits) S256x1024 .f32)) (out1 : Buf (Elt Bits) ((c : Thread nD τ).loc cc0_scratch0)),
      { out2 : Buf (Elt Bits) ((c : Thread nD τ).loc cc0_scratch1) //
        Found c i arg3 harg3 arg4 harg4 arg5 harg5 arg6 harg6 arg7 harg7 arg8 harg8 T0 T1 x0 x1 x2 x3 x4 xa0 xa1 out0 out1 out2 } :=
  ⟨_, _, _, fun K => by
    unfold owns body held
    rw [cc0_experts_eq_skeleton]; unfold cc0_experts_skel
    iintro ⟨⟨H0, H1, H2, H3, H4, HT0, HT1⟩, ⟨%d5, %f5, -, HO5⟩, HS0, HS1, Hk⟩
    have hS0 : scr0.IsWhole := Memref.isWhole_whole _
    have hS1 : scr1.IsWhole := Memref.isWhole_whole _
    have hT0 : tab0.IsWhole := Memref.isWhole_whole _
    have hT1 : tab1.IsWhole := Memref.isWhole_whole _
    sl_exec! (disch := first | exact hc0 | exact k0_h2 | exact k0_h3)
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexists _; iexact HO5
    isplitl [HS0]; · iexact HS0
    iexact HS1⟩

set_option backward.proofsInPublic true in
set_option maxHeartbeats 8000000 in
/-- The block is used and its expert is the one before it. -/
noncomputable def runKeep (hc0 : ¬fresh i T0 T1) (k0_h2 : (k0_cond2 i (rdN T1) = 1#1)) (k0_h3 : ¬(k0_cond3 i (rdN T1) = 1#1)) :
    Σ' (out0 : List (View.Piece (Elt Bits) S256x1024 .f32)) (out1 : Buf (Elt Bits) ((c : Thread nD τ).loc cc0_scratch0)),
      { out2 : Buf (Elt Bits) ((c : Thread nD τ).loc cc0_scratch1) //
        Found c i arg3 harg3 arg4 harg4 arg5 harg5 arg6 harg6 arg7 harg7 arg8 harg8 T0 T1 x0 x1 x2 x3 x4 xa0 xa1 out0 out1 out2 } :=
  ⟨_, _, _, fun K => by
    unfold owns body held
    rw [cc0_experts_eq_skeleton]; unfold cc0_experts_skel
    iintro ⟨⟨H0, H1, H2, H3, H4, HT0, HT1⟩, ⟨%d5, %f5, -, HO5⟩, HS0, HS1, Hk⟩
    have hS0 : scr0.IsWhole := Memref.isWhole_whole _
    have hS1 : scr1.IsWhole := Memref.isWhole_whole _
    have hT0 : tab0.IsWhole := Memref.isWhole_whole _
    have hT1 : tab1.IsWhole := Memref.isWhole_whole _
    sl_exec! (disch := first | exact hc0 | exact k0_h2 | exact k0_h3)
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexists _; iexact HO5
    isplitl [HS0]; · iexact HS0
    iexact HS1⟩

set_option backward.proofsInPublic true in
set_option maxHeartbeats 8000000 in
/-- The block is not used. -/
noncomputable def runSkip (hc0 : ¬fresh i T0 T1) (k0_h2 : ¬(k0_cond2 i (rdN T1) = 1#1)) (k0_h3 : (k0_cond3 i (rdN T1) = 1#1)) :
    Σ' (out0 : List (View.Piece (Elt Bits) S256x1024 .f32)) (out1 : Buf (Elt Bits) ((c : Thread nD τ).loc cc0_scratch0)),
      { out2 : Buf (Elt Bits) ((c : Thread nD τ).loc cc0_scratch1) //
        Found c i arg3 harg3 arg4 harg4 arg5 harg5 arg6 harg6 arg7 harg7 arg8 harg8 T0 T1 x0 x1 x2 x3 x4 xa0 xa1 out0 out1 out2 } :=
  ⟨_, _, _, fun K => by
    unfold owns body held
    rw [cc0_experts_eq_skeleton]; unfold cc0_experts_skel
    iintro ⟨⟨H0, H1, H2, H3, H4, HT0, HT1⟩, ⟨%d5, %f5, -, HO5⟩, HS0, HS1, Hk⟩
    have hS0 : scr0.IsWhole := Memref.isWhole_whole _
    have hS1 : scr1.IsWhole := Memref.isWhole_whole _
    have hT0 : tab0.IsWhole := Memref.isWhole_whole _
    have hT1 : tab1.IsWhole := Memref.isWhole_whole _
    sl_exec! (disch := first | exact hc0 | exact k0_h2 | exact k0_h3)
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexists _; iexact HO5
    isplitl [HS0]; · iexact HS0
    iexact HS1⟩

/- What a run stores, in closed form. -/

theorem keep_out (hc0 h2 h3) (f) : arg8.view.read (Elt Bits) (arg8.view.writes (Elt Bits) f (runKeep c i arg3 harg3 arg4 harg4 arg5 harg5 arg6 harg6 arg7 harg7 arg8 harg8 T0 T1 x0 x1 x2 x3 x4 xa0 xa1 hc0 h2 h3).1)
    = k0_pay3 (F := Bits) x0 (scr0.view.read (Elt Bits) xa0) x2 (scr1.view.read (Elt Bits) xa1) x4 := by
  unfold runKeep runKeep.sl.HO5_1
  exact (read_whole _ _ _ _ _).trans (pay3_congr (View.readAt_rep_full _ _ _) (View.readAt_full _ _ _) (View.readAt_rep_full _ _ _) (View.readAt_full _ _ _) (View.readAt_rep_full _ _ _))

theorem skip_out (hc0 h2 h3) (f) : arg8.view.read (Elt Bits) (arg8.view.writes (Elt Bits) f (runSkip c i arg3 harg3 arg4 harg4 arg5 harg5 arg6 harg6 arg7 harg7 arg8 harg8 T0 T1 x0 x1 x2 x3 x4 xa0 xa1 hc0 h2 h3).1) = k0_pay4 (F := Bits) := by
  unfold runSkip runSkip.sl.HO5_1
  exact read_whole _ _ _ _ _

theorem lay_w0 (f) : (View.whole cc0_scratch0).read (Elt Bits) ((View.whole cc0_scratch0).writes (Elt Bits) f (runLay.sl.HS0_1 arg4 x1)) = k0_pay1 (F := Bits) x1 := by
  unfold runLay.sl.HS0_1
  exact (read_whole _ _ _ _ _).trans (congrArg (k0_pay1 (F := Bits)) (View.readAt_rep_full _ _ _))

theorem lay_w1 (f) : (View.whole cc0_scratch1).read (Elt Bits) ((View.whole cc0_scratch1).writes (Elt Bits) f (runLay.sl.HS1_1 arg6 x3)) = k0_pay2 (F := Bits) x3 := by
  unfold runLay.sl.HS1_1
  exact (read_whole _ _ _ _ _).trans (congrArg (k0_pay2 (F := Bits)) (View.readAt_rep_full _ _ _))

theorem lay_s0 (hc0 h2 h3) : scr0.view.read (Elt Bits) (runLay c i arg3 harg3 arg4 harg4 arg5 harg5 arg6 harg6 arg7 harg7 arg8 harg8 T0 T1 x0 x1 x2 x3 x4 xa0 xa1 hc0 h2 h3).2.1 = k0_pay1 (F := Bits) x1 := by
  unfold runLay
  dsimp only; exact lay_w0 arg4 x1 _

theorem lay_s1 (hc0 h2 h3) : scr1.view.read (Elt Bits) (runLay c i arg3 harg3 arg4 harg4 arg5 harg5 arg6 harg6 arg7 harg7 arg8 harg8 T0 T1 x0 x1 x2 x3 x4 xa0 xa1 hc0 h2 h3).2.2.1 = k0_pay2 (F := Bits) x3 := by
  unfold runLay
  dsimp only; exact lay_w1 arg6 x3 _

theorem lay_out (hc0 h2 h3) (f) : arg8.view.read (Elt Bits) (arg8.view.writes (Elt Bits) f (runLay c i arg3 harg3 arg4 harg4 arg5 harg5 arg6 harg6 arg7 harg7 arg8 harg8 T0 T1 x0 x1 x2 x3 x4 xa0 xa1 hc0 h2 h3).1)
    = k0_pay3 (F := Bits) x0 (k0_pay1 x1) x2 (k0_pay2 x3) x4 := by
  unfold runLay runLay.sl.HO5_1
  refine (read_whole _ _ _ _ _).trans (pay3_congr (View.readAt_rep_full _ _ _) ?_ (View.readAt_rep_full _ _ _) ?_ (View.readAt_rep_full _ _ _))
  · unfold runLay.sl.v21
    exact (View.readAt_full _ _ _).trans (lay_w0 arg4 x1 _)
  · unfold runLay.sl.v43
    exact (View.readAt_full _ _ _).trans (lay_w1 arg6 x3 _)

end

end Cert.Kernel4.Exp

end
-- ==== Proof.ExpCfgBits.lean ====
/- The experts' call, launched: from any memory whose table names experts below 32 it runs to the end, every argument
   ends as it began, and the result's blocks hold what the body leaves at each point. -/
module

public import proofs.«01_k».proof.Proof.ExpTabBits
public import Idealize.ShloMosaic.Adequacy
public import Idealize.ShloMosaic.Init

@[expose] public section

set_option maxRecDepth 16384

noncomputable section

namespace Cert.Kernel4.Exp

open Cert.Kernel4 Cert.Kernel4.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The resource algebra of the pipeline's staging cells, embedded whole. -/
abbrev EP : Emb (UR sig nD τ) 𝕄 := emb₁

variable (T0 : S292.Idx → Elt Bits .i32) (T1 : S1.Idx → Elt Bits .i32) (hT : Named T0)
variable (m : (ℓ : Loc nD τ sig) → Buf (Elt Bits) ℓ) (ρ : Dev nD → PrngReg)

/-- The pipeline at these tables. -/
def adm : (pcfg0 (F := Bits)).Adm := ⟨tabs T0 T1, ok T0 T1 hT⟩
abbrev cfgA : Pipeline.Cfg sig Λ₀ := cfg0 (F := Bits) (adm T0 T1 hT)
abbrev pcs : Fin 1 → Pipeline.Cfg sig Λ₀ := Pipeline.pin (pcfgs (F := Bits)) fun _ => adm T0 T1 hT

/-- A point's coordinates and each window's buffer there. -/
abbrev crd (t : Fin (cfgA T0 T1 hT).N) : (cfgA T0 T1 hT).grid.Coords := (cfgA T0 T1 hT).grid.coords t
abbrev ms0 (t : Fin (cfgA T0 T1 hT).N) : Memref sig .tc .vmem S256x1024 .f32 := spec0_0.stage ((cfgA T0 T1 hT).slots t (0 : Fin 6))
abbrev hs0 (t : Fin (cfgA T0 T1 hT).N) : (ms0 T0 T1 hT t).IsWhole := hstage0_0 (((cfgA T0 T1 hT).slots t (0 : Fin 6)).cast nbuf0_0)
abbrev ms1 (t : Fin (cfgA T0 T1 hT).N) : Memref sig .tc .vmem S1x1024x2048 .f32 := spec0_1.stage ((cfgA T0 T1 hT).slots t (1 : Fin 6))
abbrev hs1 (t : Fin (cfgA T0 T1 hT).N) : (ms1 T0 T1 hT t).IsWhole := hstage0_1 (((cfgA T0 T1 hT).slots t (1 : Fin 6)).cast nbuf0_1)
abbrev ms2 (t : Fin (cfgA T0 T1 hT).N) : Memref sig .tc .vmem S1x1x2048 .f32 := spec0_2.stage ((cfgA T0 T1 hT).slots t (2 : Fin 6))
abbrev hs2 (t : Fin (cfgA T0 T1 hT).N) : (ms2 T0 T1 hT t).IsWhole := hstage0_2 (((cfgA T0 T1 hT).slots t (2 : Fin 6)).cast nbuf0_2)
abbrev ms3 (t : Fin (cfgA T0 T1 hT).N) : Memref sig .tc .vmem S1x1024x1024 .f32 := spec0_3.stage ((cfgA T0 T1 hT).slots t (3 : Fin 6))
abbrev hs3 (t : Fin (cfgA T0 T1 hT).N) : (ms3 T0 T1 hT t).IsWhole := hstage0_3 (((cfgA T0 T1 hT).slots t (3 : Fin 6)).cast nbuf0_3)
abbrev ms4 (t : Fin (cfgA T0 T1 hT).N) : Memref sig .tc .vmem S1x1x1024 .f32 := spec0_4.stage ((cfgA T0 T1 hT).slots t (4 : Fin 6))
abbrev hs4 (t : Fin (cfgA T0 T1 hT).N) : (ms4 T0 T1 hT t).IsWhole := hstage0_4 (((cfgA T0 T1 hT).slots t (4 : Fin 6)).cast nbuf0_4)
abbrev ms5 (t : Fin (cfgA T0 T1 hT).N) : Memref sig .tc .vmem S256x1024 .f32 := spec0_5.stage ((cfgA T0 T1 hT).slots t (5 : Fin 6))
abbrev hs5 (t : Fin (cfgA T0 T1 hT).N) : (ms5 T0 T1 hT t).IsWhole := hstage0_5 (((cfgA T0 T1 hT).slots t (5 : Fin 6)).cast nbuf0_5)

theorem crd_val : ∀ t : Fin grid0.N, (grid0.coords t 0).val = t.val := by decide +kernel

/-- Window `w`'s block at point `t`, read off its array at launch. -/
def iblk (c : Dev nD) (w : Fin (cfgA T0 T1 hT).W) (t : Fin (cfgA T0 T1 hT).N) : (((cfgA T0 T1 hT).win w).xblock (crd T0 T1 hT t)).Idx → Elt Bits ((cfgA T0 T1 hT).win w).elt :=
  (((cfgA T0 T1 hT).win w).blk t).view.read (Elt Bits) (m (((cfgA T0 T1 hT).win w).arr.view.loc (c : Thread nD τ)))

/-- The result's block at point `t`: the expert's answer for the rows of a used block, zeros for the rest. -/
def left (c : Dev nD) (t : Fin (cfgA T0 T1 hT).N) : S256x1024.Idx → Elt Bits .f32 :=
  if used T1 t.val then
    k0_pay3 (F := Bits) (iblk T0 T1 hT m c (0 : Fin 6) t) (k0_pay1 (F := Bits) (iblk T0 T1 hT m c (1 : Fin 6) t)) (iblk T0 T1 hT m c (2 : Fin 6) t)
      (k0_pay2 (F := Bits) (iblk T0 T1 hT m c (3 : Fin 6) t)) (iblk T0 T1 hT m c (4 : Fin 6) t)
  else k0_pay4 (F := Bits)

/-- The scratch arrays hold the weights of the point before `t`, if its block was used. -/
def Laid (c : Dev nD) (t : Fin ((cfgA T0 T1 hT).N + 1)) (a0 : Buf (Elt Bits) ((c : Thread nD τ).loc cc0_scratch0)) (a1 : Buf (Elt Bits) ((c : Thread nD τ).loc cc0_scratch1)) : Prop :=
  ∀ h : t.val ≠ 0, used T1 (t.val - 1) →
    scr0.view.read (Elt Bits) a0 = k0_pay1 (F := Bits) (iblk T0 T1 hT m c (1 : Fin 6) ⟨t.val - 1, by omega⟩)
      ∧ scr1.view.read (Elt Bits) a1 = k0_pay2 (F := Bits) (iblk T0 T1 hT m c (3 : Fin 6) ⟨t.val - 1, by omega⟩)

/-- The invariant before point `t`: the scratch arrays so, and the body's halves of the tables. -/
def Phi (c : Dev nD) (t : Fin ((cfgA T0 T1 hT).N + 1)) : sProp 𝕄 :=
  iprop((∃ a0 a1, ⌜Laid T0 T1 hT m c t a0 a1⌝ ∗ (scr0.view.loc (c : Thread nD τ) ↦{fullShare} a0) ∗ (scr1.view.loc (c : Thread nD τ) ↦{fullShare} a1))
    ∗ (tab0.view.loc (c : Thread nD τ) ↦{fullShare.right} T0) ∗ (tab1.view.loc (c : Thread nD τ) ↦{fullShare.right} T1))

/-- The pipeline's proof data on core `c`. -/
def dats (_ : Fin 1) (c : Dev nD) : Dat τ (Elt Bits) Unit ℕ (UR sig nD τ) ℕ (cfgA T0 T1 hT) c where
  A w := m (((cfgA T0 T1 hT).win w).arr.view.loc (c : Thread nD τ))
  after w t := match w with
    | ⟨0, _⟩ => iblk T0 T1 hT m c (0 : Fin 6) t
    | ⟨1, _⟩ => iblk T0 T1 hT m c (1 : Fin 6) t
    | ⟨2, _⟩ => iblk T0 T1 hT m c (2 : Fin 6) t
    | ⟨3, _⟩ => iblk T0 T1 hT m c (3 : Fin 6) t
    | ⟨4, _⟩ => iblk T0 T1 hT m c (4 : Fin 6) t
    | ⟨5, _⟩ => left T0 T1 hT m c t
  Φ t := Phi T0 T1 hT m c t
  q _ := fullShare
  owed _ := 0

theorem after_0 (c : Dev nD) (t : Fin (cfgA T0 T1 hT).N) : (dats T0 T1 hT m 0 c).after (0 : Fin 6) t = iblk T0 T1 hT m c (0 : Fin 6) t := rfl
theorem after_1 (c : Dev nD) (t : Fin (cfgA T0 T1 hT).N) : (dats T0 T1 hT m 0 c).after (1 : Fin 6) t = iblk T0 T1 hT m c (1 : Fin 6) t := rfl
theorem after_2 (c : Dev nD) (t : Fin (cfgA T0 T1 hT).N) : (dats T0 T1 hT m 0 c).after (2 : Fin 6) t = iblk T0 T1 hT m c (2 : Fin 6) t := rfl
theorem after_3 (c : Dev nD) (t : Fin (cfgA T0 T1 hT).N) : (dats T0 T1 hT m 0 c).after (3 : Fin 6) t = iblk T0 T1 hT m c (3 : Fin 6) t := rfl
theorem after_4 (c : Dev nD) (t : Fin (cfgA T0 T1 hT).N) : (dats T0 T1 hT m 0 c).after (4 : Fin 6) t = iblk T0 T1 hT m c (4 : Fin 6) t := rfl
theorem after_5 (c : Dev nD) (t : Fin (cfgA T0 T1 hT).N) : (dats T0 T1 hT m 0 c).after (5 : Fin 6) t = left T0 T1 hT m c t := rfl

/- An input's buffer holds its block when the body runs. -/
theorem before_0 (c : Dev nD) (t : Fin (cfgA T0 T1 hT).N) (d) : (dats T0 T1 hT m 0 c).before (0 : Fin 6) t d = iblk T0 T1 hT m c (0 : Fin 6) t :=
  ((dats T0 T1 hT m 0 c).before_in_eq_fetched (0 : Fin 6) rfl (fun _ => rfl) (fun _ _ _ => rfl) (fun t => by rw [after_0]; unfold Dat.blockOf iblk; rfl) t d).trans
    (by unfold Dat.fetched Dat.blockOf iblk; rfl)

theorem before_1 (c : Dev nD) (t : Fin (cfgA T0 T1 hT).N) (d) : (dats T0 T1 hT m 0 c).before (1 : Fin 6) t d = iblk T0 T1 hT m c (1 : Fin 6) t :=
  ((dats T0 T1 hT m 0 c).before_in_eq_fetched (1 : Fin 6) rfl (fun _ => rfl) (fun _ _ _ => rfl) (fun t => by rw [after_1]; unfold Dat.blockOf iblk; rfl) t d).trans
    (by unfold Dat.fetched Dat.blockOf iblk; rfl)

theorem before_2 (c : Dev nD) (t : Fin (cfgA T0 T1 hT).N) (d) : (dats T0 T1 hT m 0 c).before (2 : Fin 6) t d = iblk T0 T1 hT m c (2 : Fin 6) t :=
  ((dats T0 T1 hT m 0 c).before_in_eq_fetched (2 : Fin 6) rfl (fun _ => rfl) (fun _ _ _ => rfl) (fun t => by rw [after_2]; unfold Dat.blockOf iblk; rfl) t d).trans
    (by unfold Dat.fetched Dat.blockOf iblk; rfl)

theorem before_3 (c : Dev nD) (t : Fin (cfgA T0 T1 hT).N) (d) : (dats T0 T1 hT m 0 c).before (3 : Fin 6) t d = iblk T0 T1 hT m c (3 : Fin 6) t :=
  ((dats T0 T1 hT m 0 c).before_in_eq_fetched (3 : Fin 6) rfl (fun _ => rfl) (fun _ _ _ => rfl) (fun t => by rw [after_3]; unfold Dat.blockOf iblk; rfl) t d).trans
    (by unfold Dat.fetched Dat.blockOf iblk; rfl)

theorem before_4 (c : Dev nD) (t : Fin (cfgA T0 T1 hT).N) (d) : (dats T0 T1 hT m 0 c).before (4 : Fin 6) t d = iblk T0 T1 hT m c (4 : Fin 6) t :=
  ((dats T0 T1 hT m 0 c).before_in_eq_fetched (4 : Fin 6) rfl (fun _ => rfl) (fun _ _ _ => rfl) (fun t => by rw [after_4]; unfold Dat.blockOf iblk; rfl) t d).trans
    (by unfold Dat.fetched Dat.blockOf iblk; rfl)

/-- Two points with one expert have one block of each weight. -/
theorem blk1_eq (c : Dev nD) (t t' : Fin (cfgA T0 T1 hT).N) (h : ((cfgA T0 T1 hT).win (1 : Fin 6)).index t = ((cfgA T0 T1 hT).win (1 : Fin 6)).index t') :
    iblk T0 T1 hT m c (1 : Fin 6) t = iblk T0 T1 hT m c (1 : Fin 6) t' := by
  have d : ((cfgA T0 T1 hT).win (1 : Fin 6)).block.Idx → Elt Bits ((cfgA T0 T1 hT).win (1 : Fin 6)).elt := iblk T0 T1 hT m c (1 : Fin 6) t
  have e := (dats T0 T1 hT m 0 c).fetched_congr (1 : Fin 6) h rfl d
  unfold Dat.fetched Dat.blockOf at e
  exact e

theorem blk3_eq (c : Dev nD) (t t' : Fin (cfgA T0 T1 hT).N) (h : ((cfgA T0 T1 hT).win (3 : Fin 6)).index t = ((cfgA T0 T1 hT).win (3 : Fin 6)).index t') :
    iblk T0 T1 hT m c (3 : Fin 6) t = iblk T0 T1 hT m c (3 : Fin 6) t' := by
  have d : ((cfgA T0 T1 hT).win (3 : Fin 6)).block.Idx → Elt Bits ((cfgA T0 T1 hT).win (3 : Fin 6)).elt := iblk T0 T1 hT m c (3 : Fin 6) t
  have e := (dats T0 T1 hT m 0 c).fetched_congr (3 : Fin 6) h rfl d
  unfold Dat.fetched Dat.blockOf at e
  exact e

/-- Where the weights are not laid down anew they are the point before's. -/
theorem laid_here (c : Dev nD) (t : Fin (cfgA T0 T1 hT).N) (hu : used T1 (crd T0 T1 hT t 0).val) (hf : ¬fresh (crd T0 T1 hT t) T0 T1)
    {a0 : Buf (Elt Bits) ((c : Thread nD τ).loc cc0_scratch0)} {a1 : Buf (Elt Bits) ((c : Thread nD τ).loc cc0_scratch1)} (h : Laid T0 T1 hT m c t.castSucc a0 a1) :
    scr0.view.read (Elt Bits) a0 = k0_pay1 (F := Bits) (iblk T0 T1 hT m c (1 : Fin 6) t)
      ∧ scr1.view.read (Elt Bits) a1 = k0_pay2 (F := Bits) (iblk T0 T1 hT m c (3 : Fin 6) t) := by
  obtain ⟨h0, he⟩ := same_of_not_fresh (crd T0 T1 hT t) T0 T1 hu hf
  have hv : (crd T0 T1 hT t 0).val = t.val := crd_val t
  rw [hv] at h0 hu
  have hl := h h0 (used_pred T1 hu)
  let t' : Fin (cfgA T0 T1 hT).N := ⟨t.val - 1, by omega⟩
  have hv' : (crd T0 T1 hT t' 0).val = t.val - 1 := crd_val t'
  have hw : T0 (eix (crd T0 T1 hT t' 0)) = T0 (eix (crd T0 T1 hT t 0)) := by
    rw [he]
    exact congrArg T0 (eix_ext _ _ (by
      show (crd T0 T1 hT t' 0).val = (crd T0 T1 hT t 0).val - 1
      rw [hv', hv]))
  have hi : (![(T0 (eix (crd T0 T1 hT t' 0)) : BitVec 32).toNat, 0, 0] : Fin 3 → ℕ) = ![(T0 (eix (crd T0 T1 hT t 0)) : BitVec 32).toNat, 0, 0] := by
    rw [hw]
  have e1 : iblk T0 T1 hT m c (1 : Fin 6) t' = iblk T0 T1 hT m c (1 : Fin 6) t := blk1_eq T0 T1 hT m c t' t
    ((map1 (crd T0 T1 hT t') T0 T1 _ _).trans (hi.trans (map1 (crd T0 T1 hT t) T0 T1 _ _).symm))
  have e3 : iblk T0 T1 hT m c (3 : Fin 6) t' = iblk T0 T1 hT m c (3 : Fin 6) t := blk3_eq T0 T1 hT m c t' t
    ((map3 (crd T0 T1 hT t') T0 T1 _ _).trans (hi.trans (map3 (crd T0 T1 hT t) T0 T1 _ _).symm))
  exact ⟨hl.1.trans (congrArg (k0_pay1 (F := Bits)) e1), hl.2.trans (congrArg (k0_pay2 (F := Bits)) e3)⟩

/-- The result is stored at every point, -/
theorem idle5 (t : Fin (cfgA T0 T1 hT).N) : (cfgA T0 T1 hT).idle (5 : Fin 6) ((cfgA T0 T1 hT).grid.coords t) = false := by
  have hw : (tabs T0 T1).atD 1 ![0] = T1 nix := by
    unfold Pipeline.Prefetch.Contents.atD
    rw [dif_pos (by decide)]
    exact congrArg T1 (nix_ext _)
  show (!(k0_cond2 (crd T0 T1 hT t) ((tabs T0 T1).atD 1 ![0]) == 1#1) && !(k0_cond3 (crd T0 T1 hT t) ((tabs T0 T1).atD 1 ![0]) == 1#1)) = false
  rw [hw, ← rdN_eq T1]
  by_cases hu : used T1 (crd T0 T1 hT t 0).val
  · rw [(cond2_iff (crd T0 T1 hT t) T1).mpr hu]; rfl
  · rw [(cond3_iff (crd T0 T1 hT t) T1).mpr hu, Bool.and_comm]; rfl

/-- and written back at every point: the next point's block is another. -/
theorem flush5 (t : Fin (cfgA T0 T1 hT).N) : ((cfgA T0 T1 hT).win (5 : Fin 6)).flush t = true := by
  have hix : ∀ t : Fin grid0.N, cc0_transform_5 (grid0.coords t) 0 = t.val := by decide +kernel
  unfold Window.flush
  rw [Bool.and_eq_true]
  refine ⟨rfl, ?_⟩
  have hlt : t.val < (cfgA T0 T1 hT).grid.N := t.isLt
  by_cases h : t.val + 1 = (cfgA T0 T1 hT).grid.N
  · simp only [h, decide_true, Bool.true_or]
  · rw [Bool.or_eq_true]
    refine .inr (decide_eq_true ⟨by omega, fun e => ?_⟩)
    have e0 := congrFun e 0
    have h1 := (hix ⟨t.val + 1, Nat.lt_of_le_of_ne hlt h⟩).symm.trans (e0.trans (hix t))
    simp at h1

/-- The body at point `t` on its buffers, as the pipeline calls it. -/
abbrev bodyAt (t : Fin (cfgA T0 T1 hT).N) : Prog (TpuEff nD τ sig (Elt Bits) Λ₀ .tc) PUnit :=
  body (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) (ms5 T0 T1 hT t) (hs5 T0 T1 hT t)

set_option maxHeartbeats 4000000 in
/-- The body at a point: from the invariant and the blocks to the invariant after it and the result's block. -/
theorem sound_body (c : Dev nD) (t : Fin (cfgA T0 T1 hT).N) :
    iprop((dats T0 T1 hT m 0 c).Φ t.castSucc ∗ (dats T0 T1 hT m 0 c).owesAt () t.castSucc
        ∗ (∃ d, owns (c : Thread nD τ) (ms0 T0 T1 hT t) fullShare ((dats T0 T1 hT m 0 c).before (0 : Fin 6) t d))
        ∗ (∃ d, owns (c : Thread nD τ) (ms1 T0 T1 hT t) fullShare ((dats T0 T1 hT m 0 c).before (1 : Fin 6) t d))
        ∗ (∃ d, owns (c : Thread nD τ) (ms2 T0 T1 hT t) fullShare ((dats T0 T1 hT m 0 c).before (2 : Fin 6) t d))
        ∗ (∃ d, owns (c : Thread nD τ) (ms3 T0 T1 hT t) fullShare ((dats T0 T1 hT m 0 c).before (3 : Fin 6) t d))
        ∗ (∃ d, owns (c : Thread nD τ) (ms4 T0 T1 hT t) fullShare ((dats T0 T1 hT m 0 c).before (4 : Fin 6) t d))
        ∗ (∃ d, owns (c : Thread nD τ) (ms5 T0 T1 hT t) fullShare ((dats T0 T1 hT m 0 c).before (5 : Fin 6) t d)))
      ⊢ wp frame (wpE (defs₀ (F := Bits)) Variants.none c none) Set.univ (bodyAt T0 T1 hT t) fun _ =>
          iprop((dats T0 T1 hT m 0 c).Φ t.succ ∗ (dats T0 T1 hT m 0 c).owesAt () t.succ
            ∗ bigSep Finset.univ fun w : Fin (cfgA T0 T1 hT).W =>
                match (cfgA T0 T1 hT).idle w ((cfgA T0 T1 hT).grid.coords t) with
                | true =>
                  match ((cfgA T0 T1 hT).win w).flush t with
                  | false => iprop(∃ d, owns (c : Thread nD τ) (((cfgA T0 T1 hT).win w).stage ((cfgA T0 T1 hT).slots t w)) fullShare ((dats T0 T1 hT m 0 c).before w t d))
                  | true => owns (c : Thread nD τ) (((cfgA T0 T1 hT).win w).stage ((cfgA T0 T1 hT).slots t w)) fullShare ((dats T0 T1 hT m 0 c).after w t)
                | false => owns (c : Thread nD τ) (((cfgA T0 T1 hT).win w).stage ((cfgA T0 T1 hT).slots t w)) fullShare ((dats T0 T1 hT m 0 c).after w t)) := by
  rw [bigSep_W0]
  rewrite [idle5 T0 T1 hT t]
  simp only [before_0, before_1, before_2, before_3, before_4, after_0, after_1, after_2, after_3, after_4, after_5]
  rewrite [show (dats T0 T1 hT m 0 c).Φ t.succ = Phi T0 T1 hT m c t.succ from rfl, show (dats T0 T1 hT m 0 c).Φ t.castSucc = Phi T0 T1 hT m c t.castSucc from rfl,
    show (dats T0 T1 hT m 0 c).owesAt () t.succ = (dats T0 T1 hT m 0 c).owesAt () t.castSucc from rfl]
  have hv : (crd T0 T1 hT t 0).val = t.val := crd_val t
  unfold Phi
  iintro ⟨⟨⟨%a0, %a1, %ha, HS0, HS1⟩, HT0, HT1⟩, Ho, ⟨%d0, H0⟩, ⟨%d1, H1⟩, ⟨%d2, H2⟩, ⟨%d3, H3⟩, ⟨%d4, H4⟩, ⟨%d5, H5⟩⟩
  by_cases hu : used T1 (crd T0 T1 hT t 0).val
  · have h2 := (cond2_iff (crd T0 T1 hT t) T1).mpr hu
    have h3 : ¬(k0_cond3 (crd T0 T1 hT t) (rdN T1) = 1#1) := fun h => (cond3_iff (crd T0 T1 hT t) T1).mp h hu
    have hl : left T0 T1 hT m c t = k0_pay3 (F := Bits) (iblk T0 T1 hT m c (0 : Fin 6) t) (k0_pay1 (F := Bits) (iblk T0 T1 hT m c (1 : Fin 6) t)) (iblk T0 T1 hT m c (2 : Fin 6) t)
      (k0_pay2 (F := Bits) (iblk T0 T1 hT m c (3 : Fin 6) t)) (iblk T0 T1 hT m c (4 : Fin 6) t) := if_pos (hv ▸ hu)
    by_cases hf : fresh (crd T0 T1 hT t) T0 T1
    · iapply ((runLay c (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) (ms5 T0 T1 hT t) (hs5 T0 T1 hT t) T0 T1 (iblk T0 T1 hT m c (0 : Fin 6) t) (iblk T0 T1 hT m c (1 : Fin 6) t) (iblk T0 T1 hT m c (2 : Fin 6) t) (iblk T0 T1 hT m c (3 : Fin 6) t) (iblk T0 T1 hT m c (4 : Fin 6) t) a0 a1 hf h2 h3).2.2.2 _)
      isplitl [H0 H1 H2 H3 H4 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        iexact HT1
      isplitl [H5]; · iexists _; iexact H5
      isplitl [HS0]; · iexact HS0
      isplitl [HS1]; · iexact HS1
      iintro ⟨⟨H0, H1, H2, H3, H4, HT0, HT1⟩, ⟨%e5, H5⟩, HS0, HS1⟩
      isplitl [HS0 HS1 HT0 HT1]
      · isplitl [HS0 HS1]
        · iexists _; iexists _; isplitr; swap
          · isplitl [HS0]; · iexact HS0
            iexact HS1
          · ipureintro; exact fun _ _ => ⟨lay_s0 .., lay_s1 ..⟩
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      unfold owns; iexists _; isplitr; swap
      · iexact H5
      · ipureintro; exact (lay_out ..).trans hl.symm

    · have hh := laid_here T0 T1 hT m c t hu hf ha
      iapply ((runKeep c (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) (ms5 T0 T1 hT t) (hs5 T0 T1 hT t) T0 T1 (iblk T0 T1 hT m c (0 : Fin 6) t) (iblk T0 T1 hT m c (1 : Fin 6) t) (iblk T0 T1 hT m c (2 : Fin 6) t) (iblk T0 T1 hT m c (3 : Fin 6) t) (iblk T0 T1 hT m c (4 : Fin 6) t) a0 a1 hf h2 h3).2.2.2 _)
      isplitl [H0 H1 H2 H3 H4 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        iexact HT1
      isplitl [H5]; · iexists _; iexact H5
      isplitl [HS0]; · iexact HS0
      isplitl [HS1]; · iexact HS1
      iintro ⟨⟨H0, H1, H2, H3, H4, HT0, HT1⟩, ⟨%e5, H5⟩, HS0, HS1⟩
      isplitl [HS0 HS1 HT0 HT1]
      · isplitl [HS0 HS1]
        · iexists _; iexists _; isplitr; swap
          · isplitl [HS0]; · iexact HS0
            iexact HS1
          · ipureintro; exact fun _ _ => hh
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      unfold owns; iexists _; isplitr; swap
      · iexact H5
      · ipureintro; exact (keep_out ..).trans ((pay3_congr rfl hh.1 rfl hh.2 rfl).trans hl.symm)

  · have h2 : ¬(k0_cond2 (crd T0 T1 hT t) (rdN T1) = 1#1) := fun h => hu ((cond2_iff (crd T0 T1 hT t) T1).mp h)
    have h3 := (cond3_iff (crd T0 T1 hT t) T1).mpr hu
    have hf : ¬fresh (crd T0 T1 hT t) T0 T1 := fun h => hu (used_of_fresh (crd T0 T1 hT t) T0 T1 h)
    have hl : left T0 T1 hT m c t = k0_pay4 (F := Bits) := if_neg (hv ▸ hu)
    iapply ((runSkip c (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) (ms5 T0 T1 hT t) (hs5 T0 T1 hT t) T0 T1 (iblk T0 T1 hT m c (0 : Fin 6) t) (iblk T0 T1 hT m c (1 : Fin 6) t) (iblk T0 T1 hT m c (2 : Fin 6) t) (iblk T0 T1 hT m c (3 : Fin 6) t) (iblk T0 T1 hT m c (4 : Fin 6) t) a0 a1 hf h2 h3).2.2.2 _)
    isplitl [H0 H1 H2 H3 H4 HT0 HT1]
    · isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      iexact HT1
    isplitl [H5]; · iexists _; iexact H5
    isplitl [HS0]; · iexact HS0
    isplitl [HS1]; · iexact HS1
    iintro ⟨⟨H0, H1, H2, H3, H4, HT0, HT1⟩, ⟨%e5, H5⟩, HS0, HS1⟩
    isplitl [HS0 HS1 HT0 HT1]
    · isplitl [HS0 HS1]
      · iexists _; iexists _; isplitr; swap
        · isplitl [HS0]; · iexact HS0
          iexact HS1
        · ipureintro; exact fun _ h => absurd (show used T1 (crd T0 T1 hT t 0).val from hv ▸ h) hu
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro; exact (skip_out ..).trans hl.symm

/-- The same, as the library asks for it. -/
theorem body_obligation (c : Dev nD) : BodyObligation (dats T0 T1 hT m 0 c) (defs₀ (F := Bits)) Variants.none () Set.univ := fun t => by
  rw [bigSep_W0]
  exact sound_body T0 T1 hT m c t

/-- What the launch starts from. -/
def u₀ : UR sig nD τ :=
  initOf (Pipeline.cells (pcs T0 T1 hT) ((launch0 (F := Bits)).cellOf_inj fun _ => adm T0 T1 hT))
    (Pipeline.launchToks (pcs T0 T1 hT) ((launch0 (F := Bits)).cellOf_inj fun _ => adm T0 T1 hT))

theorem share_eq (c : Dev nD) (w : Fin (cfgA T0 T1 hT).W) : (dats T0 T1 hT m 0 c).share w = fullShare := by unfold Dat.share; split <;> rfl

/-- The tables as the launch hands them over, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the scratch arrays; -/
theorem phi_first (c : Dev nD) :
    iprop(BI.emp ∗ Pipeline.prefHeld pre0 c (fun _ => fullShare.right) (adm T0 T1 hT).1 ∗ Pipeline.scopedRest spec0 c) ⊢ (dats T0 T1 hT m 0 c).Φ 0 := by
  rw [prefHeld_eq, scopedRest0_eq, show (dats T0 T1 hT m 0 c).Φ 0 = Phi T0 T1 hT m c 0 from rfl]
  unfold Phi
  iintro ⟨-, ⟨HT0, HT1⟩, ⟨%a0, HS0⟩, ⟨%a1, HS1⟩⟩
  isplitl [HS0 HS1]
  · iexists a0; iexists a1; isplitr; swap
    · isplitl [HS0]; · iexact HS0
      iexact HS1
    · ipureintro; exact fun h _ => absurd rfl h
  isplitl [HT0]
  · iexact HT0
  iexact HT1

/-- at the last it gives the scratch arrays back. -/
theorem phi_last (c : Dev nD) : (dats T0 T1 hT m 0 c).Φ (Fin.last (cfgA T0 T1 hT).N) ⊢ iprop(BI.emp ∗ Pipeline.scopedRest spec0 c) := by
  rw [scopedRest0_eq, show (dats T0 T1 hT m 0 c).Φ (Fin.last (cfgA T0 T1 hT).N) = Phi T0 T1 hT m c (Fin.last _) from rfl]
  unfold Phi
  iintro ⟨⟨%a0, %a1, -, HS0, HS1⟩, -, -⟩
  isplitr; · iempintro
  isplitl [HS0]
  · iexists a0; iexact HS0
  iexists a1; iexact HS1

/-- The memory's tables are these. -/
def At (m : (ℓ : Loc nD τ sig) → Buf (Elt Bits) ℓ) : Prop :=
  ∀ c : Dev nD, m ((c : Thread nD τ).loc main_arg1) = T0 ∧ m ((c : Thread nD τ).loc main_arg2) = T1

/-- Where a run ends: every array at what the blocks written back make of it, every table as it was. -/
def Ends : PUnit × MemSt nD τ sig (Elt Bits) → Prop := fun r =>
  ∀ c : Dev nD, (∀ w : Fin (cfgA T0 T1 hT).W, r.2.mem (((cfgA T0 T1 hT).win w).arr.view.loc (c : Thread nD τ)) = (dats T0 T1 hT m 0 c).arrAt w (cfgA T0 T1 hT).N)
    ∧ ∀ j, r.2.mem ((c : Thread nD τ).loc (pre0.ref j)) = (adm T0 T1 hT).1 j

theorem tables_at (hp : At T0 T1 m) (c : Dev nD) (j : Fin 2) : m ((c : Thread nD τ).loc (pre0.ref j)) = (adm T0 T1 hT).1 j := by
  fin_cases j
  · exact (hp c).1
  · exact (hp c).2

set_option backward.isDefEq.respectTransparency.types false in
set_option maxHeartbeats 4000000 in
/-- Every run ends there, with every semaphore back at zero. -/
theorem run_quiescent (hp : At T0 T1 m) : θ_run (defs (F := Bits)) (onTc (τ := τ) (main (F := Bits))) (s₀ m ρ) (fun r => Ends T0 T1 hT m r ∧ r.2.sem = fun _ => 0) :=
  Pipeline.θ_run_region_noSem_pf_quiescent pcfgs (fun _ => adm T0 T1 hT) (dats T0 T1 hT m) () ((launch0 (F := Bits)).cellOf_inj fun _ => adm T0 T1 hT) (0 : Fin 1)
    (launch0 (F := Bits)).win.to₀ (launch0 (F := Bits)).pre EP defs₀ Variants.none m ρ main
    (hbody := fun c => (body_obligation T0 T1 hT m c).loose) (hne := (launch0 (F := Bits)).block_pos)
    (harr := (launch0 (F := Bits)).arr_whole) (hstage := (launch0 (F := Bits)).stage_whole) (howed := fun _ _ => rfl)
    (u₀ := u₀ T0 T1 hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T0 T1 hT) (dats T0 T1 hT m) 0 (launch0 (F := Bits)).win.arr_inj c (launch0 (F := Bits)).arr_whole
      (share_eq T0 T1 hT m c) _ _ fun _ => rfl)
    (hpf := tables_at T0 T1 hT m hp)
    (X := fun _ => iprop(emp)) (Y := fun _ => iprop(emp)) (Z := fun _ => iprop(emp))
    (hX := fun c => by rw [unscopedRestP0_eq]; iintro -; isplitr <;> iempintro)
    (hin := phi_first T0 T1 hT m)
    (hout := phi_last T0 T1 hT m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they began. -/
theorem args_kept (hp : At T0 T1 m) {r : PUnit × MemSt nD τ sig (Elt Bits)} (h : Ends T0 T1 hT m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 (0 : Fin 6)).trans ((dats T0 T1 hT m 0 c).arrAt_in (0 : Fin 6) rfl _), ((h c).2 0).trans (hp c).1.symm, ((h c).2 1).trans (hp c).2.symm,
    ((h c).1 (1 : Fin 6)).trans ((dats T0 T1 hT m 0 c).arrAt_in (1 : Fin 6) rfl _), ((h c).1 (2 : Fin 6)).trans ((dats T0 T1 hT m 0 c).arrAt_in (2 : Fin 6) rfl _),
    ((h c).1 (3 : Fin 6)).trans ((dats T0 T1 hT m 0 c).arrAt_in (3 : Fin 6) rfl _), ((h c).1 (4 : Fin 6)).trans ((dats T0 T1 hT m 0 c).arrAt_in (4 : Fin 6) rfl _)⟩

end Cert.Kernel4.Exp

end
-- ==== Proof.ExpRun.lean ====
/- The experts' kernel body, run once for each way its tests can fall out: the block is used and its expert differs from
   the one before it (the weights are first laid into the two scratch arrays), the block is used and its expert is the one
   before it (the scratch arrays are read as they are), the block is not used (zeros are stored). -/
module

public import proofs.«01_k».proof.Proof.Gen.Kernel4Ideal.Skeleton
public import proofs.«01_k».proof.Proof.Gen.Kernel4Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.PureOps.BitExact

@[expose] public section

set_option maxRecDepth 16384

noncomputable section

namespace Cert.Kernel4Ideal.Exp

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The two tables and the two scratch arrays. -/
abbrev tab0 : Memref sig .tc .smem S292 .i32 := Memref.whole main_arg1
abbrev tab1 : Memref sig .tc .smem S1 .i32 := Memref.whole main_arg2
abbrev scr0 : Memref sig .tc .vmem S1024x2048 .bf16 := Memref.whole cc0_scratch0
abbrev scr1 : Memref sig .tc .vmem S1024x1024 .bf16 := Memref.whole cc0_scratch1

/-- The words the body reads: the number of used blocks, this block's expert, the expert before it. -/
abbrev rdN (T1 : S1.Idx → Elt Ideal .i32) : BitVec 32 :=
  View.readAt (Elt Ideal) tab1.view (Rect.unit (s := S1) ![0] S1.size inb_S1_S1_0).toLoadRect T1 (Shape.Idx.first (numel1_S1.symm ▸ Nat.one_pos))
abbrev rdE (i : grid0.Coords) (T0 : S292.Idx → Elt Ideal .i32) : BitVec 32 :=
  View.readAt (Elt Ideal) tab0.view (Rect.unit (s := S292) (k0_off1 i) S1.size (k0_off1_inb i)).toLoadRect T0 (Shape.Idx.first (numel1_S1.symm ▸ Nat.one_pos))
abbrev rdP (i : grid0.Coords) (T0 : S292.Idx → Elt Ideal .i32) : BitVec 32 :=
  View.readAt (Elt Ideal) tab0.view (Rect.unit (s := S292) (k0_off2 i) S1.size (k0_off2_inb i)).toLoadRect T0 (Shape.Idx.first (numel1_S1.symm ▸ Nat.one_pos))

/-- The test before the weights are laid down. -/
abbrev fresh (i : grid0.Coords) (T0 : S292.Idx → Elt Ideal .i32) (T1 : S1.Idx → Elt Ideal .i32) : Prop :=
  (Scalar.cmpi .ne (Scalar.extui (Scalar.andi (Scalar.cmpi .slt (BitVec.ofNat 32 (i 0).val) (rdN T1)) (Scalar.ori (Scalar.cmpi .eq (BitVec.ofNat 32 (i 0).val) 0#32) (Scalar.cmpi .ne (rdE i T0) (rdP i T0))))) 0#32) = 1#1

/-- One piece stored over the whole of a view is what it then reads. -/
theorem read_whole {sig : RefSig} {κ : Kind} {sp : Space} {s : Shape} {e : EltTy} {Val : EltTy → Type} (v : View sig κ sp s e) (f : v.ty.Contents Val)
    {off : Fin s.rank → ℕ} (inb : ∀ a, off a + s.size a ≤ s.size a) (w : s.Idx → Val e) (L : List (View.Piece Val s e)) :
    v.read Val (v.writes Val f ((⟨Rect.unit off s.size inb, w⟩ : View.Piece Val s e) :: L)) = w :=
  funext fun y => View.read_writes_cons_hit_of_coords v f (Rect.unit off s.size inb) w L y y fun a => by
    have := inb a
    show (y a).val = off a + 1 * (y a).val
    omega

theorem pay3_congr {a a' : Vec Ideal S256x1024 .f32} {b b' : Vec Ideal S1024x2048 .bf16} {p p' : Vec Ideal S1x1x2048 .f32} {d d' : Vec Ideal S1024x1024 .bf16}
    {e e' : Vec Ideal S1x1x1024 .f32} (ha : a = a') (hb : b = b') (hp : p = p') (hd : d = d') (he : e = e') :
    k0_pay3 a b p d e = k0_pay3 a' b' p' d' e' := by
  subst ha hb hp hd he; rfl

section

variable (c : Dev nD) (i : grid0.Coords)
  (arg3 : Memref sig .tc .vmem S256x1024 .f32) (harg3 : arg3.IsWhole)
  (arg4 : Memref sig .tc .vmem S1x1024x2048 .f32) (harg4 : arg4.IsWhole)
  (arg5 : Memref sig .tc .vmem S1x1x2048 .f32) (harg5 : arg5.IsWhole)
  (arg6 : Memref sig .tc .vmem S1x1024x1024 .f32) (harg6 : arg6.IsWhole)
  (arg7 : Memref sig .tc .vmem S1x1x1024 .f32) (harg7 : arg7.IsWhole)
  (arg8 : Memref sig .tc .vmem S256x1024 .f32) (harg8 : arg8.IsWhole)
  (T0 : S292.Idx → Elt Ideal .i32) (T1 : S1.Idx → Elt Ideal .i32)
  (x0 : S256x1024.Idx → Elt Ideal .f32) (x1 : S1x1024x2048.Idx → Elt Ideal .f32) (x2 : S1x1x2048.Idx → Elt Ideal .f32)
  (x3 : S1x1024x1024.Idx → Elt Ideal .f32) (x4 : S1x1x1024.Idx → Elt Ideal .f32)
  (xa0 : Buf (Elt Ideal) ((c : Thread nD τ).loc cc0_scratch0)) (xa1 : Buf (Elt Ideal) ((c : Thread nD τ).loc cc0_scratch1))

/-- What the body starts from, but for the output's buffer and the scratch arrays: the blocks and the tables. -/
abbrev held : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (arg7.view.loc (c : Thread nD τ) ↦[arg7.view.set]{fullShare} arg7.view.rep x4)
    ∗ (tab0.view.loc (c : Thread nD τ) ↦{fullShare.right} T0)
    ∗ (tab1.view.loc (c : Thread nD τ) ↦{fullShare.right} T1))

/-- The body on these buffers. -/
abbrev body : Prog (TpuEff nD τ sig (Elt Ideal) Λ₀ .tc) PUnit :=
  cc0_experts i tab0 (Memref.isWhole_whole _) tab1 (Memref.isWhole_whole _) arg3 harg3 arg4 harg4 arg5 harg5 arg6 harg6 arg7 harg7 arg8 harg8 scr0 (Memref.isWhole_whole _) scr1 (Memref.isWhole_whole _)

/-- What a run of the body finds: the pieces stored into the output and what the scratch arrays end with, from these
    blocks, tables and scratch arrays. -/
abbrev Found (out0 : List (View.Piece (Elt Ideal) S256x1024 .f32)) (out1 : Buf (Elt Ideal) ((c : Thread nD τ).loc cc0_scratch0))
    (out2 : Buf (Elt Ideal) ((c : Thread nD τ).loc cc0_scratch1)) : Prop :=
  ∀ K : PUnit → sProp 𝕄,
    iprop(held c arg3 arg4 arg5 arg6 arg7 T0 T1 x0 x1 x2 x3 x4
      ∗ (∃ d, owns (c : Thread nD τ) arg8 fullShare d)
      ∗ (scr0.view.loc (c : Thread nD τ) ↦{fullShare} xa0)
      ∗ (scr1.view.loc (c : Thread nD τ) ↦{fullShare} xa1)
      ∗ (iprop(held c arg3 arg4 arg5 arg6 arg7 T0 T1 x0 x1 x2 x3 x4
          ∗ (∃ f, arg8.view.loc (c : Thread nD τ) ↦[arg8.view.set]{fullShare} arg8.view.writes (Elt Ideal) f out0)
          ∗ (scr0.view.loc (c : Thread nD τ) ↦{fullShare} out1)
          ∗ (scr1.view.loc (c : Thread nD τ) ↦{fullShare} out2)) -∗ K ⟨⟩))
      ⊢ wp frame (wpE (defs₀ (F := Ideal)) Variants.none c none) Set.univ
          (body i arg3 harg3 arg4 harg4 arg5 harg5 arg6 harg6 arg7 harg7 arg8 harg8) K

set_option backward.proofsInPublic true in
set_option maxHeartbeats 8000000 in
/-- The block is used and its expert is not the one before it. -/
noncomputable def runLay (hc0 : fresh i T0 T1) (k0_h2 : (k0_cond2 i (rdN T1) = 1#1)) (k0_h3 : ¬(k0_cond3 i (rdN T1) = 1#1)) :
    Σ' (out0 : List (View.Piece (Elt Ideal) S256x1024 .f32)) (out1 : Buf (Elt Ideal) ((c : Thread nD τ).loc cc0_scratch0)),
      { out2 : Buf (Elt Ideal) ((c : Thread nD τ).loc cc0_scratch1) //
        Found c i arg3 harg3 arg4 harg4 arg5 harg5 arg6 harg6 arg7 harg7 arg8 harg8 T0 T1 x0 x1 x2 x3 x4 xa0 xa1 out0 out1 out2 } :=
  ⟨_, _, _, fun K => by
    unfold owns body held
    rw [cc0_experts_eq_skeleton]; unfold cc0_experts_skel
    iintro ⟨⟨H0, H1, H2, H3, H4, HT0, HT1⟩, ⟨%d5, %f5, -, HO5⟩, HS0, HS1, Hk⟩
    have hS0 : scr0.IsWhole := Memref.isWhole_whole _
    have hS1 : scr1.IsWhole := Memref.isWhole_whole _
    have hT0 : tab0.IsWhole := Memref.isWhole_whole _
    have hT1 : tab1.IsWhole := Memref.isWhole_whole _
    sl_exec! (disch := first | exact hc0 | exact k0_h2 | exact k0_h3)
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexists _; iexact HO5
    isplitl [HS0]; · iexact HS0
    iexact HS1⟩

set_option backward.proofsInPublic true in
set_option maxHeartbeats 8000000 in
/-- The block is used and its expert is the one before it. -/
noncomputable def runKeep (hc0 : ¬fresh i T0 T1) (k0_h2 : (k0_cond2 i (rdN T1) = 1#1)) (k0_h3 : ¬(k0_cond3 i (rdN T1) = 1#1)) :
    Σ' (out0 : List (View.Piece (Elt Ideal) S256x1024 .f32)) (out1 : Buf (Elt Ideal) ((c : Thread nD τ).loc cc0_scratch0)),
      { out2 : Buf (Elt Ideal) ((c : Thread nD τ).loc cc0_scratch1) //
        Found c i arg3 harg3 arg4 harg4 arg5 harg5 arg6 harg6 arg7 harg7 arg8 harg8 T0 T1 x0 x1 x2 x3 x4 xa0 xa1 out0 out1 out2 } :=
  ⟨_, _, _, fun K => by
    unfold owns body held
    rw [cc0_experts_eq_skeleton]; unfold cc0_experts_skel
    iintro ⟨⟨H0, H1, H2, H3, H4, HT0, HT1⟩, ⟨%d5, %f5, -, HO5⟩, HS0, HS1, Hk⟩
    have hS0 : scr0.IsWhole := Memref.isWhole_whole _
    have hS1 : scr1.IsWhole := Memref.isWhole_whole _
    have hT0 : tab0.IsWhole := Memref.isWhole_whole _
    have hT1 : tab1.IsWhole := Memref.isWhole_whole _
    sl_exec! (disch := first | exact hc0 | exact k0_h2 | exact k0_h3)
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexists _; iexact HO5
    isplitl [HS0]; · iexact HS0
    iexact HS1⟩

set_option backward.proofsInPublic true in
set_option maxHeartbeats 8000000 in
/-- The block is not used. -/
noncomputable def runSkip (hc0 : ¬fresh i T0 T1) (k0_h2 : ¬(k0_cond2 i (rdN T1) = 1#1)) (k0_h3 : (k0_cond3 i (rdN T1) = 1#1)) :
    Σ' (out0 : List (View.Piece (Elt Ideal) S256x1024 .f32)) (out1 : Buf (Elt Ideal) ((c : Thread nD τ).loc cc0_scratch0)),
      { out2 : Buf (Elt Ideal) ((c : Thread nD τ).loc cc0_scratch1) //
        Found c i arg3 harg3 arg4 harg4 arg5 harg5 arg6 harg6 arg7 harg7 arg8 harg8 T0 T1 x0 x1 x2 x3 x4 xa0 xa1 out0 out1 out2 } :=
  ⟨_, _, _, fun K => by
    unfold owns body held
    rw [cc0_experts_eq_skeleton]; unfold cc0_experts_skel
    iintro ⟨⟨H0, H1, H2, H3, H4, HT0, HT1⟩, ⟨%d5, %f5, -, HO5⟩, HS0, HS1, Hk⟩
    have hS0 : scr0.IsWhole := Memref.isWhole_whole _
    have hS1 : scr1.IsWhole := Memref.isWhole_whole _
    have hT0 : tab0.IsWhole := Memref.isWhole_whole _
    have hT1 : tab1.IsWhole := Memref.isWhole_whole _
    sl_exec! (disch := first | exact hc0 | exact k0_h2 | exact k0_h3)
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexists _; iexact HO5
    isplitl [HS0]; · iexact HS0
    iexact HS1⟩

/- What a run stores, in closed form. -/

theorem keep_out (hc0 h2 h3) (f) : arg8.view.read (Elt Ideal) (arg8.view.writes (Elt Ideal) f (runKeep c i arg3 harg3 arg4 harg4 arg5 harg5 arg6 harg6 arg7 harg7 arg8 harg8 T0 T1 x0 x1 x2 x3 x4 xa0 xa1 hc0 h2 h3).1)
    = k0_pay3 (F := Ideal) x0 (scr0.view.read (Elt Ideal) xa0) x2 (scr1.view.read (Elt Ideal) xa1) x4 := by
  unfold runKeep runKeep.sl.HO5_1
  exact (read_whole _ _ _ _ _).trans (pay3_congr (View.readAt_rep_full _ _ _) (View.readAt_full _ _ _) (View.readAt_rep_full _ _ _) (View.readAt_full _ _ _) (View.readAt_rep_full _ _ _))

theorem skip_out (hc0 h2 h3) (f) : arg8.view.read (Elt Ideal) (arg8.view.writes (Elt Ideal) f (runSkip c i arg3 harg3 arg4 harg4 arg5 harg5 arg6 harg6 arg7 harg7 arg8 harg8 T0 T1 x0 x1 x2 x3 x4 xa0 xa1 hc0 h2 h3).1) = k0_pay4 (F := Ideal) := by
  unfold runSkip runSkip.sl.HO5_1
  exact read_whole _ _ _ _ _

theorem lay_w0 (f) : (View.whole cc0_scratch0).read (Elt Ideal) ((View.whole cc0_scratch0).writes (Elt Ideal) f (runLay.sl.HS0_1 arg4 x1)) = k0_pay1 (F := Ideal) x1 := by
  unfold runLay.sl.HS0_1
  exact (read_whole _ _ _ _ _).trans (congrArg (k0_pay1 (F := Ideal)) (View.readAt_rep_full _ _ _))

theorem lay_w1 (f) : (View.whole cc0_scratch1).read (Elt Ideal) ((View.whole cc0_scratch1).writes (Elt Ideal) f (runLay.sl.HS1_1 arg6 x3)) = k0_pay2 (F := Ideal) x3 := by
  unfold runLay.sl.HS1_1
  exact (read_whole _ _ _ _ _).trans (congrArg (k0_pay2 (F := Ideal)) (View.readAt_rep_full _ _ _))

theorem lay_s0 (hc0 h2 h3) : scr0.view.read (Elt Ideal) (runLay c i arg3 harg3 arg4 harg4 arg5 harg5 arg6 harg6 arg7 harg7 arg8 harg8 T0 T1 x0 x1 x2 x3 x4 xa0 xa1 hc0 h2 h3).2.1 = k0_pay1 (F := Ideal) x1 := by
  unfold runLay
  dsimp only; exact lay_w0 arg4 x1 _

theorem lay_s1 (hc0 h2 h3) : scr1.view.read (Elt Ideal) (runLay c i arg3 harg3 arg4 harg4 arg5 harg5 arg6 harg6 arg7 harg7 arg8 harg8 T0 T1 x0 x1 x2 x3 x4 xa0 xa1 hc0 h2 h3).2.2.1 = k0_pay2 (F := Ideal) x3 := by
  unfold runLay
  dsimp only; exact lay_w1 arg6 x3 _

theorem lay_out (hc0 h2 h3) (f) : arg8.view.read (Elt Ideal) (arg8.view.writes (Elt Ideal) f (runLay c i arg3 harg3 arg4 harg4 arg5 harg5 arg6 harg6 arg7 harg7 arg8 harg8 T0 T1 x0 x1 x2 x3 x4 xa0 xa1 hc0 h2 h3).1)
    = k0_pay3 (F := Ideal) x0 (k0_pay1 x1) x2 (k0_pay2 x3) x4 := by
  unfold runLay runLay.sl.HO5_1
  refine (read_whole _ _ _ _ _).trans (pay3_congr (View.readAt_rep_full _ _ _) ?_ (View.readAt_rep_full _ _ _) ?_ (View.readAt_rep_full _ _ _))
  · unfold runLay.sl.v21
    exact (View.readAt_full _ _ _).trans (lay_w0 arg4 x1 _)
  · unfold runLay.sl.v43
    exact (View.readAt_full _ _ _).trans (lay_w1 arg6 x3 _)

end

end Cert.Kernel4Ideal.Exp

end
-- ==== Proof.ExpTab.lean ====
/- The two tables of the experts' kernel: what its index maps and its tests read of them, and that with every expert
   named below 32 each block lies inside its array. -/
module

public import proofs.«01_k».proof.Proof.ExpRun

@[expose] public section

set_option maxRecDepth 16384

noncomputable section

namespace Cert.Kernel4Ideal.Exp

open Cert.Kernel4Ideal Cert.Kernel4Ideal.Gen
open Idealize.ShloMosaic
open Idealize.ShloMosaic.TcCoe

/-- The table of experts at block `j`. -/
def eix (j : Fin 292) : S292.Idx := fun a => ⟨j.val, by
  have : a = 0 := Subsingleton.elim _ _
  subst this; exact j.isLt⟩

/-- The one place of the table of the number of used blocks. -/
def nix : S1.Idx := fun a => ⟨0, by
  have : a = 0 := Subsingleton.elim _ _
  subst this; exact Nat.one_pos⟩

theorem eix_ext (x : S292.Idx) (j : Fin 292) (h : (x 0).val = j.val) : x = eix j :=
  funext fun a => Fin.ext (by
    have : a = 0 := Subsingleton.elim _ _
    subst this; exact h)

theorem nix_ext (x : S1.Idx) : x = nix :=
  funext fun a => Fin.ext (by
    have : a = 0 := Subsingleton.elim _ _
    subst this
    have h : (x 0).val < 1 := (x 0).isLt
    show (x 0).val = 0
    omega)

variable (i : grid0.Coords) (T0 : S292.Idx → Elt Ideal .i32) (T1 : S1.Idx → Elt Ideal .i32)

theorem toNat_coord (j : Fin 292) : (BitVec.ofNat 32 j.val).toNat = j.val := by
  have := j.isLt
  rw [BitVec.toNat_ofNat]; omega

theorem toInt_coord (j : Fin 292) : (BitVec.ofNat 32 j.val).toInt = j.val := by
  have := j.isLt
  rw [BitVec.toInt_eq_toNat_cond, toNat_coord, if_pos (by omega)]

theorem rdN_eq : rdN T1 = T1 nix := congrArg T1 (nix_ext _)

theorem rdE_eq : rdE i T0 = T0 (eix (i 0)) := congrArg T0 (eix_ext _ _ (by
  show k0_off1 i 0 + 1 * 0 = (i 0).val
  exact toNat_coord (i 0)))

theorem off2_val : ∀ j : Fin 292, (Scalar.maxsi (Scalar.subi (BitVec.ofNat 32 j.val) 1#32) 0#32).toNat = j.val - 1 := by
  decide +kernel

theorem rdP_eq : rdP i T0 = T0 (eix ⟨(i 0).val - 1, by have : (i 0).val < 292 := (i 0).isLt; omega⟩) :=
  congrArg T0 (eix_ext _ _ (by
    show k0_off2 i 0 + 1 * 0 = (i 0).val - 1
    exact off2_val (i 0)))

/-- Block `j` is one of the used ones. -/
def used (T1 : S1.Idx → Elt Ideal .i32) (j : ℕ) : Prop := (j : ℤ) < (T1 nix : BitVec 32).toInt

instance (T1 : S1.Idx → Elt Ideal .i32) (j : ℕ) : Decidable (used T1 j) := Int.decLt _ _

theorem used_iff (j : Fin 292) : Scalar.cmpi .slt (BitVec.ofNat 32 j.val) (T1 nix) = 1#1 ↔ used T1 j.val := by
  show BitVec.ofBool ((BitVec.ofNat 32 j.val).slt (T1 nix)) = 1#1 ↔ _
  unfold used
  rw [BitVec.slt, toInt_coord]
  by_cases h : (j.val : ℤ) < (T1 nix : BitVec 32).toInt <;> simp [h]

theorem bit_cases (b : BitVec 1) : b = 0#1 ∨ b = 1#1 := by
  revert b; decide

theorem cond2_iff : k0_cond2 i (rdN T1) = 1#1 ↔ used T1 (i 0).val := by
  rw [rdN_eq]
  refine Iff.trans ?_ (used_iff T1 (i 0))
  show Scalar.cmpi .ne (Scalar.extui (Scalar.cmpi .slt (BitVec.ofNat 32 (i 0).val) (T1 nix))) 0#32 = 1#1 ↔ _
  rcases bit_cases (Scalar.cmpi .slt (BitVec.ofNat 32 (i 0).val) (T1 nix)) with h | h <;> rw [h] <;> decide

theorem cond3_iff : k0_cond3 i (rdN T1) = 1#1 ↔ ¬used T1 (i 0).val := by
  rw [rdN_eq]
  refine Iff.trans ?_ (not_congr (used_iff T1 (i 0)))
  show Scalar.cmpi .ne (Scalar.extui (Scalar.xori (Scalar.cmpi .slt (BitVec.ofNat 32 (i 0).val) (T1 nix)) 1#1)) 0#32 = 1#1 ↔ _
  rcases bit_cases (Scalar.cmpi .slt (BitVec.ofNat 32 (i 0).val) (T1 nix)) with h | h <;> rw [h] <;> decide

/-- The weights are laid down only where the block is used. -/
theorem used_of_fresh (h : fresh i T0 T1) : used T1 (i 0).val := by
  apply (used_iff T1 (i 0)).mp
  unfold fresh at h
  rw [rdN_eq] at h
  rcases bit_cases (Scalar.cmpi .slt (BitVec.ofNat 32 (i 0).val) (T1 nix)) with e | e
  · rw [e] at h
    exact absurd h (by generalize Scalar.ori _ _ = b; revert b; decide)
  · exact e

/-- A used block at which they are not is not the first, and its expert is the one before it. -/
theorem same_of_not_fresh (hu : used T1 (i 0).val) (h : ¬fresh i T0 T1) :
    (i 0).val ≠ 0 ∧ T0 (eix (i 0)) = T0 (eix ⟨(i 0).val - 1, by have : (i 0).val < 292 := (i 0).isLt; omega⟩) := by
  replace hu : Scalar.cmpi .slt (BitVec.ofNat 32 (i 0).val) (T1 nix) = 1#1 := (used_iff T1 (i 0)).mpr hu
  unfold fresh at h
  rw [rdN_eq, hu, rdE_eq, rdP_eq] at h
  constructor
  · intro e
    apply h
    generalize Scalar.cmpi .ne (T0 _) (T0 _) = b
    have e1 : Scalar.cmpi .eq (BitVec.ofNat 32 (i 0).val) 0#32 = 1#1 := by rw [e]; rfl
    rw [e1]
    revert b; decide
  · by_contra e
    apply h
    have e2 : Scalar.cmpi .ne (T0 (eix (i 0))) (T0 (eix ⟨(i 0).val - 1, by have : (i 0).val < 292 := (i 0).isLt; omega⟩)) = 1#1 := by
      show BitVec.ofBool (_ != _) = 1#1
      rw [bne_iff_ne.mpr e]; rfl
    rw [e2]
    generalize Scalar.cmpi .eq _ _ = b
    revert b; decide

theorem used_pred {j : ℕ} (h : used T1 j) : used T1 (j - 1) := by
  unfold used at *; omega

/-- The tables as the pipeline reads them. -/
def tabs (T0 : S292.Idx → Elt Ideal .i32) (T1 : S1.Idx → Elt Ideal .i32) : pre0.Contents (Elt Ideal) :=
  fun | ⟨0, _⟩ => T0 | ⟨1, _⟩ => T1 | ⟨_ + 2, h⟩ => absurd h (by simp)

theorem word0 (j : Fin 292) (inb : ∀ a, (![(BitVec.ofNat 32 j.val).toNat] : Fin 1 → ℕ) a + S1.size a ≤ S292.size a) (h1) :
    (tabs T0 T1).at 0 (Rect.unit (s := S292) ![(BitVec.ofNat 32 j.val).toNat] S1.size inb) h1 = T0 (eix j) :=
  congrArg T0 (eix_ext _ _ (by
    show (BitVec.ofNat 32 j.val).toNat + 1 * 0 = j.val
    exact toNat_coord j))

theorem word1 (inb : ∀ a, (![0] : Fin 1 → ℕ) a + S1.size a ≤ S1.size a) (h1) :
    (tabs T0 T1).at 1 (Rect.unit (s := S1) ![0] S1.size inb) h1 = T1 nix :=
  congrArg T1 (nix_ext _)

/-- The row block fetched: the block itself while it is used, never one past it. -/
def rowBlk (T1 : S1.Idx → Elt Ideal .i32) (j : ℕ) : ℕ :=
  (Scalar.maxsi (Scalar.minsi (BitVec.ofNat 32 j) (Scalar.subi (T1 nix) 1#32)) 0#32).toNat

theorem rowBlk_le (j : Fin 292) : rowBlk T1 j.val ≤ j.val := by
  unfold rowBlk
  show (if (0#32 : BitVec 32).slt (if (BitVec.ofNat 32 j.val).slt (T1 nix - 1#32) then BitVec.ofNat 32 j.val else T1 nix - 1#32)
    then (if (BitVec.ofNat 32 j.val).slt (T1 nix - 1#32) then BitVec.ofNat 32 j.val else T1 nix - 1#32) else (0#32 : BitVec 32)).toNat ≤ _
  generalize (T1 nix - 1#32 : BitVec 32) = v
  by_cases h : (BitVec.ofNat 32 j.val).slt v = true
  · rw [if_pos h]
    split
    · exact (toNat_coord j).le
    · exact Nat.zero_le _
  · rw [if_neg h]
    split
    · next h0 =>
      have hj := toInt_coord j
      rw [BitVec.slt, hj] at h
      rw [BitVec.slt] at h0
      simp only [decide_eq_true_eq] at h h0
      have z : (0#32 : BitVec 32).toInt = 0 := rfl
      rw [z] at h0
      have e := BitVec.toInt_eq_toNat_cond v
      have := (v : BitVec 32).isLt
      split at e <;> omega
    · exact Nat.zero_le _

theorem rowBlk_used (j : Fin 292) (h : used T1 j.val) : rowBlk T1 j.val = j.val := by
  unfold rowBlk
  unfold used at h
  have hj := toInt_coord j
  have hb := j.isLt
  by_cases hl : (BitVec.ofNat 32 j.val).slt (T1 nix - 1#32) = true
  · show (if (0#32 : BitVec 32).slt (if (BitVec.ofNat 32 j.val).slt (T1 nix - 1#32) then BitVec.ofNat 32 j.val else T1 nix - 1#32)
      then (if (BitVec.ofNat 32 j.val).slt (T1 nix - 1#32) then BitVec.ofNat 32 j.val else T1 nix - 1#32) else (0#32 : BitVec 32)).toNat = _
    rw [if_pos hl]
    split
    · exact toNat_coord j
    · next h0 =>
      rw [BitVec.slt, hj] at h0
      have : (0#32 : BitVec 32).toInt = 0 := rfl
      simp only [decide_eq_true_eq] at h0
      show 0 = j.val
      omega
  · have hn : (T1 nix : BitVec 32).toInt < 2 ^ 31 := by
      have := (T1 nix : BitVec 32).toInt_lt; simpa using this
    have e1 : (T1 nix - 1#32 : BitVec 32).toInt = (T1 nix : BitVec 32).toInt - 1 := by
      rw [BitVec.toInt_sub]
      have : (1#32 : BitVec 32).toInt = 1 := rfl
      rw [this]
      have h0 : 0 ≤ (T1 nix : BitVec 32).toInt - 1 := by omega
      rw [Int.bmod_def]
      split <;> omega
    rw [BitVec.slt, hj, e1] at hl
    simp only [decide_eq_true_eq] at hl
    have e2 : (T1 nix - 1#32 : BitVec 32) = BitVec.ofNat 32 j.val := by
      apply BitVec.eq_of_toInt_eq
      rw [e1, hj]; omega
    show (if (0#32 : BitVec 32).slt (if (BitVec.ofNat 32 j.val).slt (T1 nix - 1#32) then BitVec.ofNat 32 j.val else T1 nix - 1#32)
      then (if (BitVec.ofNat 32 j.val).slt (T1 nix - 1#32) then BitVec.ofNat 32 j.val else T1 nix - 1#32) else (0#32 : BitVec 32)).toNat = _
    rw [e2, ite_self]
    split
    · exact toNat_coord j
    · next h0 =>
      rw [BitVec.slt, hj] at h0
      have : (0#32 : BitVec 32).toInt = 0 := rfl
      simp only [decide_eq_true_eq] at h0
      show 0 = j.val
      omega

/-- The index maps, in closed form. -/
theorem map0 (h1 h2) : cc0_transform_0 h1 h2 (tabs T0 T1) i = ![rowBlk T1 (i 0).val, 0] := by
  exact congrArg (fun v : BitVec 32 => (![(Scalar.maxsi (Scalar.minsi (BitVec.ofNat 32 (i 0).val) (Scalar.subi v 1#32)) 0#32).toNat, 0] : Fin 2 → ℕ))
    (word1 T0 T1 h1 h2)
theorem map1 (h1 h2) : cc0_transform_1 h1 h2 (tabs T0 T1) i = ![(T0 (eix (i 0)) : BitVec 32).toNat, 0, 0] := by
  exact congrArg (fun v : BitVec 32 => (![v.toNat, 0, 0] : Fin 3 → ℕ)) (word0 T0 T1 (i 0) (h1 i) h2)
theorem map2 (h1 h2) : cc0_transform_2 h1 h2 (tabs T0 T1) i = ![(T0 (eix (i 0)) : BitVec 32).toNat, 0, 0] := map1 i T0 T1 h1 h2
theorem map3 (h1 h2) : cc0_transform_3 h1 h2 (tabs T0 T1) i = ![(T0 (eix (i 0)) : BitVec 32).toNat, 0, 0] := map1 i T0 T1 h1 h2
theorem map4 (h1 h2) : cc0_transform_4 h1 h2 (tabs T0 T1) i = ![(T0 (eix (i 0)) : BitVec 32).toNat, 0, 0] := map1 i T0 T1 h1 h2

/-- Every expert is one of the 32. -/
def Named (T0 : S292.Idx → Elt Ideal .i32) : Prop := ∀ x, (T0 x : BitVec 32).toNat < 32

/-- Then every block lies inside its array. -/
theorem ok (h : Named T0) : ok0 (tabs T0 T1) := by
  refine ⟨fun i => ⟨fun a => ?_, .inl rfl⟩, fun i => ⟨fun a => ?_, .inl rfl⟩, fun i => ⟨fun a => ?_, .inl rfl⟩,
    fun i => ⟨fun a => ?_, .inl rfl⟩, fun i => ⟨fun a => ?_, .inl rfl⟩⟩
  · rw [map0]
    have := rowBlk_le T1 (i 0)
    have hb : (i 0).val < 292 := (i 0).isLt
    fin_cases a
    · show (rowBlk T1 (i 0).val + 1) * 256 ≤ 74752
      omega
    · show (0 + 1) * 1024 ≤ 1024
      omega
  · rw [map1]
    have := h (eix (i 0))
    fin_cases a
    · show ((T0 (eix (i 0)) : BitVec 32).toNat + 1) * 1 ≤ 32
      omega
    · show (0 + 1) * 1024 ≤ 1024
      omega
    · show (0 + 1) * 2048 ≤ 2048
      omega
  · rw [map2]
    have := h (eix (i 0))
    fin_cases a
    · show ((T0 (eix (i 0)) : BitVec 32).toNat + 1) * 1 ≤ 32
      omega
    · show (0 + 1) * 1 ≤ 1
      omega
    · show (0 + 1) * 2048 ≤ 2048
      omega
  · rw [map3]
    have := h (eix (i 0))
    fin_cases a
    · show ((T0 (eix (i 0)) : BitVec 32).toNat + 1) * 1 ≤ 32
      omega
    · show (0 + 1) * 1024 ≤ 1024
      omega
    · show (0 + 1) * 1024 ≤ 1024
      omega
  · rw [map4]
    have := h (eix (i 0))
    fin_cases a
    · show ((T0 (eix (i 0)) : BitVec 32).toNat + 1) * 1 ≤ 32
      omega
    · show (0 + 1) * 1 ≤ 1
      omega
    · show (0 + 1) * 1024 ≤ 1024
      omega

end Cert.Kernel4Ideal.Exp

end
-- ==== Proof.ExpCfg.lean ====
/- The experts' call, launched: from any memory whose table names experts below 32 it runs to the end, every argument
   ends as it began, and the result's blocks hold what the body leaves at each point. -/
module

public import proofs.«01_k».proof.Proof.ExpTab
public import Idealize.ShloMosaic.Adequacy
public import Idealize.ShloMosaic.Init

@[expose] public section

set_option maxRecDepth 16384

noncomputable section

namespace Cert.Kernel4Ideal.Exp

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The resource algebra of the pipeline's staging cells, embedded whole. -/
abbrev EP : Emb (UR sig nD τ) 𝕄 := emb₁

variable (T0 : S292.Idx → Elt Ideal .i32) (T1 : S1.Idx → Elt Ideal .i32) (hT : Named T0)
variable (m : (ℓ : Loc nD τ sig) → Buf (Elt Ideal) ℓ) (ρ : Dev nD → PrngReg)

/-- The pipeline at these tables. -/
def adm : (pcfg0 (F := Ideal)).Adm := ⟨tabs T0 T1, ok T0 T1 hT⟩
abbrev cfgA : Pipeline.Cfg sig Λ₀ := cfg0 (F := Ideal) (adm T0 T1 hT)
abbrev pcs : Fin 1 → Pipeline.Cfg sig Λ₀ := Pipeline.pin (pcfgs (F := Ideal)) fun _ => adm T0 T1 hT

/-- A point's coordinates and each window's buffer there. -/
abbrev crd (t : Fin (cfgA T0 T1 hT).N) : (cfgA T0 T1 hT).grid.Coords := (cfgA T0 T1 hT).grid.coords t
abbrev ms0 (t : Fin (cfgA T0 T1 hT).N) : Memref sig .tc .vmem S256x1024 .f32 := spec0_0.stage ((cfgA T0 T1 hT).slots t (0 : Fin 6))
abbrev hs0 (t : Fin (cfgA T0 T1 hT).N) : (ms0 T0 T1 hT t).IsWhole := hstage0_0 (((cfgA T0 T1 hT).slots t (0 : Fin 6)).cast nbuf0_0)
abbrev ms1 (t : Fin (cfgA T0 T1 hT).N) : Memref sig .tc .vmem S1x1024x2048 .f32 := spec0_1.stage ((cfgA T0 T1 hT).slots t (1 : Fin 6))
abbrev hs1 (t : Fin (cfgA T0 T1 hT).N) : (ms1 T0 T1 hT t).IsWhole := hstage0_1 (((cfgA T0 T1 hT).slots t (1 : Fin 6)).cast nbuf0_1)
abbrev ms2 (t : Fin (cfgA T0 T1 hT).N) : Memref sig .tc .vmem S1x1x2048 .f32 := spec0_2.stage ((cfgA T0 T1 hT).slots t (2 : Fin 6))
abbrev hs2 (t : Fin (cfgA T0 T1 hT).N) : (ms2 T0 T1 hT t).IsWhole := hstage0_2 (((cfgA T0 T1 hT).slots t (2 : Fin 6)).cast nbuf0_2)
abbrev ms3 (t : Fin (cfgA T0 T1 hT).N) : Memref sig .tc .vmem S1x1024x1024 .f32 := spec0_3.stage ((cfgA T0 T1 hT).slots t (3 : Fin 6))
abbrev hs3 (t : Fin (cfgA T0 T1 hT).N) : (ms3 T0 T1 hT t).IsWhole := hstage0_3 (((cfgA T0 T1 hT).slots t (3 : Fin 6)).cast nbuf0_3)
abbrev ms4 (t : Fin (cfgA T0 T1 hT).N) : Memref sig .tc .vmem S1x1x1024 .f32 := spec0_4.stage ((cfgA T0 T1 hT).slots t (4 : Fin 6))
abbrev hs4 (t : Fin (cfgA T0 T1 hT).N) : (ms4 T0 T1 hT t).IsWhole := hstage0_4 (((cfgA T0 T1 hT).slots t (4 : Fin 6)).cast nbuf0_4)
abbrev ms5 (t : Fin (cfgA T0 T1 hT).N) : Memref sig .tc .vmem S256x1024 .f32 := spec0_5.stage ((cfgA T0 T1 hT).slots t (5 : Fin 6))
abbrev hs5 (t : Fin (cfgA T0 T1 hT).N) : (ms5 T0 T1 hT t).IsWhole := hstage0_5 (((cfgA T0 T1 hT).slots t (5 : Fin 6)).cast nbuf0_5)

theorem crd_val : ∀ t : Fin grid0.N, (grid0.coords t 0).val = t.val := by decide +kernel

/-- Window `w`'s block at point `t`, read off its array at launch. -/
def iblk (c : Dev nD) (w : Fin (cfgA T0 T1 hT).W) (t : Fin (cfgA T0 T1 hT).N) : (((cfgA T0 T1 hT).win w).xblock (crd T0 T1 hT t)).Idx → Elt Ideal ((cfgA T0 T1 hT).win w).elt :=
  (((cfgA T0 T1 hT).win w).blk t).view.read (Elt Ideal) (m (((cfgA T0 T1 hT).win w).arr.view.loc (c : Thread nD τ)))

/-- The result's block at point `t`: the expert's answer for the rows of a used block, zeros for the rest. -/
def left (c : Dev nD) (t : Fin (cfgA T0 T1 hT).N) : S256x1024.Idx → Elt Ideal .f32 :=
  if used T1 t.val then
    k0_pay3 (F := Ideal) (iblk T0 T1 hT m c (0 : Fin 6) t) (k0_pay1 (F := Ideal) (iblk T0 T1 hT m c (1 : Fin 6) t)) (iblk T0 T1 hT m c (2 : Fin 6) t)
      (k0_pay2 (F := Ideal) (iblk T0 T1 hT m c (3 : Fin 6) t)) (iblk T0 T1 hT m c (4 : Fin 6) t)
  else k0_pay4 (F := Ideal)

/-- The scratch arrays hold the weights of the point before `t`, if its block was used. -/
def Laid (c : Dev nD) (t : Fin ((cfgA T0 T1 hT).N + 1)) (a0 : Buf (Elt Ideal) ((c : Thread nD τ).loc cc0_scratch0)) (a1 : Buf (Elt Ideal) ((c : Thread nD τ).loc cc0_scratch1)) : Prop :=
  ∀ h : t.val ≠ 0, used T1 (t.val - 1) →
    scr0.view.read (Elt Ideal) a0 = k0_pay1 (F := Ideal) (iblk T0 T1 hT m c (1 : Fin 6) ⟨t.val - 1, by omega⟩)
      ∧ scr1.view.read (Elt Ideal) a1 = k0_pay2 (F := Ideal) (iblk T0 T1 hT m c (3 : Fin 6) ⟨t.val - 1, by omega⟩)

/-- The invariant before point `t`: the scratch arrays so, and the body's halves of the tables. -/
def Phi (c : Dev nD) (t : Fin ((cfgA T0 T1 hT).N + 1)) : sProp 𝕄 :=
  iprop((∃ a0 a1, ⌜Laid T0 T1 hT m c t a0 a1⌝ ∗ (scr0.view.loc (c : Thread nD τ) ↦{fullShare} a0) ∗ (scr1.view.loc (c : Thread nD τ) ↦{fullShare} a1))
    ∗ (tab0.view.loc (c : Thread nD τ) ↦{fullShare.right} T0) ∗ (tab1.view.loc (c : Thread nD τ) ↦{fullShare.right} T1))

/-- The pipeline's proof data on core `c`. -/
def dats (_ : Fin 1) (c : Dev nD) : Dat τ (Elt Ideal) Unit ℕ (UR sig nD τ) ℕ (cfgA T0 T1 hT) c where
  A w := m (((cfgA T0 T1 hT).win w).arr.view.loc (c : Thread nD τ))
  after w t := match w with
    | ⟨0, _⟩ => iblk T0 T1 hT m c (0 : Fin 6) t
    | ⟨1, _⟩ => iblk T0 T1 hT m c (1 : Fin 6) t
    | ⟨2, _⟩ => iblk T0 T1 hT m c (2 : Fin 6) t
    | ⟨3, _⟩ => iblk T0 T1 hT m c (3 : Fin 6) t
    | ⟨4, _⟩ => iblk T0 T1 hT m c (4 : Fin 6) t
    | ⟨5, _⟩ => left T0 T1 hT m c t
  Φ t := Phi T0 T1 hT m c t
  q _ := fullShare
  owed _ := 0

theorem after_0 (c : Dev nD) (t : Fin (cfgA T0 T1 hT).N) : (dats T0 T1 hT m 0 c).after (0 : Fin 6) t = iblk T0 T1 hT m c (0 : Fin 6) t := rfl
theorem after_1 (c : Dev nD) (t : Fin (cfgA T0 T1 hT).N) : (dats T0 T1 hT m 0 c).after (1 : Fin 6) t = iblk T0 T1 hT m c (1 : Fin 6) t := rfl
theorem after_2 (c : Dev nD) (t : Fin (cfgA T0 T1 hT).N) : (dats T0 T1 hT m 0 c).after (2 : Fin 6) t = iblk T0 T1 hT m c (2 : Fin 6) t := rfl
theorem after_3 (c : Dev nD) (t : Fin (cfgA T0 T1 hT).N) : (dats T0 T1 hT m 0 c).after (3 : Fin 6) t = iblk T0 T1 hT m c (3 : Fin 6) t := rfl
theorem after_4 (c : Dev nD) (t : Fin (cfgA T0 T1 hT).N) : (dats T0 T1 hT m 0 c).after (4 : Fin 6) t = iblk T0 T1 hT m c (4 : Fin 6) t := rfl
theorem after_5 (c : Dev nD) (t : Fin (cfgA T0 T1 hT).N) : (dats T0 T1 hT m 0 c).after (5 : Fin 6) t = left T0 T1 hT m c t := rfl

/- An input's buffer holds its block when the body runs. -/
theorem before_0 (c : Dev nD) (t : Fin (cfgA T0 T1 hT).N) (d) : (dats T0 T1 hT m 0 c).before (0 : Fin 6) t d = iblk T0 T1 hT m c (0 : Fin 6) t :=
  ((dats T0 T1 hT m 0 c).before_in_eq_fetched (0 : Fin 6) rfl (fun _ => rfl) (fun _ _ _ => rfl) (fun t => by rw [after_0]; unfold Dat.blockOf iblk; rfl) t d).trans
    (by unfold Dat.fetched Dat.blockOf iblk; rfl)

theorem before_1 (c : Dev nD) (t : Fin (cfgA T0 T1 hT).N) (d) : (dats T0 T1 hT m 0 c).before (1 : Fin 6) t d = iblk T0 T1 hT m c (1 : Fin 6) t :=
  ((dats T0 T1 hT m 0 c).before_in_eq_fetched (1 : Fin 6) rfl (fun _ => rfl) (fun _ _ _ => rfl) (fun t => by rw [after_1]; unfold Dat.blockOf iblk; rfl) t d).trans
    (by unfold Dat.fetched Dat.blockOf iblk; rfl)

theorem before_2 (c : Dev nD) (t : Fin (cfgA T0 T1 hT).N) (d) : (dats T0 T1 hT m 0 c).before (2 : Fin 6) t d = iblk T0 T1 hT m c (2 : Fin 6) t :=
  ((dats T0 T1 hT m 0 c).before_in_eq_fetched (2 : Fin 6) rfl (fun _ => rfl) (fun _ _ _ => rfl) (fun t => by rw [after_2]; unfold Dat.blockOf iblk; rfl) t d).trans
    (by unfold Dat.fetched Dat.blockOf iblk; rfl)

theorem before_3 (c : Dev nD) (t : Fin (cfgA T0 T1 hT).N) (d) : (dats T0 T1 hT m 0 c).before (3 : Fin 6) t d = iblk T0 T1 hT m c (3 : Fin 6) t :=
  ((dats T0 T1 hT m 0 c).before_in_eq_fetched (3 : Fin 6) rfl (fun _ => rfl) (fun _ _ _ => rfl) (fun t => by rw [after_3]; unfold Dat.blockOf iblk; rfl) t d).trans
    (by unfold Dat.fetched Dat.blockOf iblk; rfl)

theorem before_4 (c : Dev nD) (t : Fin (cfgA T0 T1 hT).N) (d) : (dats T0 T1 hT m 0 c).before (4 : Fin 6) t d = iblk T0 T1 hT m c (4 : Fin 6) t :=
  ((dats T0 T1 hT m 0 c).before_in_eq_fetched (4 : Fin 6) rfl (fun _ => rfl) (fun _ _ _ => rfl) (fun t => by rw [after_4]; unfold Dat.blockOf iblk; rfl) t d).trans
    (by unfold Dat.fetched Dat.blockOf iblk; rfl)

/-- Two points with one expert have one block of each weight. -/
theorem blk1_eq (c : Dev nD) (t t' : Fin (cfgA T0 T1 hT).N) (h : ((cfgA T0 T1 hT).win (1 : Fin 6)).index t = ((cfgA T0 T1 hT).win (1 : Fin 6)).index t') :
    iblk T0 T1 hT m c (1 : Fin 6) t = iblk T0 T1 hT m c (1 : Fin 6) t' := by
  have d : ((cfgA T0 T1 hT).win (1 : Fin 6)).block.Idx → Elt Ideal ((cfgA T0 T1 hT).win (1 : Fin 6)).elt := iblk T0 T1 hT m c (1 : Fin 6) t
  have e := (dats T0 T1 hT m 0 c).fetched_congr (1 : Fin 6) h rfl d
  unfold Dat.fetched Dat.blockOf at e
  exact e

theorem blk3_eq (c : Dev nD) (t t' : Fin (cfgA T0 T1 hT).N) (h : ((cfgA T0 T1 hT).win (3 : Fin 6)).index t = ((cfgA T0 T1 hT).win (3 : Fin 6)).index t') :
    iblk T0 T1 hT m c (3 : Fin 6) t = iblk T0 T1 hT m c (3 : Fin 6) t' := by
  have d : ((cfgA T0 T1 hT).win (3 : Fin 6)).block.Idx → Elt Ideal ((cfgA T0 T1 hT).win (3 : Fin 6)).elt := iblk T0 T1 hT m c (3 : Fin 6) t
  have e := (dats T0 T1 hT m 0 c).fetched_congr (3 : Fin 6) h rfl d
  unfold Dat.fetched Dat.blockOf at e
  exact e

/-- Where the weights are not laid down anew they are the point before's. -/
theorem laid_here (c : Dev nD) (t : Fin (cfgA T0 T1 hT).N) (hu : used T1 (crd T0 T1 hT t 0).val) (hf : ¬fresh (crd T0 T1 hT t) T0 T1)
    {a0 : Buf (Elt Ideal) ((c : Thread nD τ).loc cc0_scratch0)} {a1 : Buf (Elt Ideal) ((c : Thread nD τ).loc cc0_scratch1)} (h : Laid T0 T1 hT m c t.castSucc a0 a1) :
    scr0.view.read (Elt Ideal) a0 = k0_pay1 (F := Ideal) (iblk T0 T1 hT m c (1 : Fin 6) t)
      ∧ scr1.view.read (Elt Ideal) a1 = k0_pay2 (F := Ideal) (iblk T0 T1 hT m c (3 : Fin 6) t) := by
  obtain ⟨h0, he⟩ := same_of_not_fresh (crd T0 T1 hT t) T0 T1 hu hf
  have hv : (crd T0 T1 hT t 0).val = t.val := crd_val t
  rw [hv] at h0 hu
  have hl := h h0 (used_pred T1 hu)
  let t' : Fin (cfgA T0 T1 hT).N := ⟨t.val - 1, by omega⟩
  have hv' : (crd T0 T1 hT t' 0).val = t.val - 1 := crd_val t'
  have hw : T0 (eix (crd T0 T1 hT t' 0)) = T0 (eix (crd T0 T1 hT t 0)) := by
    rw [he]
    exact congrArg T0 (eix_ext _ _ (by
      show (crd T0 T1 hT t' 0).val = (crd T0 T1 hT t 0).val - 1
      rw [hv', hv]))
  have hi : (![(T0 (eix (crd T0 T1 hT t' 0)) : BitVec 32).toNat, 0, 0] : Fin 3 → ℕ) = ![(T0 (eix (crd T0 T1 hT t 0)) : BitVec 32).toNat, 0, 0] := by
    rw [hw]
  have e1 : iblk T0 T1 hT m c (1 : Fin 6) t' = iblk T0 T1 hT m c (1 : Fin 6) t := blk1_eq T0 T1 hT m c t' t
    ((map1 (crd T0 T1 hT t') T0 T1 _ _).trans (hi.trans (map1 (crd T0 T1 hT t) T0 T1 _ _).symm))
  have e3 : iblk T0 T1 hT m c (3 : Fin 6) t' = iblk T0 T1 hT m c (3 : Fin 6) t := blk3_eq T0 T1 hT m c t' t
    ((map3 (crd T0 T1 hT t') T0 T1 _ _).trans (hi.trans (map3 (crd T0 T1 hT t) T0 T1 _ _).symm))
  exact ⟨hl.1.trans (congrArg (k0_pay1 (F := Ideal)) e1), hl.2.trans (congrArg (k0_pay2 (F := Ideal)) e3)⟩

/-- The result is stored at every point, -/
theorem idle5 (t : Fin (cfgA T0 T1 hT).N) : (cfgA T0 T1 hT).idle (5 : Fin 6) ((cfgA T0 T1 hT).grid.coords t) = false := by
  have hw : (tabs T0 T1).atD 1 ![0] = T1 nix := by
    unfold Pipeline.Prefetch.Contents.atD
    rw [dif_pos (by decide)]
    exact congrArg T1 (nix_ext _)
  show (!(k0_cond2 (crd T0 T1 hT t) ((tabs T0 T1).atD 1 ![0]) == 1#1) && !(k0_cond3 (crd T0 T1 hT t) ((tabs T0 T1).atD 1 ![0]) == 1#1)) = false
  rw [hw, ← rdN_eq T1]
  by_cases hu : used T1 (crd T0 T1 hT t 0).val
  · rw [(cond2_iff (crd T0 T1 hT t) T1).mpr hu]; rfl
  · rw [(cond3_iff (crd T0 T1 hT t) T1).mpr hu, Bool.and_comm]; rfl

/-- and written back at every point: the next point's block is another. -/
theorem flush5 (t : Fin (cfgA T0 T1 hT).N) : ((cfgA T0 T1 hT).win (5 : Fin 6)).flush t = true := by
  have hix : ∀ t : Fin grid0.N, cc0_transform_5 (grid0.coords t) 0 = t.val := by decide +kernel
  unfold Window.flush
  rw [Bool.and_eq_true]
  refine ⟨rfl, ?_⟩
  have hlt : t.val < (cfgA T0 T1 hT).grid.N := t.isLt
  by_cases h : t.val + 1 = (cfgA T0 T1 hT).grid.N
  · simp only [h, decide_true, Bool.true_or]
  · rw [Bool.or_eq_true]
    refine .inr (decide_eq_true ⟨by omega, fun e => ?_⟩)
    have e0 := congrFun e 0
    have h1 := (hix ⟨t.val + 1, Nat.lt_of_le_of_ne hlt h⟩).symm.trans (e0.trans (hix t))
    simp at h1

/-- The body at point `t` on its buffers, as the pipeline calls it. -/
abbrev bodyAt (t : Fin (cfgA T0 T1 hT).N) : Prog (TpuEff nD τ sig (Elt Ideal) Λ₀ .tc) PUnit :=
  body (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) (ms5 T0 T1 hT t) (hs5 T0 T1 hT t)

set_option maxHeartbeats 4000000 in
/-- The body at a point: from the invariant and the blocks to the invariant after it and the result's block. -/
theorem sound_body (c : Dev nD) (t : Fin (cfgA T0 T1 hT).N) :
    iprop((dats T0 T1 hT m 0 c).Φ t.castSucc ∗ (dats T0 T1 hT m 0 c).owesAt () t.castSucc
        ∗ (∃ d, owns (c : Thread nD τ) (ms0 T0 T1 hT t) fullShare ((dats T0 T1 hT m 0 c).before (0 : Fin 6) t d))
        ∗ (∃ d, owns (c : Thread nD τ) (ms1 T0 T1 hT t) fullShare ((dats T0 T1 hT m 0 c).before (1 : Fin 6) t d))
        ∗ (∃ d, owns (c : Thread nD τ) (ms2 T0 T1 hT t) fullShare ((dats T0 T1 hT m 0 c).before (2 : Fin 6) t d))
        ∗ (∃ d, owns (c : Thread nD τ) (ms3 T0 T1 hT t) fullShare ((dats T0 T1 hT m 0 c).before (3 : Fin 6) t d))
        ∗ (∃ d, owns (c : Thread nD τ) (ms4 T0 T1 hT t) fullShare ((dats T0 T1 hT m 0 c).before (4 : Fin 6) t d))
        ∗ (∃ d, owns (c : Thread nD τ) (ms5 T0 T1 hT t) fullShare ((dats T0 T1 hT m 0 c).before (5 : Fin 6) t d)))
      ⊢ wp frame (wpE (defs₀ (F := Ideal)) Variants.none c none) Set.univ (bodyAt T0 T1 hT t) fun _ =>
          iprop((dats T0 T1 hT m 0 c).Φ t.succ ∗ (dats T0 T1 hT m 0 c).owesAt () t.succ
            ∗ bigSep Finset.univ fun w : Fin (cfgA T0 T1 hT).W =>
                match (cfgA T0 T1 hT).idle w ((cfgA T0 T1 hT).grid.coords t) with
                | true =>
                  match ((cfgA T0 T1 hT).win w).flush t with
                  | false => iprop(∃ d, owns (c : Thread nD τ) (((cfgA T0 T1 hT).win w).stage ((cfgA T0 T1 hT).slots t w)) fullShare ((dats T0 T1 hT m 0 c).before w t d))
                  | true => owns (c : Thread nD τ) (((cfgA T0 T1 hT).win w).stage ((cfgA T0 T1 hT).slots t w)) fullShare ((dats T0 T1 hT m 0 c).after w t)
                | false => owns (c : Thread nD τ) (((cfgA T0 T1 hT).win w).stage ((cfgA T0 T1 hT).slots t w)) fullShare ((dats T0 T1 hT m 0 c).after w t)) := by
  rw [bigSep_W0]
  rewrite [idle5 T0 T1 hT t]
  simp only [before_0, before_1, before_2, before_3, before_4, after_0, after_1, after_2, after_3, after_4, after_5]
  rewrite [show (dats T0 T1 hT m 0 c).Φ t.succ = Phi T0 T1 hT m c t.succ from rfl, show (dats T0 T1 hT m 0 c).Φ t.castSucc = Phi T0 T1 hT m c t.castSucc from rfl,
    show (dats T0 T1 hT m 0 c).owesAt () t.succ = (dats T0 T1 hT m 0 c).owesAt () t.castSucc from rfl]
  have hv : (crd T0 T1 hT t 0).val = t.val := crd_val t
  unfold Phi
  iintro ⟨⟨⟨%a0, %a1, %ha, HS0, HS1⟩, HT0, HT1⟩, Ho, ⟨%d0, H0⟩, ⟨%d1, H1⟩, ⟨%d2, H2⟩, ⟨%d3, H3⟩, ⟨%d4, H4⟩, ⟨%d5, H5⟩⟩
  by_cases hu : used T1 (crd T0 T1 hT t 0).val
  · have h2 := (cond2_iff (crd T0 T1 hT t) T1).mpr hu
    have h3 : ¬(k0_cond3 (crd T0 T1 hT t) (rdN T1) = 1#1) := fun h => (cond3_iff (crd T0 T1 hT t) T1).mp h hu
    have hl : left T0 T1 hT m c t = k0_pay3 (F := Ideal) (iblk T0 T1 hT m c (0 : Fin 6) t) (k0_pay1 (F := Ideal) (iblk T0 T1 hT m c (1 : Fin 6) t)) (iblk T0 T1 hT m c (2 : Fin 6) t)
      (k0_pay2 (F := Ideal) (iblk T0 T1 hT m c (3 : Fin 6) t)) (iblk T0 T1 hT m c (4 : Fin 6) t) := if_pos (hv ▸ hu)
    by_cases hf : fresh (crd T0 T1 hT t) T0 T1
    · iapply ((runLay c (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) (ms5 T0 T1 hT t) (hs5 T0 T1 hT t) T0 T1 (iblk T0 T1 hT m c (0 : Fin 6) t) (iblk T0 T1 hT m c (1 : Fin 6) t) (iblk T0 T1 hT m c (2 : Fin 6) t) (iblk T0 T1 hT m c (3 : Fin 6) t) (iblk T0 T1 hT m c (4 : Fin 6) t) a0 a1 hf h2 h3).2.2.2 _)
      isplitl [H0 H1 H2 H3 H4 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        iexact HT1
      isplitl [H5]; · iexists _; iexact H5
      isplitl [HS0]; · iexact HS0
      isplitl [HS1]; · iexact HS1
      iintro ⟨⟨H0, H1, H2, H3, H4, HT0, HT1⟩, ⟨%e5, H5⟩, HS0, HS1⟩
      isplitl [HS0 HS1 HT0 HT1]
      · isplitl [HS0 HS1]
        · iexists _; iexists _; isplitr; swap
          · isplitl [HS0]; · iexact HS0
            iexact HS1
          · ipureintro; exact fun _ _ => ⟨lay_s0 .., lay_s1 ..⟩
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      unfold owns; iexists _; isplitr; swap
      · iexact H5
      · ipureintro; exact (lay_out ..).trans hl.symm

    · have hh := laid_here T0 T1 hT m c t hu hf ha
      iapply ((runKeep c (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) (ms5 T0 T1 hT t) (hs5 T0 T1 hT t) T0 T1 (iblk T0 T1 hT m c (0 : Fin 6) t) (iblk T0 T1 hT m c (1 : Fin 6) t) (iblk T0 T1 hT m c (2 : Fin 6) t) (iblk T0 T1 hT m c (3 : Fin 6) t) (iblk T0 T1 hT m c (4 : Fin 6) t) a0 a1 hf h2 h3).2.2.2 _)
      isplitl [H0 H1 H2 H3 H4 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        iexact HT1
      isplitl [H5]; · iexists _; iexact H5
      isplitl [HS0]; · iexact HS0
      isplitl [HS1]; · iexact HS1
      iintro ⟨⟨H0, H1, H2, H3, H4, HT0, HT1⟩, ⟨%e5, H5⟩, HS0, HS1⟩
      isplitl [HS0 HS1 HT0 HT1]
      · isplitl [HS0 HS1]
        · iexists _; iexists _; isplitr; swap
          · isplitl [HS0]; · iexact HS0
            iexact HS1
          · ipureintro; exact fun _ _ => hh
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      unfold owns; iexists _; isplitr; swap
      · iexact H5
      · ipureintro; exact (keep_out ..).trans ((pay3_congr rfl hh.1 rfl hh.2 rfl).trans hl.symm)

  · have h2 : ¬(k0_cond2 (crd T0 T1 hT t) (rdN T1) = 1#1) := fun h => hu ((cond2_iff (crd T0 T1 hT t) T1).mp h)
    have h3 := (cond3_iff (crd T0 T1 hT t) T1).mpr hu
    have hf : ¬fresh (crd T0 T1 hT t) T0 T1 := fun h => hu (used_of_fresh (crd T0 T1 hT t) T0 T1 h)
    have hl : left T0 T1 hT m c t = k0_pay4 (F := Ideal) := if_neg (hv ▸ hu)
    iapply ((runSkip c (crd T0 T1 hT t) (ms0 T0 T1 hT t) (hs0 T0 T1 hT t) (ms1 T0 T1 hT t) (hs1 T0 T1 hT t) (ms2 T0 T1 hT t) (hs2 T0 T1 hT t) (ms3 T0 T1 hT t) (hs3 T0 T1 hT t) (ms4 T0 T1 hT t) (hs4 T0 T1 hT t) (ms5 T0 T1 hT t) (hs5 T0 T1 hT t) T0 T1 (iblk T0 T1 hT m c (0 : Fin 6) t) (iblk T0 T1 hT m c (1 : Fin 6) t) (iblk T0 T1 hT m c (2 : Fin 6) t) (iblk T0 T1 hT m c (3 : Fin 6) t) (iblk T0 T1 hT m c (4 : Fin 6) t) a0 a1 hf h2 h3).2.2.2 _)
    isplitl [H0 H1 H2 H3 H4 HT0 HT1]
    · isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      iexact HT1
    isplitl [H5]; · iexists _; iexact H5
    isplitl [HS0]; · iexact HS0
    isplitl [HS1]; · iexact HS1
    iintro ⟨⟨H0, H1, H2, H3, H4, HT0, HT1⟩, ⟨%e5, H5⟩, HS0, HS1⟩
    isplitl [HS0 HS1 HT0 HT1]
    · isplitl [HS0 HS1]
      · iexists _; iexists _; isplitr; swap
        · isplitl [HS0]; · iexact HS0
          iexact HS1
        · ipureintro; exact fun _ h => absurd (show used T1 (crd T0 T1 hT t 0).val from hv ▸ h) hu
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro; exact (skip_out ..).trans hl.symm

/-- The same, as the library asks for it. -/
theorem body_obligation (c : Dev nD) : BodyObligation (dats T0 T1 hT m 0 c) (defs₀ (F := Ideal)) Variants.none () Set.univ := fun t => by
  rw [bigSep_W0]
  exact sound_body T0 T1 hT m c t

/-- What the launch starts from. -/
def u₀ : UR sig nD τ :=
  initOf (Pipeline.cells (pcs T0 T1 hT) ((launch0 (F := Ideal)).cellOf_inj fun _ => adm T0 T1 hT))
    (Pipeline.launchToks (pcs T0 T1 hT) ((launch0 (F := Ideal)).cellOf_inj fun _ => adm T0 T1 hT))

theorem share_eq (c : Dev nD) (w : Fin (cfgA T0 T1 hT).W) : (dats T0 T1 hT m 0 c).share w = fullShare := by unfold Dat.share; split <;> rfl

/-- The tables as the launch hands them over, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the scratch arrays; -/
theorem phi_first (c : Dev nD) :
    iprop(BI.emp ∗ Pipeline.prefHeld pre0 c (fun _ => fullShare.right) (adm T0 T1 hT).1 ∗ Pipeline.scopedRest spec0 c) ⊢ (dats T0 T1 hT m 0 c).Φ 0 := by
  rw [prefHeld_eq, scopedRest0_eq, show (dats T0 T1 hT m 0 c).Φ 0 = Phi T0 T1 hT m c 0 from rfl]
  unfold Phi
  iintro ⟨-, ⟨HT0, HT1⟩, ⟨%a0, HS0⟩, ⟨%a1, HS1⟩⟩
  isplitl [HS0 HS1]
  · iexists a0; iexists a1; isplitr; swap
    · isplitl [HS0]; · iexact HS0
      iexact HS1
    · ipureintro; exact fun h _ => absurd rfl h
  isplitl [HT0]
  · iexact HT0
  iexact HT1

/-- at the last it gives the scratch arrays back. -/
theorem phi_last (c : Dev nD) : (dats T0 T1 hT m 0 c).Φ (Fin.last (cfgA T0 T1 hT).N) ⊢ iprop(BI.emp ∗ Pipeline.scopedRest spec0 c) := by
  rw [scopedRest0_eq, show (dats T0 T1 hT m 0 c).Φ (Fin.last (cfgA T0 T1 hT).N) = Phi T0 T1 hT m c (Fin.last _) from rfl]
  unfold Phi
  iintro ⟨⟨%a0, %a1, -, HS0, HS1⟩, -, -⟩
  isplitr; · iempintro
  isplitl [HS0]
  · iexists a0; iexact HS0
  iexists a1; iexact HS1

/-- The memory's tables are these. -/
def At (m : (ℓ : Loc nD τ sig) → Buf (Elt Ideal) ℓ) : Prop :=
  ∀ c : Dev nD, m ((c : Thread nD τ).loc main_arg1) = T0 ∧ m ((c : Thread nD τ).loc main_arg2) = T1

/-- Where a run ends: every array at what the blocks written back make of it, every table as it was. -/
def Ends : PUnit × MemSt nD τ sig (Elt Ideal) → Prop := fun r =>
  ∀ c : Dev nD, (∀ w : Fin (cfgA T0 T1 hT).W, r.2.mem (((cfgA T0 T1 hT).win w).arr.view.loc (c : Thread nD τ)) = (dats T0 T1 hT m 0 c).arrAt w (cfgA T0 T1 hT).N)
    ∧ ∀ j, r.2.mem ((c : Thread nD τ).loc (pre0.ref j)) = (adm T0 T1 hT).1 j

theorem tables_at (hp : At T0 T1 m) (c : Dev nD) (j : Fin 2) : m ((c : Thread nD τ).loc (pre0.ref j)) = (adm T0 T1 hT).1 j := by
  fin_cases j
  · exact (hp c).1
  · exact (hp c).2

set_option backward.isDefEq.respectTransparency.types false in
set_option maxHeartbeats 4000000 in
/-- Every run ends there, with every semaphore back at zero. -/
theorem run_quiescent (hp : At T0 T1 m) : θ_run (defs (F := Ideal)) (onTc (τ := τ) (main (F := Ideal))) (s₀ m ρ) (fun r => Ends T0 T1 hT m r ∧ r.2.sem = fun _ => 0) :=
  Pipeline.θ_run_region_noSem_pf_quiescent pcfgs (fun _ => adm T0 T1 hT) (dats T0 T1 hT m) () ((launch0 (F := Ideal)).cellOf_inj fun _ => adm T0 T1 hT) (0 : Fin 1)
    (launch0 (F := Ideal)).win.to₀ (launch0 (F := Ideal)).pre EP defs₀ Variants.none m ρ main
    (hbody := fun c => (body_obligation T0 T1 hT m c).loose) (hne := (launch0 (F := Ideal)).block_pos)
    (harr := (launch0 (F := Ideal)).arr_whole) (hstage := (launch0 (F := Ideal)).stage_whole) (howed := fun _ _ => rfl)
    (u₀ := u₀ T0 T1 hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T0 T1 hT) (dats T0 T1 hT m) 0 (launch0 (F := Ideal)).win.arr_inj c (launch0 (F := Ideal)).arr_whole
      (share_eq T0 T1 hT m c) _ _ fun _ => rfl)
    (hpf := tables_at T0 T1 hT m hp)
    (X := fun _ => iprop(emp)) (Y := fun _ => iprop(emp)) (Z := fun _ => iprop(emp))
    (hX := fun c => by rw [unscopedRestP0_eq]; iintro -; isplitr <;> iempintro)
    (hin := phi_first T0 T1 hT m)
    (hout := phi_last T0 T1 hT m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end as they began. -/
theorem args_kept (hp : At T0 T1 m) {r : PUnit × MemSt nD τ sig (Elt Ideal)} (h : Ends T0 T1 hT m r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 (0 : Fin 6)).trans ((dats T0 T1 hT m 0 c).arrAt_in (0 : Fin 6) rfl _), ((h c).2 0).trans (hp c).1.symm, ((h c).2 1).trans (hp c).2.symm,
    ((h c).1 (1 : Fin 6)).trans ((dats T0 T1 hT m 0 c).arrAt_in (1 : Fin 6) rfl _), ((h c).1 (2 : Fin 6)).trans ((dats T0 T1 hT m 0 c).arrAt_in (2 : Fin 6) rfl _),
    ((h c).1 (3 : Fin 6)).trans ((dats T0 T1 hT m 0 c).arrAt_in (3 : Fin 6) rfl _), ((h c).1 (4 : Fin 6)).trans ((dats T0 T1 hT m 0 c).arrAt_in (4 : Fin 6) rfl _)⟩

end Cert.Kernel4Ideal.Exp

end
-- ==== Proof.ExpFrames.lean ====
/- The runs of the experts' programs: each ends, with its arguments and the semaphores as they were. -/
module

public import proofs.«01_k».proof.Defs
public import proofs.«01_k».proof.Proof.ExpPre
public import proofs.«01_k».proof.Proof.ExpCfgBits
public import proofs.«01_k».proof.Proof.ExpCfg
public import proofs.«01_k».proof.Proof.Gen.Reference4Ideal.Run

@[expose] public section

noncomputable section

open Idealize.ShloMosaic Idealize.ShloMosaic.TcCoe Idealize.SL.Sem Cert.Experts

namespace Cert.Kernel4.Exp

variable {m : (ℓ : Loc nD τ sig) → Buf (Elt Bits) ℓ}

/-- Under the precondition the tables are good ones, on every device. -/
theorem frame_named (hpre : Cert.Pre_Kernel4 (hPre_experts_named := named_facts) m) (c : Dev nD) :
    Named (m ((c : Thread nD τ).loc main_arg1)) := fun j => named (hpre c) j

theorem frame_at (d : Dev nD) : At (m ((d : Thread nD τ).loc main_arg1)) (m ((d : Thread nD τ).loc main_arg2)) m := fun c => by
  obtain rfl : c = d := Subsingleton.elim _ _
  exact ⟨rfl, rfl⟩

/-- The one device. -/
abbrev frameDev : Dev nD := ⟨0, by decide⟩

theorem frame : Cert.quiescent_Kernel4 (hPre_experts_named := named_facts) := fun m g hpre =>
  (θ_run defs _ _).mono (fun _ h => ⟨fun c => args_kept _ _ (frame_named hpre frameDev) m (frame_at frameDev) h.1 c, h.2⟩)
    (run_quiescent _ _ (frame_named hpre frameDev) m g (frame_at frameDev))

end Cert.Kernel4.Exp

namespace Cert.Kernel4Ideal.Exp

variable {m : (ℓ : Loc nD τ sig) → Buf (Elt Ideal) ℓ}

/-- Under the precondition the tables are good ones, on every device. -/
theorem frame_named (hpre : Cert.Pre_Kernel4Ideal (hPre_experts_named := named_facts) m) (c : Dev nD) :
    Named (m ((c : Thread nD τ).loc main_arg1)) := fun j => named (hpre c) j

theorem frame_at (d : Dev nD) : At (m ((d : Thread nD τ).loc main_arg1)) (m ((d : Thread nD τ).loc main_arg2)) m := fun c => by
  obtain rfl : c = d := Subsingleton.elim _ _
  exact ⟨rfl, rfl⟩

/-- The one device. -/
abbrev frameDev : Dev nD := ⟨0, by decide⟩

theorem frame : Cert.quiescent_Kernel4Ideal (hPre_experts_named := named_facts) := fun m g hpre =>
  (θ_run defs _ _).mono (fun _ h => ⟨fun c => args_kept _ _ (frame_named hpre frameDev) m (frame_at frameDev) h.1 c, h.2⟩)
    (run_quiescent _ _ (frame_named hpre frameDev) m g (frame_at frameDev))

end Cert.Kernel4Ideal.Exp

namespace Cert.Reference4Ideal.Exp

theorem frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_pre : Cert.quiescent_Reference4Ideal_pre_experts_named (hPre_experts_named := named_facts) := fun m ρ _ =>
  frame m ρ trivial

end Cert.Reference4Ideal.Exp

end
-- ==== Proof.ExpRef.lean ====
/- The experts, in plain formulas over the extended reals, and the reference read at an entry: row `r` of the result is
   the answer of the expert its block names, or zero where the block is not used. -/
module

public import proofs.«01_k».proof.Defs
public import proofs.«01_k».proof.Proof.Gen.Reference4Ideal.Run
public import proofs.«01_k».proof.Proof.Gen.Reference4Ideal.Read
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem

namespace Cert.Experts

open Cert.Reference4Ideal (S74752x1024 S292 S1 S32x1024x2048 S32x1x2048 S32x1024x1024 S32x1x1024)

/-- The constants of both programs: the clamp's two ends, the gate's slope, one. -/
def seven : EReal := Ideal.ofBits .f32 0x40E00000#32
def minusSeven : EReal := Ideal.ofBits .f32 0xC0E00000#32
def gateSlope : EReal := Ideal.ofBits .f32 0x3FD9DB23#32
def one : EReal := Ideal.ofBits .f32 0x3F800000#32

theorem one_eq : one = 1 := by
  unfold one
  simp [Ideal.ofBits, Ideal.ieee]
  rw [← EReal.coe_mul, ← EReal.coe_one]
  norm_num

/-- The gated unit: of a gate `g` and an up-projection `u`. -/
def gated (g u : EReal) : EReal :=
  (min seven (max minusSeven u) + one) * (min g seven * Ideal.logistic (gateSlope * min g seven))

variable (X : S74752x1024.Idx → EReal) (W : S32x1024x2048.Idx → EReal) (B : S32x1x2048.Idx → EReal)
  (V : S32x1024x1024.Idx → EReal) (D : S32x1x1024.Idx → EReal)

/-- Column `f` of expert `e`'s first layer on row `r`: the gates, then the up-projections. -/
def first (e : Fin 32) (r : Fin 74752) (f : Fin 2048) : EReal :=
  (∑ k : Fin 1024, X (ix2 r k) * W (ix3 e k f)) + B (ix3 e 0 f)

/-- Hidden unit `f` of expert `e` on row `r`. -/
def unit (e : Fin 32) (r : Fin 74752) (f : Fin 1024) : EReal :=
  gated (first X W B e r ⟨f.val, by omega⟩) (first X W B e r ⟨1024 + f.val, by omega⟩)

/-- Entry `d` of expert `e`'s answer for row `r`. -/
def answer (e : Fin 32) (r : Fin 74752) (d : Fin 1024) : EReal :=
  (∑ f : Fin 1024, unit X W B e r f * V (ix3 e f d)) + D (ix3 e 0 d)

/-- The same from a row, columns and a bias given apart. -/
theorem first_of {X W B} {e : Fin 32} {r : Fin 74752} {f : Fin 2048} {x w : Fin 1024 → EReal} {b : EReal}
    (hx : ∀ k, x k = X (ix2 r k)) (hw : ∀ k, w k = W (ix3 e k f)) (hb : b = B (ix3 e 0 f)) :
    (∑ k : Fin 1024, x k * w k) + b = first X W B e r f := by
  simp only [hx, hw, hb, first]

theorem answer_of {X W B V D} {e : Fin 32} {r : Fin 74752} {c : Fin 1024} {g u v : Fin 1024 → EReal} {d : EReal}
    (hg : ∀ f, g f = first X W B e r ⟨f.val, by omega⟩) (hu : ∀ f, u f = first X W B e r ⟨1024 + f.val, by omega⟩)
    (hv : ∀ f, v f = V (ix3 e f c)) (hd : d = D (ix3 e 0 c)) :
    (∑ f : Fin 1024, gated (g f) (u f) * v f) + d = answer X W B V D e r c := by
  simp only [hg, hu, hv, hd, answer, unit]

/-- The block a row stands in. -/
def blockOf (r : Fin 74752) : Fin 292 := ⟨r.val / 256, by omega⟩

/-- Every row's answer: by the expert its block names, or zero where the block is not used. -/
def answers (T0 : S292.Idx → BitVec 32) (T1 : S1.Idx → BitVec 32) (hT : ∀ x, (T0 x).toNat < 32) : S74752x1024.Idx → EReal := fun i =>
  if ((blockOf (i 0)).val : ℤ) < (T1 (ix1 0)).toInt then
    answer X W B V D ⟨(T0 (ix1 (blockOf (i 0)))).toNat, hT _⟩ (i 0) (i 1)
  else 0

end Cert.Experts

namespace Cert.Reference4Ideal.Exp

open Cert.Reference4Ideal Cert.Reference4Ideal.Gen Cert.Reference4Ideal.Read Cert.Experts

/-- Whole slices gathered along the first axis: the slice whose number the index holds, read signed and clamped. -/
theorem gather_slices {α : Type} {N R A C w : Nat} (hN : 0 < N) (d : GatherDims ⟨3, ![N, A, C]⟩ ⟨2, ![R, 1]⟩ ⟨3, ![R, A, C]⟩)
    (wf : GatherDims.WF ⟨3, ![N, A, C]⟩ ⟨2, ![R, 1]⟩ ⟨3, ![R, A, C]⟩ [1, 2] [0] [] [0] [] 1 ![1, A, C])
    (hd : d = ⟨[1, 2], [0], [], [], [0], 1, ![1, A, C], wf⟩)
    (x : (⟨3, ![N, A, C]⟩ : Shape).Idx → α) (idx : IVec ⟨2, ![R, 1]⟩ w) (y : (⟨3, ![R, A, C]⟩ : Shape).Idx) :
    Host.gather d x idx y = x (ix3 ⟨min (idx (ix2 (y 0) 0)).toInt.toNat (N - 1), by omega⟩ (y 1) (y 2)) := by
  subst hd
  unfold Host.gather
  congr 1
  funext a
  refine Fin.ext ?_
  show GatherDims.start _ y idx a + GatherDims.batchCoord _ y a + GatherDims.offCoord _ y a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    refine (dif_pos (show (⟨0, by omega⟩ : Fin 3) ∈ [(0 : Fin 3)] from List.mem_singleton.mpr rfl)).trans ?_
    have hsi : ∀ c : Fin 1, GatherDims.siIdx (⟨[1, 2], [0], [], [], [0], 1, ![1, A, C], wf⟩ : GatherDims ⟨3, ![N, A, C]⟩ ⟨2, ![R, 1]⟩ ⟨3, ![R, A, C]⟩) y c = ix2 (y 0) 0 := by
      intro c
      funext b; refine Fin.ext ?_
      match b with
      | ⟨0, _⟩ => rfl
      | ⟨1, _⟩ =>
        have := c.isLt
        show c.val = 0
        simpa using this
    exact congrArg (fun j => min (idx j).toInt.toNat (N - 1)) (hsi _)
  | ⟨1, _⟩ =>
    unfold GatherDims.start
    rw [dif_neg (by simp)]
    simp only [Nat.zero_add]
    unfold GatherDims.offCoord
    rw [dif_pos ((GatherDims.mem_sKept _ _).mpr ⟨by simp, by simp⟩)]
    rfl
  | ⟨2, _⟩ =>
    unfold GatherDims.start
    rw [dif_neg (by simp)]
    simp only [Nat.zero_add]
    unfold GatherDims.offCoord
    rw [dif_pos ((GatherDims.mem_sKept _ _).mpr ⟨by simp, by simp⟩)]
    rfl

/-- A word below 32 is not negative, -/
theorem not_neg (v : BitVec 32) (h : v.toNat < 32) : IntOp.cmpi .slt v 0#32 = 0#1 := by
  have hi : v.toInt = (v.toNat : ℤ) := BitVec.toInt_eq_toNat_of_lt (by omega)
  show BitVec.ofBool (decide (v.toInt < (0#32 : BitVec 32).toInt)) = 0#1
  rw [hi, decide_eq_false (by simp)]
  rfl

/-- so an index is taken as it is, -/
theorem unwrapped (v a : BitVec 32) (h : v.toNat < 32) : Scalar.select (IntOp.cmpi .slt v 0#32) a v = v := by
  rw [not_neg v h]; rfl

/-- and needs no clamp. -/
theorem unclamped (v : BitVec 32) (h : v.toNat < 32) : min v.toInt.toNat (32 - 1) = v.toNat := by
  have hi : v.toInt = (v.toNat : ℤ) := BitVec.toInt_eq_toNat_of_lt (by omega)
  rw [hi]; omega

variable (x0 : (⟨S74752x1024, .f32⟩ : BufTy).Contents (Elt Ideal)) (x1 : (⟨S292, .i32⟩ : BufTy).Contents (Elt Ideal)) (x2 : (⟨S1, .i32⟩ : BufTy).Contents (Elt Ideal))
  (x3 : (⟨S32x1024x2048, .f32⟩ : BufTy).Contents (Elt Ideal)) (x4 : (⟨S32x1x2048, .f32⟩ : BufTy).Contents (Elt Ideal))
  (x5 : (⟨S32x1024x1024, .f32⟩ : BufTy).Contents (Elt Ideal)) (x6 : (⟨S32x1x1024, .f32⟩ : BufTy).Contents (Elt Ideal))
  (hT : ∀ x, (x1 x : BitVec 32).toNat < 32)

/-- The expert block `b` names. -/
abbrev expert (b : Fin 292) : Fin 32 := ⟨(x1 (ix1 b) : BitVec 32).toNat, hT _⟩

/-- Row `r` of block `b`. -/
abbrev rowOf (b : Fin 292) (r : Fin 256) : Fin 74752 := ⟨b.val * 256 + r.val, by omega⟩

include hT

/- The four gathers' starts, -/
theorem start6 (b : Fin 292) : val_main_v6 (F := Ideal) x1 (ix2 b 0) = x1 (ix1 b) := by
  rw [val_main_v6_apply, val_main_v5_apply, val_main_v2_apply, val_main_v1_apply, val_main_c_apply]
  have e : idx_main_v6 (ix2 b 0) = ix1 b := funext fun a => Fin.ext (by match a with | ⟨0, _⟩ => rfl)
  rw [e]
  exact unwrapped _ _ (hT _)

theorem start14 (b : Fin 292) : val_main_v14 (F := Ideal) x1 (ix2 b 0) = x1 (ix1 b) := start6 x1 hT b
theorem start40 (b : Fin 292) : val_main_v40 (F := Ideal) x1 (ix2 b 0) = x1 (ix1 b) := start6 x1 hT b
theorem start48 (b : Fin 292) : val_main_v48 (F := Ideal) x1 (ix2 b 0) = x1 (ix1 b) := start6 x1 hT b

/- and what they gather: the named expert's weights and biases. -/
theorem slice7 (y : S292x1024x2048.Idx) : val_main_v7 (F := Ideal) x1 x3 y = x3 (ix3 (expert x1 hT (y 0)) (y 1) (y 2)) := by
  unfold val_main_v7
  refine (gather_slices (by decide) _ _ rfl x3 (val_main_v6 (F := Ideal) x1) y).trans ?_
  refine congrArg (fun e : Fin 32 => x3 (ix3 e (y 1) (y 2))) (Fin.ext ?_)
  show min (val_main_v6 (F := Ideal) x1 (ix2 (y 0) 0) : BitVec 32).toInt.toNat (32 - 1) = _
  exact (congrArg (fun v : BitVec 32 => min v.toInt.toNat (32 - 1)) (start6 x1 hT (y 0))).trans (unclamped _ (hT _))

theorem slice15 (y : S292x1x2048.Idx) : val_main_v15 (F := Ideal) x1 x4 y = x4 (ix3 (expert x1 hT (y 0)) (y 1) (y 2)) := by
  unfold val_main_v15
  refine (gather_slices (by decide) _ _ rfl x4 (val_main_v14 (F := Ideal) x1) y).trans ?_
  refine congrArg (fun e : Fin 32 => x4 (ix3 e (y 1) (y 2))) (Fin.ext ?_)
  exact (congrArg (fun v : BitVec 32 => min v.toInt.toNat (32 - 1)) (start14 x1 hT (y 0))).trans (unclamped _ (hT _))

theorem slice41 (y : S292x1024x1024.Idx) : val_main_v41 (F := Ideal) x1 x5 y = x5 (ix3 (expert x1 hT (y 0)) (y 1) (y 2)) := by
  unfold val_main_v41
  refine (gather_slices (by decide) _ _ rfl x5 (val_main_v40 (F := Ideal) x1) y).trans ?_
  refine congrArg (fun e : Fin 32 => x5 (ix3 e (y 1) (y 2))) (Fin.ext ?_)
  exact (congrArg (fun v : BitVec 32 => min v.toInt.toNat (32 - 1)) (start40 x1 hT (y 0))).trans (unclamped _ (hT _))

theorem slice49 (y : S292x1x1024.Idx) : val_main_v49 (F := Ideal) x1 x6 y = x6 (ix3 (expert x1 hT (y 0)) (y 1) (y 2)) := by
  unfold val_main_v49
  refine (gather_slices (by decide) _ _ rfl x6 (val_main_v48 (F := Ideal) x1) y).trans ?_
  refine congrArg (fun e : Fin 32 => x6 (ix3 e (y 1) (y 2))) (Fin.ext ?_)
  exact (congrArg (fun v : BitVec 32 => min v.toInt.toNat (32 - 1)) (start48 x1 hT (y 0))).trans (unclamped _ (hT _))

/-- The first layer, -/
theorem ref_first (i : S292x256x2048.Idx) : val_main_v17 (F := Ideal) x0 x1 x3 x4 i =
    first x0 x3 x4 (expert x1 hT (i 0)) (rowOf (i 0) (i 1)) (i 2) := by
  rw [val_main_v17_apply, val_main_v8_apply, val_main_v16_apply, slice15 x1 x4 hT]
  refine congrArg₂ (fun a b : EReal => a + b) (@Finset.sum_congr _ EReal _ _ _ _ _ rfl fun k _ => ?_) ?_
  · rw [val_main_v0_apply, slice7 x1 x3 hT]
    refine congrArg₂ (fun a b : EReal => a * b) (congrArg x0 (funext fun a => Fin.ext ?_)) rfl
    have h2 : k.val < 1024 := k.isLt
    match a with
    | ⟨0, _⟩ => show (((i 0).val * 256 + (i 1).val) * 1024 + k.val) / 1024 = (i 0).val * 256 + (i 1).val; omega
    | ⟨1, _⟩ => show (((i 0).val * 256 + (i 1).val) * 1024 + k.val) % 1024 = k.val; omega
  · rfl

/-- the hidden units, -/
theorem ref_hidden (i : S292x256x1024.Idx) : val_main_v34 (F := Ideal) x0 x1 x3 x4 i =
    unit x0 x3 x4 (expert x1 hT (i 0)) (rowOf (i 0) (i 1)) (i 2) := by
  rw [val_main_v34_apply, val_main_v24_apply, val_main_v33_apply, val_main_v32_apply, val_main_v31_apply, val_main_cst_8_apply, val_main_v30_apply,
    val_main_v29_apply, val_main_cst_7_apply, val_main_v28_apply, val_main_v27_apply, val_main_v26_apply, val_main_v25_apply, val_main_cst_6_apply,
    val_main_v23_apply, val_main_cst_5_apply, val_main_v22_apply, val_main_call0_v4_apply, val_main_call0_v3_apply, val_main_cst_4_apply,
    val_main_call0_v2_apply, val_main_call0_v1_apply, val_main_call0_v0_apply, val_main_cst_3_apply, val_main_v21_apply, val_main_v20_apply,
    val_main_cst_apply, val_main_v19_apply, val_main_v18_apply, ref_first x0 x1 x3 x4 hT, ref_first x0 x1 x3 x4 hT]
  unfold unit gated Ideal.logistic
  rw [← one_eq]
  rfl

/-- the answers, -/
theorem ref_answer (i : S292x256x1024.Idx) : val_main_v51 (F := Ideal) x0 x1 x3 x4 x5 x6 i =
    answer x0 x3 x4 x5 x6 (expert x1 hT (i 0)) (rowOf (i 0) (i 1)) (i 2) := by
  rw [val_main_v51_apply, val_main_v42_apply, val_main_v50_apply, slice49 x1 x6 hT]
  refine congrArg₂ (fun a b : EReal => a + b) (@Finset.sum_congr _ EReal _ _ _ _ _ rfl fun k _ => ?_) rfl
  rw [ref_hidden x0 x1 x3 x4 hT, slice41 x1 x5 hT]
  rfl

/-- and the whole result. -/
theorem ref_answers : val_main_v57 (F := Ideal) x0 x1 x2 x3 x4 x5 x6 = answers x0 x3 x4 x5 x6 x1 x2 hT := by
  funext i
  rw [val_main_v57_apply, val_main_v56_apply, val_main_call1_v1_apply, val_main_v55_apply, val_main_v54_apply, val_main_v52_apply, val_main_v53_apply,
    val_main_call1_v2_apply, val_main_call1_v0_apply, val_main_cst_13_apply, ref_answer x0 x1 x3 x4 x5 x6 hT]
  have h0 : (i 0).val < 74752 := (i 0).isLt
  have h1 : (i 1).val < 1024 := (i 1).isLt
  have eb : (idx_main_v57 i 0 : Fin 292) = blockOf (i 0) := Fin.ext (by
    show ((i 0).val * 1024 + (i 1).val) / 262144 = (i 0).val / 256; omega)
  have er : rowOf (idx_main_v57 i 0) (idx_main_v57 i 1) = (i 0 : Fin 74752) := Fin.ext (by
    show ((i 0).val * 1024 + (i 1).val) / 262144 * 256 + ((i 0).val * 1024 + (i 1).val) / 1024 % 256 = (i 0).val; omega)
  have ec : (idx_main_v57 i 2 : Fin 1024) = i 1 := Fin.ext (by
    show ((i 0).val * 1024 + (i 1).val) % 1024 = (i 1).val; omega)
  have en : x2 (idx_main_v53 (idx_main_v55 (idx_main_call1_v1 (idx_main_v57 i)))) = x2 (ix1 0) :=
    congrArg x2 (funext fun a => Fin.ext (by have := (idx_main_v53 (idx_main_v55 (idx_main_call1_v1 (idx_main_v57 i))) a).isLt; match a with | ⟨0, _⟩ => rfl))
  have hz : (FloatOps.ofBits (F := Ideal) .f32 0x00000000#32 : EReal) = 0 := Ideal.ofBits_zero _
  have hj : ((blockOf (i 0)).val : ℤ) = (BitVec.ofNat 32 (blockOf (i 0)).val).toInt := by
    have := (blockOf (i 0)).isLt
    rw [BitVec.toInt_eq_toNat_of_lt (by rw [BitVec.toNat_ofNat]; omega), BitVec.toNat_ofNat, Nat.mod_eq_of_lt (by omega)]
  rw [hz, en]
  unfold answers
  show Scalar.select (BitVec.ofBool (decide ((BitVec.ofNat 32 (idx_main_v57 i 0).val).toInt < (x2 (ix1 0) : BitVec 32).toInt))) _ _ = _
  rw [er, ec, eb, hj]
  by_cases h : (BitVec.ofNat 32 (blockOf (i 0)).val).toInt < (x2 (ix1 0) : BitVec 32).toInt
  · rw [decide_eq_true h, if_pos h]; rfl
  · rw [decide_eq_false h, if_neg h]; rfl

end Cert.Reference4Ideal.Exp

end
-- ==== Proof.ExpVal.lean ====
/- The experts' call computes the experts: what the body leaves in the result's blocks, entry by entry, and from it the
   whole result, against the reference's. -/
module

public import proofs.«01_k».proof.Defs
public import proofs.«01_k».proof.Proof.ExpCfg
public import proofs.«01_k».proof.Proof.ExpRef
public import proofs.«01_k».proof.Proof.ExpFrames
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat Window)

namespace Cert.Kernel4Ideal.Exp

open Cert.Kernel4Ideal Cert.Kernel4Ideal.Gen Cert.Experts

/-- The body's answer at an entry, from the blocks. -/
theorem pay3_apply (x : Vec Ideal S256x1024 .f32) (w : Vec Ideal S1x1024x2048 .f32) (b : Vec Ideal S1x1x2048 .f32) (v : Vec Ideal S1x1024x1024 .f32)
    (d : Vec Ideal S1x1x1024 .f32) (y : S256x1024.Idx) :
    k0_pay3 (F := Ideal) x (k0_pay1 (F := Ideal) w) b (k0_pay2 (F := Ideal) v) d y =
      (∑ f : Fin 1024, gated ((∑ k : Fin 1024, (x (ix2 (y 0) k) : EReal) * w (ix3 0 k ⟨f.val, by omega⟩)) + b (ix3 0 0 ⟨f.val, by omega⟩))
        ((∑ k : Fin 1024, (x (ix2 (y 0) k) : EReal) * w (ix3 0 k ⟨1024 + f.val, by omega⟩)) + b (ix3 0 0 ⟨1024 + f.val, by omega⟩)) * v (ix3 0 f (y 1)))
        + d (ix3 0 0 (y 1)) := by
  unfold k0_pay3 k0_pay1 k0_pay2 gated seven minusSeven gateSlope one
  pointwise

theorem pay4_apply (y : S256x1024.Idx) : (k0_pay4 (F := Ideal) y : EReal) = 0 := by
  unfold k0_pay4
  show Ideal.ofBits .f32 0x00000000#32 = 0
  exact Ideal.ofBits_zero _

variable (T0 : S292.Idx → Elt Ideal .i32) (T1 : S1.Idx → Elt Ideal .i32) (hT : Named T0)
variable (m : (ℓ : Loc nD τ sig) → Buf (Elt Ideal) ℓ)

/-- The expert of point `t`. -/
abbrev expertAt (t : Fin (cfgA T0 T1 hT).N) : Fin 32 := ⟨(T0 (eix (crd T0 T1 hT t 0)) : BitVec 32).toNat, hT _⟩

/- Where the blocks stand: the rows by the point, the weights and biases by its expert. -/
theorem blk0_at (c : Dev nD) (t : Fin (cfgA T0 T1 hT).N) (hu : used T1 t.val) (y : S256x1024.Idx) (h : t.val * 256 + (y 0).val < 74752) :
    iblk T0 T1 hT m c (0 : Fin 6) t y = m ((c : Thread nD τ).loc main_arg0) (ix2 ⟨t.val * 256 + (y 0).val, h⟩ (y 1)) := by
  have hv : (crd T0 T1 hT t 0).val = t.val := crd_val t
  have hi : ((cfgA T0 T1 hT).win (0 : Fin 6)).index t = ![t.val, 0] := by
    refine (map0 (crd T0 T1 hT t) T0 T1 _ _).trans ?_
    rw [rowBlk_used T1 (crd T0 T1 hT t 0) (hv.symm ▸ hu), hv]
  refine congrArg (m ((c : Thread nD τ).loc main_arg0)) (funext fun a => Fin.ext ?_)
  refine (Window.rect_emb_val ((cfgA T0 T1 hT).win (0 : Fin 6)) t y a).trans ?_
  rw [hi]
  match a with
  | ⟨0, _⟩ => rfl
  | ⟨1, _⟩ => show 0 * 1024 + (y 1).val = (y 1).val; omega

theorem blk1_at (c : Dev nD) (t : Fin (cfgA T0 T1 hT).N) (y : S1x1024x2048.Idx) :
    iblk T0 T1 hT m c (1 : Fin 6) t y = m ((c : Thread nD τ).loc main_arg3) (ix3 (expertAt T0 T1 hT t) (y 1) (y 2)) := by
  refine congrArg (m ((c : Thread nD τ).loc main_arg3)) (funext fun a => Fin.ext ?_)
  refine (Window.rect_emb_val ((cfgA T0 T1 hT).win (1 : Fin 6)) t y a).trans ?_
  rw [show ((cfgA T0 T1 hT).win (1 : Fin 6)).index t = _ from map1 (crd T0 T1 hT t) T0 T1 _ _]
  have h0 : (y 0).val < 1 := (y 0).isLt
  match a with
  | ⟨0, _⟩ => show (T0 (eix (crd T0 T1 hT t 0)) : BitVec 32).toNat * 1 + (y 0).val = _; rw [Nat.lt_one_iff.mp h0]; exact Nat.mul_one _
  | ⟨1, _⟩ => show 0 * 1024 + (y 1).val = (y 1).val; omega
  | ⟨2, _⟩ => show 0 * 2048 + (y 2).val = (y 2).val; omega

theorem blk2_at (c : Dev nD) (t : Fin (cfgA T0 T1 hT).N) (y : S1x1x2048.Idx) :
    iblk T0 T1 hT m c (2 : Fin 6) t y = m ((c : Thread nD τ).loc main_arg4) (ix3 (expertAt T0 T1 hT t) (y 1) (y 2)) := by
  refine congrArg (m ((c : Thread nD τ).loc main_arg4)) (funext fun a => Fin.ext ?_)
  refine (Window.rect_emb_val ((cfgA T0 T1 hT).win (2 : Fin 6)) t y a).trans ?_
  rw [show ((cfgA T0 T1 hT).win (2 : Fin 6)).index t = _ from map2 (crd T0 T1 hT t) T0 T1 _ _]
  have h0 : (y 0).val < 1 := (y 0).isLt
  match a with
  | ⟨0, _⟩ => show (T0 (eix (crd T0 T1 hT t 0)) : BitVec 32).toNat * 1 + (y 0).val = _; rw [Nat.lt_one_iff.mp h0]; exact Nat.mul_one _
  | ⟨1, _⟩ => show 0 * 1 + (y 1).val = (y 1).val; omega
  | ⟨2, _⟩ => show 0 * 2048 + (y 2).val = (y 2).val; omega

theorem blk3_at (c : Dev nD) (t : Fin (cfgA T0 T1 hT).N) (y : S1x1024x1024.Idx) :
    iblk T0 T1 hT m c (3 : Fin 6) t y = m ((c : Thread nD τ).loc main_arg5) (ix3 (expertAt T0 T1 hT t) (y 1) (y 2)) := by
  refine congrArg (m ((c : Thread nD τ).loc main_arg5)) (funext fun a => Fin.ext ?_)
  refine (Window.rect_emb_val ((cfgA T0 T1 hT).win (3 : Fin 6)) t y a).trans ?_
  rw [show ((cfgA T0 T1 hT).win (3 : Fin 6)).index t = _ from map3 (crd T0 T1 hT t) T0 T1 _ _]
  have h0 : (y 0).val < 1 := (y 0).isLt
  match a with
  | ⟨0, _⟩ => show (T0 (eix (crd T0 T1 hT t 0)) : BitVec 32).toNat * 1 + (y 0).val = _; rw [Nat.lt_one_iff.mp h0]; exact Nat.mul_one _
  | ⟨1, _⟩ => show 0 * 1024 + (y 1).val = (y 1).val; omega
  | ⟨2, _⟩ => show 0 * 1024 + (y 2).val = (y 2).val; omega

theorem blk4_at (c : Dev nD) (t : Fin (cfgA T0 T1 hT).N) (y : S1x1x1024.Idx) :
    iblk T0 T1 hT m c (4 : Fin 6) t y = m ((c : Thread nD τ).loc main_arg6) (ix3 (expertAt T0 T1 hT t) (y 1) (y 2)) := by
  refine congrArg (m ((c : Thread nD τ).loc main_arg6)) (funext fun a => Fin.ext ?_)
  refine (Window.rect_emb_val ((cfgA T0 T1 hT).win (4 : Fin 6)) t y a).trans ?_
  rw [show ((cfgA T0 T1 hT).win (4 : Fin 6)).index t = _ from map4 (crd T0 T1 hT t) T0 T1 _ _]
  have h0 : (y 0).val < 1 := (y 0).isLt
  match a with
  | ⟨0, _⟩ => show (T0 (eix (crd T0 T1 hT t 0)) : BitVec 32).toNat * 1 + (y 0).val = _; rw [Nat.lt_one_iff.mp h0]; exact Nat.mul_one _
  | ⟨1, _⟩ => show 0 * 1 + (y 1).val = (y 1).val; omega
  | ⟨2, _⟩ => show 0 * 1024 + (y 2).val = (y 2).val; omega

/-- The experts' answers on these arguments. -/
abbrev wanted (c : Dev nD) : S74752x1024.Idx → EReal :=
  answers (m ((c : Thread nD τ).loc main_arg0)) (m ((c : Thread nD τ).loc main_arg3)) (m ((c : Thread nD τ).loc main_arg4))
    (m ((c : Thread nD τ).loc main_arg5)) (m ((c : Thread nD τ).loc main_arg6)) T0 T1 hT

/-- What the body leaves at point `t` is the answers of that block's rows. -/
theorem left_at (c : Dev nD) (t : Fin (cfgA T0 T1 hT).N) (y : S256x1024.Idx) (h : t.val * 256 + (y 0).val < 74752) :
    left T0 T1 hT m c t y = wanted T0 T1 hT m c (ix2 ⟨t.val * 256 + (y 0).val, h⟩ (y 1)) := by
  have h0 : (y 0).val < 256 := (y 0).isLt
  have ht : t.val < 292 := t.isLt
  have hv : (crd T0 T1 hT t 0).val = t.val := crd_val t
  have hb : blockOf ⟨t.val * 256 + (y 0).val, h⟩ = (⟨t.val, ht⟩ : Fin 292) := Fin.ext (by
    show (t.val * 256 + (y 0).val) / 256 = t.val; omega)
  have hn : (ix1 0 : S1.Idx) = nix := (nix_ext _).symm ▸ rfl
  unfold wanted answers left
  show _ = if ((blockOf ⟨t.val * 256 + (y 0).val, h⟩).val : ℤ) < (T1 (ix1 0) : BitVec 32).toInt then _ else _
  rw [hb, hn]
  by_cases hu : used T1 t.val
  · rw [if_pos hu, if_pos (show ((t.val : ℕ) : ℤ) < (T1 nix : BitVec 32).toInt from hu)]
    refine (pay3_apply _ _ _ _ _ y).trans ?_
    have he : (expertAt T0 T1 hT t : Fin 32) = ⟨(T0 (ix1 (blockOf ⟨t.val * 256 + (y 0).val, h⟩)) : BitVec 32).toNat, hT _⟩ := Fin.ext (by
      show (T0 (eix (crd T0 T1 hT t 0)) : BitVec 32).toNat = (T0 (ix1 (blockOf _)) : BitVec 32).toNat
      rw [hb]
      exact congrArg (fun x => (T0 x : BitVec 32).toNat) (((eix_ext (ix1 ⟨t.val, ht⟩) _ hv.symm)).symm))
    refine Eq.trans ?_ (congrArg (fun e => answer (m ((c : Thread nD τ).loc main_arg0)) (m ((c : Thread nD τ).loc main_arg3)) (m ((c : Thread nD τ).loc main_arg4))
      (m ((c : Thread nD τ).loc main_arg5)) (m ((c : Thread nD τ).loc main_arg6)) e ⟨t.val * 256 + (y 0).val, h⟩ (y 1)) he)
    exact answer_of
      (fun f => first_of (fun k => blk0_at T0 T1 hT m c t hu (ix2 (y 0) k) h) (fun k => blk1_at T0 T1 hT m c t (ix3 0 k ⟨f.val, by omega⟩))
        (blk2_at T0 T1 hT m c t (ix3 0 0 ⟨f.val, by omega⟩)))
      (fun f => first_of (fun k => blk0_at T0 T1 hT m c t hu (ix2 (y 0) k) h) (fun k => blk1_at T0 T1 hT m c t (ix3 0 k ⟨1024 + f.val, by omega⟩))
        (blk2_at T0 T1 hT m c t (ix3 0 0 ⟨1024 + f.val, by omega⟩)))
      (fun f => blk3_at T0 T1 hT m c t (ix3 0 f (y 1))) (blk4_at T0 T1 hT m c t (ix3 0 0 (y 1)))
  · rw [if_neg hu, if_neg (show ¬((t.val : ℕ) : ℤ) < (T1 nix : BitVec 32).toInt from hu)]
    exact pay4_apply y

/-- The result's blocks cover it. -/
theorem covers5 : ((cfgA T0 T1 hT).win (5 : Fin 6)).Covers := by
  have hix : ∀ t : Fin grid0.N, cc0_transform_5 (grid0.coords t) = ![t.val, 0] := by decide +kernel
  refine ⟨fun a => ?_, fun β => ?_⟩
  · match a with
    | ⟨0, _⟩ => show 0 < 256; decide
    | ⟨1, _⟩ => show 0 < 1024; decide
  · have h0 : (β 0).val < 292 := Nat.lt_of_lt_of_eq (β 0).isLt (show (74752 + 256 - 1) / 256 = 292 by decide)
    have h1 : (β 1).val < 1 := Nat.lt_of_lt_of_eq (β 1).isLt (show (1024 + 1024 - 1) / 1024 = 1 by decide)
    refine ⟨⟨(β 0).val, h0⟩, flush5 T0 T1 hT _, fun a => ⟨?_, .inl rfl⟩⟩
    rw [show ((cfgA T0 T1 hT).win (5 : Fin 6)).index ⟨(β 0).val, h0⟩ = _ from hix ⟨(β 0).val, h0⟩]
    match a with
    | ⟨0, _⟩ => rfl
    | ⟨1, _⟩ => show 0 = (β 1).val; omega

/-- The result after the run. -/
theorem final5 (c : Dev nD) : (dats T0 T1 hT m 0 c).arrAt (5 : Fin 6) (cfgA T0 T1 hT).N = wanted T0 T1 hT m c := by
  have hix : ∀ t : Fin grid0.N, cc0_transform_5 (grid0.coords t) = ![t.val, 0] := by decide +kernel
  refine (dats T0 T1 hT m 0 c).arrAt_eq_of_covers (5 : Fin 6) _ (covers5 T0 T1 hT) fun t hf y => ?_
  have hy : (y 0).val < 256 := (y 0).isLt
  have ht : t.val < 292 := t.isLt
  show left T0 T1 hT m c t y = _
  refine (left_at T0 T1 hT m c t y (by omega)).trans (congrArg (wanted T0 T1 hT m c) (funext fun a => Fin.ext ?_))
  refine Eq.trans ?_ (Window.rect_emb_val ((cfgA T0 T1 hT).win (5 : Fin 6)) t y a).symm
  rw [show ((cfgA T0 T1 hT).win (5 : Fin 6)).index t = _ from hix t]
  match a with
  | ⟨0, _⟩ => rfl
  | ⟨1, _⟩ => show (y 1).val = 0 * 1024 + (y 1).val; omega

variable {m}

/-- The run, with what it leaves. -/
theorem run_left (hpre : Cert.Pre_Kernel4Ideal (hPre_experts_named := named_facts) m) (g : Dev nD → PrngReg) :
    θ_run (defs (F := Ideal)) (onTc (τ := τ) (main (F := Ideal))) ⟨m, fun _ => 0, g⟩ fun r => ∀ c : Dev nD,
      r.2.mem ((c.tc : Thread nD τ).loc main_v0) = wanted (m ((c : Thread nD τ).loc main_arg1)) (m ((c : Thread nD τ).loc main_arg2)) (frame_named hpre c) m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
    obtain rfl : c = frameDev := Subsingleton.elim _ _
    exact ⟨((h.1 frameDev).1 (5 : Fin 6)).trans (final5 _ _ (frame_named hpre frameDev) m frameDev), args_kept _ _ (frame_named hpre frameDev) m (frame_at frameDev) h.1 frameDev⟩)
    (run_quiescent _ _ (frame_named hpre frameDev) m g (frame_at frameDev))

/-- The call and the reference return one array. -/
theorem algebraic : Cert.algebraic_Kernel4Ideal_Reference4Ideal (hPre_experts_named := named_facts) := by
  pair_intro
  · run_from run_left hpre g
  · run_from Cert.Reference4Ideal.Value.run m' g'
    obtain ⟨a0, a1, a2, a3, a4, a5, a6⟩ := hagree c
    rw [Cert.Reference4Ideal.Read.val_main_v57_eq, a0, a1, a2, a3, a4, a5, a6]
    exact Cert.Reference4Ideal.Exp.ref_answers _ _ _ _ _ _ _ (frame_named hpre c)

end Cert.Kernel4Ideal.Exp

end
-- ==== Proof.lean ====
/- Everything the certificate claims: the programs' facts, their runs, the rewrite, and the value claims, each proved in a
   module of its own. -/
module

public import proofs.«01_k».proof.Defs
public import proofs.«01_k».proof.Proof.Gen.Kernel
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4.Skeleton
public import proofs.«01_k».proof.Proof.Gen.Kernel4.Launch
public import proofs.«01_k».proof.Proof.Gen.Reference4Ideal
public import proofs.«01_k».proof.Proof.Gen.Reference4Ideal.Run
public import proofs.«01_k».proof.Proof.Gen.Reference4Ideal.Read
public import proofs.«01_k».proof.Proof.Frames
public import proofs.«01_k».proof.Proof.PromptProj
public import proofs.«01_k».proof.Proof.SampleProj
public import proofs.«01_k».proof.Proof.SbEq
public import proofs.«01_k».proof.Proof.ExpFrames
public import proofs.«01_k».proof.Proof.ExpVal

@[expose] public section

noncomputable section

namespace Cert.Proof

open Idealize.ShloMosaic Idealize.SL.Sem

/-- The conjuncts stand in the order of the claims: each program's facts and runs, then, program by program, what its
    idealization preserves and the value it computes. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.KernelIdeal.Sb.finite_facts, Cert.Experts.named_facts,
    Frames.kernel, Frames.kernelIdeal, Frames.kernelIdeal_finite _, Frames.referenceIdeal, Frames.referenceIdeal_finite _,
    Frames.kernel2, Frames.kernel2Ideal, Frames.reference2Ideal,
    Frames.kernel3, Frames.kernel3Ideal, Frames.reference3Ideal,
    Cert.Kernel4.Exp.frame, Cert.Kernel4Ideal.Exp.frame, Cert.Reference4Ideal.Exp.frame, Cert.Reference4Ideal.Exp.frame_pre,
    Frames.preserves, Cert.KernelIdeal.Sb.algebraic,
    trivial, Cert.Kernel2Ideal.Proj.algebraic,
    trivial, Cert.Kernel3Ideal.Proj.algebraic,
    trivial, Cert.Kernel4Ideal.Exp.algebraic⟩

end Cert.Proof

end
